-- ==== Defs.lean ====
def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernelIdeal : Cert.KernelIdeal.Facts) (hReferenceIdeal : Cert.ReferenceIdeal.Facts),
    quiescent_KernelIdeal (hKernelIdeal := hKernelIdeal)
    ∧ quiescent_ReferenceIdeal (hReferenceIdeal := hReferenceIdeal)
    ∧ algebraic_KernelIdeal_ReferenceIdeal (hKernelIdeal := hKernelIdeal) (hReferenceIdeal := hReferenceIdeal)
-- ==== KernelIdeal.lean ====
abbrev S4x1024x4096 : Shape := ⟨3, ![4, 1024, 4096]⟩
abbrev S1x1024x1 : Shape := ⟨3, ![1, 1024, 1]⟩
abbrev S3072x1024 : Shape := ⟨2, ![3072, 1024]⟩
abbrev S64x1024 : Shape := ⟨2, ![64, 1024]⟩
abbrev S64 : Shape := ⟨1, ![64]⟩
abbrev S64x4096x64 : Shape := ⟨3, ![64, 4096, 64]⟩
abbrev S4x1x16x64 : Shape := ⟨4, ![4, 1, 16, 64]⟩
abbrev S1x1024x512 : Shape := ⟨3, ![1, 1024, 512]⟩
abbrev S16x512x64 : Shape := ⟨3, ![16, 512, 64]⟩
abbrev S1x1x16x64 : Shape := ⟨4, ![1, 1, 16, 64]⟩
abbrev S1024x512 : Shape := ⟨2, ![1024, 512]⟩
abbrev S1024x1 : Shape := ⟨2, ![1024, 1]⟩
abbrev S512 : Shape := ⟨1, ![512]⟩
abbrev S1x512 : Shape := ⟨2, ![1, 512]⟩
abbrev S512x3072 : Shape := ⟨2, ![512, 3072]⟩
abbrev S3072x32 : Shape := ⟨2, ![3072, 32]⟩
abbrev S512x32 : Shape := ⟨2, ![512, 32]⟩
abbrev S64x64 : Shape := ⟨2, ![64, 64]⟩
abbrev S512x64 : Shape := ⟨2, ![512, 64]⟩
abbrev S512x1 : Shape := ⟨2, ![512, 1]⟩
abbrev S1x512x64 : Shape := ⟨3, ![1, 512, 64]⟩
abbrev S64x512 : Shape := ⟨2, ![64, 512]⟩
abbrev S1x64x512 : Shape := ⟨3, ![1, 64, 512]⟩
abbrev S1x64 : Shape := ⟨2, ![1, 64]⟩
abbrev S16x64 : Shape := ⟨2, ![16, 64]⟩
abbrev S64x8x512 : Shape := ⟨3, ![64, 8, 512]⟩
abbrev S1x64x4096 : Shape := ⟨3, ![1, 64, 4096]⟩
abbrev S1x8x512 : Shape := ⟨3, ![1, 8, 512]⟩
abbrev S1x1x1x64 : Shape := ⟨4, ![1, 1, 1, 64]⟩
abbrev S64x4096 : Shape := ⟨2, ![64, 4096]⟩
abbrev S8x512 : Shape := ⟨2, ![8, 512]⟩
abbrev S64x1x64 : Shape := ⟨3, ![64, 1, 64]⟩
abbrev S64x1x1 : Shape := ⟨3, ![64, 1, 1]⟩
abbrev S64x16x64 : Shape := ⟨3, ![64, 16, 64]⟩
abbrev S16x64x64 : Shape := ⟨3, ![16, 64, 64]⟩
abbrev S1x64x1 : Shape := ⟨3, ![1, 64, 1]⟩
abbrev S4096 : Shape := ⟨1, ![4096]⟩
abbrev S4x64x4096 : Shape := ⟨3, ![4, 64, 4096]⟩
abbrev S1x4096x64 : Shape := ⟨3, ![1, 4096, 64]⟩
abbrev S1x64x64 : Shape := ⟨3, ![1, 64, 64]⟩
abbrev S1 : Shape := ⟨1, ![1]⟩
abbrev S1x1x64 : Shape := ⟨3, ![1, 1, 64]⟩
abbrev S4096x64 : Shape := ⟨2, ![4096, 64]⟩
abbrev S1x4096 : Shape := ⟨2, ![1, 4096]⟩
abbrev S64x1 : Shape := ⟨2, ![64, 1]⟩

abbrev nBuf : Space → Nat
  | .hbm => 17
  | .vmem => 36
  | .smem => 1
  | _ => 0

abbrev bufTy : (tb : Table) → Fin (tcTables nBuf tb) → BufTy
  | .hbm, ⟨0, _⟩ => ⟨S4x1024x4096, .f32⟩
  | .hbm, ⟨1, _⟩ => ⟨S1x1024x1, .f32⟩
  | .hbm, ⟨2, _⟩ => ⟨S1x1024x1, .f32⟩
  | .hbm, ⟨3, _⟩ => ⟨S3072x1024, .f32⟩
  | .hbm, ⟨4, _⟩ => ⟨S64x1024, .f32⟩
  | .hbm, ⟨5, _⟩ => ⟨S64, .f32⟩
  | .hbm, ⟨6, _⟩ => ⟨S64x4096x64, .f32⟩
  | .hbm, ⟨7, _⟩ => ⟨S64x4096x64, .f32⟩
  | .hbm, ⟨8, _⟩ => ⟨S64x4096x64, .f32⟩
  | .hbm, ⟨9, _⟩ => ⟨S4x1024x4096, .f32⟩
  | .hbm, ⟨10, _⟩ => ⟨S4x1x16x64, .f32⟩
  | .hbm, ⟨11, _⟩ => ⟨S64x8x512, .f32⟩
  | .hbm, ⟨12, _⟩ => ⟨S64x1x64, .i32⟩
  | .hbm, ⟨13, _⟩ => ⟨S64x16x64, .f32⟩
  | .hbm, ⟨14, _⟩ => ⟨S16x64x64, .f32⟩
  | .hbm, ⟨15, _⟩ => ⟨S1x64x1, .f32⟩
  | .hbm, ⟨16, _⟩ => ⟨S4x64x4096, .f32⟩
  | .local _ .vmem, ⟨0, _⟩ => ⟨S1x1024x512, .f32⟩
  | .local _ .vmem, ⟨1, _⟩ => ⟨S1x1024x512, .f32⟩
  | .local _ .vmem, ⟨2, _⟩ => ⟨S1x1024x1, .f32⟩
  | .local _ .vmem, ⟨3, _⟩ => ⟨S1x1024x1, .f32⟩
  | .local _ .vmem, ⟨4, _⟩ => ⟨S3072x1024, .f32⟩
  | .local _ .vmem, ⟨5, _⟩ => ⟨S16x512x64, .f32⟩
  | .local _ .vmem, ⟨6, _⟩ => ⟨S16x512x64, .f32⟩
  | .local _ .vmem, ⟨7, _⟩ => ⟨S16x512x64, .f32⟩
  | .local _ .vmem, ⟨8, _⟩ => ⟨S16x512x64, .f32⟩
  | .local _ .vmem, ⟨9, _⟩ => ⟨S16x512x64, .f32⟩
  | .local _ .vmem, ⟨10, _⟩ => ⟨S16x512x64, .f32⟩
  | .local _ .vmem, ⟨11, _⟩ => ⟨S1x1024x512, .f32⟩
  | .local _ .vmem, ⟨12, _⟩ => ⟨S1x1024x512, .f32⟩
  | .local _ .vmem, ⟨13, _⟩ => ⟨S1x1x16x64, .f32⟩
  | .local _ .vmem, ⟨14, _⟩ => ⟨S1x1x16x64, .f32⟩
  | .local _ .vmem, ⟨15, _⟩ => ⟨S1x1x16x64, .f32⟩
  | .local _ .vmem, ⟨16, _⟩ => ⟨S1x1x16x64, .f32⟩
  | .local _ .vmem, ⟨17, _⟩ => ⟨S1x64x4096, .f32⟩
  | .local _ .vmem, ⟨18, _⟩ => ⟨S1x64x4096, .f32⟩
  | .local _ .vmem, ⟨19, _⟩ => ⟨S1x8x512, .f32⟩
  | .local _ .vmem, ⟨20, _⟩ => ⟨S1x8x512, .f32⟩
  | .local _ .vmem, ⟨21, _⟩ => ⟨S64x8x512, .f32⟩
  | .local _ .vmem, ⟨22, _⟩ => ⟨S64x1x64, .i32⟩
  | .local _ .vmem, ⟨23, _⟩ => ⟨S1x4096x64, .f32⟩
  | .local _ .vmem, ⟨24, _⟩ => ⟨S1x4096x64, .f32⟩
  | .local _ .vmem, ⟨25, _⟩ => ⟨S1x4096x64, .f32⟩
  | .local _ .vmem, ⟨26, _⟩ => ⟨S1x4096x64, .f32⟩
  | .local _ .vmem, ⟨27, _⟩ => ⟨S1x4096x64, .f32⟩
  | .local _ .vmem, ⟨28, _⟩ => ⟨S1x4096x64, .f32⟩
  | .local _ .vmem, ⟨29, _⟩ => ⟨S1x64x64, .f32⟩
  | .local _ .vmem, ⟨30, _⟩ => ⟨S1x64x64, .f32⟩
  | .local _ .vmem, ⟨31, _⟩ => ⟨S1x64x1, .f32⟩
  | .local _ .vmem, ⟨32, _⟩ => ⟨S1x64x4096, .f32⟩
  | .local _ .vmem, ⟨33, _⟩ => ⟨S1x64x4096, .f32⟩
  | .local _ .vmem, ⟨34, _⟩ => ⟨S64x64, .f32⟩
  | .local _ .vmem, ⟨35, _⟩ => ⟨S64x64, .f32⟩
  | .local _ .smem, ⟨0, _⟩ => ⟨S4096, .i32⟩
  | _, _ => ⟨S4x1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v7 : Ref sig .tc := ⟨.hbm, 16, rfl⟩
abbrev main_v6 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc2_stg0_0 : Ref sig .tc := ⟨.vmem, 21, rfl⟩
abbrev cc2_stg1_0 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg3_1 : Ref sig .tc := ⟨.vmem, 30, rfl⟩
abbrev cc3_stg4_0 : Ref sig .tc := ⟨.vmem, 31, rfl⟩
abbrev cc3_stg5_0 : Ref sig .tc := ⟨.vmem, 32, rfl⟩
abbrev cc3_stg5_1 : Ref sig .tc := ⟨.vmem, 33, rfl⟩
abbrev cc3_scratch0 : Ref sig .tc := ⟨.vmem, 34, rfl⟩
abbrev cc3_scratch1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc2_sem0_0 : DmaSem sig := 21
abbrev cc2_sem1_0 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28
abbrev cc3_sem3_0 : DmaSem sig := 29
abbrev cc3_sem3_1 : DmaSem sig := 30
abbrev cc3_sem4_0 : DmaSem sig := 31
abbrev cc3_sem5_0 : DmaSem sig := 32
abbrev cc3_sem5_1 : DmaSem sig := 33

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32_218 : BitVec 32 := 0#32
  let v490 : BitVec 1 := Scalar.cmpi .eq arg1 c0_i32_218
  let v491 : BitVec 32 := Scalar.extui v490
  let c0_i32_219 : BitVec 32 := 0#32
  let v492 : BitVec 1 := Scalar.cmpi .ne v491 c0_i32_219
  v492

def k0_cond2 (i : grid0.Coords) : BitVec 1 :=
  let arg1 : BitVec 32 := BitVec.ofNat 32 (i 1).val
  let c0_i32_220 : BitVec 32 := 0#32
  let v493 : BitVec 1 := Scalar.cmpi .sgt arg1 c0_i32_220
  let v494 : BitVec 32 := Scalar.extui v493
  let c0_i32_221 : BitVec 32 := 0#32
  let v495 : BitVec 1 := Scalar.cmpi .ne v494 c0_i32_221
  v495

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3072x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S16x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S16x512x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x16x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev grid1 : Pipeline.Grid := ⟨2, ![4, 16], ![false, false]⟩

def k1_off1 (i : grid1.Coords) : Fin 4 → Nat :=
  let c0 : Index := 0#32
  let c0_0 : Index := 0#32
  let arg1 : BitVec 32 := BitVec.ofNat 32 (i 1).val
  let v0 : Index := Scalar.indexCast arg1
  let c0_1 : Index := 0#32
  ![0, 0, v0.toNat, 0]
def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage1_0 : Fin 2 → Memref sig .tc .vmem S1x1x16x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x64x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x8x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨1, ![1], ![false]⟩

@[reducible] def k2_t1_loop : Scf.Loop 32 :=
  let c0_i32_2 : BitVec 32 := 0#32
  let c64_i32 : BitVec 32 := 64#32
  let v9 : BitVec 32 := Scalar.addi c0_i32_2 c64_i32
  let c1_i32 : BitVec 32 := 1#32
  ⟨c0_i32_2, v9, c1_i32⟩
def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage2_0 : Fin 1 → Memref sig .tc .vmem S64x8x512 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S64x1x64 .i32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev grid3 : Pipeline.Grid := ⟨2, ![4, 16], ![false, false]⟩

abbrev pre3 : Pipeline.Prefetch sig := ⟨1, ![main_v6.idx], fun | 0 => main_v6.names | ⟨_ + 1, h⟩ => absurd h (Nat.not_lt.2 (Nat.le_add_left _ _)), fun | 0 => rfl | ⟨_ + 1, h⟩ => absurd h (Nat.not_lt.2 (Nat.le_add_left _ _))⟩

@[reducible] def k3_t1_loop : Scf.Loop 32 :=
  let c0_i32 : BitVec 32 := 0#32
  let c64_i32 : BitVec 32 := 64#32
  let v2 : BitVec 32 := Scalar.addi c0_i32 c64_i32
  let c1_i32 : BitVec 32 := 1#32
  ⟨c0_i32, v2, c1_i32⟩
def k3_off1 (i : grid3.Coords) (k3_t1 : Fin k3_t1_loop.trips) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c64_i32_19 : BitVec 32 := 64#32
  let v30 : BitVec 32 := Scalar.muli v1 c64_i32_19
  let c0_i32 : BitVec 32 := 0#32
  let c1_i32 : BitVec 32 := 1#32
  let arg11 : BitVec 32 := Scf.iv c0_i32 c1_i32 k3_t1
  let v31 : BitVec 32 := Scalar.addi v30 arg11
  let v32 : Index := Scalar.indexCast v31
  ![v32.toNat]
def k3_off2 (v33 : BitVec 32) : Fin 3 → Nat :=
  let c0_20 : Index := 0#32
  let v34 : Index := Scalar.indexCast v33
  let c0_21 : Index := 0#32
  ![0, v34.toNat, 0]

def k3_chk1 (v33 : BitVec 32) : Prop :=
  (∀ a, (k3_off2 v33) a + S1x1x64.size a ≤ S1x4096x64.size a)
theorem k3_off2_inb : ∀ (v33 : BitVec 32) (k3_hw1 : k3_chk1 v33), ∀ a, (k3_off2 v33) a + S1x1x64.size a ≤ S1x4096x64.size a := fun v33 k3_hw1 => k3_hw1

def k3_off3 (k3_t1 : Fin k3_t1_loop.trips) : Fin 2 → Nat :=
  let c0_i32 : BitVec 32 := 0#32
  let c1_i32 : BitVec 32 := 1#32
  let arg11 : BitVec 32 := Scf.iv c0_i32 c1_i32 k3_t1
  let v37 : Index := Scalar.indexCast arg11
  let c0_22 : Index := 0#32
  ![v37.toNat, 0]
def k3_cond1 (i : grid3.Coords) : BitVec 1 :=
  let arg1 : BitVec 32 := BitVec.ofNat 32 (i 1).val
  let c0_i32_14 : BitVec 32 := 0#32
  let v21 : BitVec 1 := Scalar.cmpi .eq arg1 c0_i32_14
  let v22 : BitVec 32 := Scalar.extui v21
  let c0_i32_15 : BitVec 32 := 0#32
  let v23 : BitVec 1 := Scalar.cmpi .ne v22 c0_i32_15
  v23

def k3_cond2 (i : grid3.Coords) : BitVec 1 :=
  let arg1 : BitVec 32 := BitVec.ofNat 32 (i 1).val
  let c0_i32_16 : BitVec 32 := 0#32
  let v24 : BitVec 1 := Scalar.cmpi .sgt arg1 c0_i32_16
  let v25 : BitVec 32 := Scalar.extui v24
  let c0_i32_17 : BitVec 32 := 0#32
  let v26 : BitVec 1 := Scalar.cmpi .ne v25 c0_i32_17
  v26

def k3_cond3 (i : grid3.Coords) : BitVec 1 :=
  let arg1 : BitVec 32 := BitVec.ofNat 32 (i 1).val
  let c15_i32 : BitVec 32 := 15#32
  let v27 : BitVec 1 := Scalar.cmpi .eq arg1 c15_i32
  let v28 : BitVec 32 := Scalar.extui v27
  let c0_i32_18 : BitVec 32 := 0#32
  let v29 : BitVec 1 := Scalar.cmpi .ne v28 c0_i32_18
  v29

def cc3_transform_0 (i : grid3.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc3_transform_1 (i : grid3.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc3_transform_4 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_5 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x4096x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x4096x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1x4096x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1x64x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![false, true]

abbrev stage3_4 : Fin 1 → Memref sig .tc .vmem S1x64x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 2 → Memref sig .tc .vmem S1x64x4096 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, false]
-- ==== ReferenceIdeal.lean ====
abbrev S4x1024x4096 : Shape := ⟨3, ![4, 1024, 4096]⟩
abbrev S1x1024x1 : Shape := ⟨3, ![1, 1024, 1]⟩
abbrev S3072x1024 : Shape := ⟨2, ![3072, 1024]⟩
abbrev S64x1024 : Shape := ⟨2, ![64, 1024]⟩
abbrev S64 : Shape := ⟨1, ![64]⟩
abbrev S_ : Shape := ⟨0, ![]⟩
abbrev S4x4096 : Shape := ⟨2, ![4, 4096]⟩
abbrev S4x1x4096 : Shape := ⟨3, ![4, 1, 4096]⟩
abbrev S4x4096x3072 : Shape := ⟨3, ![4, 4096, 3072]⟩
abbrev S4x3072x4096 : Shape := ⟨3, ![4, 3072, 4096]⟩
abbrev S4x16x64x4096 : Shape := ⟨4, ![4, 16, 64, 4096]⟩
abbrev S64x64x4096 : Shape := ⟨3, ![64, 64, 4096]⟩
abbrev S64x4096 : Shape := ⟨2, ![64, 4096]⟩
abbrev S64x1x4096 : Shape := ⟨3, ![64, 1, 4096]⟩
abbrev S64x64 : Shape := ⟨2, ![64, 64]⟩
abbrev S64x1x64 : Shape := ⟨3, ![64, 1, 64]⟩
abbrev S64x64x64 : Shape := ⟨3, ![64, 64, 64]⟩
abbrev S64x64x64x1 : Shape := ⟨4, ![64, 64, 64, 1]⟩
abbrev S1 : Shape := ⟨1, ![1]⟩
abbrev S1x1x1x1 : Shape := ⟨4, ![1, 1, 1, 1]⟩
abbrev S64x4096x64 : Shape := ⟨3, ![64, 4096, 64]⟩
abbrev S64x4096x1 : Shape := ⟨3, ![64, 4096, 1]⟩
abbrev S4x16x4096x64 : Shape := ⟨4, ![4, 16, 4096, 64]⟩
abbrev S4x4096x64 : Shape := ⟨3, ![4, 4096, 64]⟩
abbrev S4x64x4096 : Shape := ⟨3, ![4, 64, 4096]⟩
abbrev S1x64x1 : Shape := ⟨3, ![1, 64, 1]⟩

abbrev nBuf : Space → Nat
  | .hbm => 159
  | .vmem => 0
  | .smem => 0
  | _ => 0

abbrev hbmTy0_0 (i : Nat) : BufTy := match i % 128 with
  | 0 => ⟨S4x1024x4096, .f32⟩
  | 1 => ⟨S1x1024x1, .f32⟩
  | 2 => ⟨S1x1024x1, .f32⟩
  | 3 => ⟨S3072x1024, .f32⟩
  | 4 => ⟨S64x1024, .f32⟩
  | 5 => ⟨S64, .f32⟩
  | 6 => ⟨S_, .i32⟩
  | 7 => ⟨S_, .f32⟩
  | 8 => ⟨S4x4096, .f32⟩
  | 9 => ⟨S4x1x4096, .f32⟩
  | 10 => ⟨S_, .f32⟩
  | 11 => ⟨S4x1x4096, .f32⟩
  | 12 => ⟨S4x1x4096, .f32⟩
  | 13 => ⟨S4x1024x4096, .f32⟩
  | 14 => ⟨S4x1024x4096, .f32⟩
  | 15 => ⟨S4x1024x4096, .f32⟩
  | 16 => ⟨S_, .f32⟩
  | 17 => ⟨S_, .f32⟩
  | 18 => ⟨S_, .f32⟩
  | 19 => ⟨S_, .f32⟩
  | 20 => ⟨S4x4096, .f32⟩
  | 21 => ⟨S4x1x4096, .f32⟩
  | 22 => ⟨S4x1x4096, .f32⟩
  | 23 => ⟨S4x1x4096, .f32⟩
  | 24 => ⟨S_, .f32⟩
  | 25 => ⟨S_, .i1⟩
  | 26 => ⟨S_, .f32⟩
  | 27 => ⟨S_, .f32⟩
  | 28 => ⟨S4x1x4096, .f32⟩
  | 29 => ⟨S4x1x4096, .f32⟩
  | 30 => ⟨S_, .f32⟩
  | 31 => ⟨S4x4096, .f32⟩
  | 32 => ⟨S4x1x4096, .f32⟩
  | 33 => ⟨S_, .f32⟩
  | 34 => ⟨S4x1x4096, .f32⟩
  | 35 => ⟨S4x1x4096, .f32⟩
  | 36 => ⟨S4x1024x4096, .f32⟩
  | 37 => ⟨S4x1024x4096, .f32⟩
  | 38 => ⟨S4x1024x4096, .f32⟩
  | 39 => ⟨S4x1024x4096, .f32⟩
  | 40 => ⟨S4x1x4096, .f32⟩
  | 41 => ⟨S_, .f32⟩
  | 42 => ⟨S4x1x4096, .f32⟩
  | 43 => ⟨S4x1x4096, .f32⟩
  | 44 => ⟨S4x1024x4096, .f32⟩
  | 45 => ⟨S4x1024x4096, .f32⟩
  | 46 => ⟨S4x1024x4096, .f32⟩
  | 47 => ⟨S4x1024x4096, .f32⟩
  | 48 => ⟨S4x4096x3072, .f32⟩
  | 49 => ⟨S4x3072x4096, .f32⟩
  | 50 => ⟨S4x1024x4096, .f32⟩
  | 51 => ⟨S4x1024x4096, .f32⟩
  | 52 => ⟨S4x1024x4096, .f32⟩
  | 53 => ⟨S4x16x64x4096, .f32⟩
  | 54 => ⟨S64x64x4096, .f32⟩
  | 55 => ⟨S4x16x64x4096, .f32⟩
  | 56 => ⟨S64x64x4096, .f32⟩
  | 57 => ⟨S4x16x64x4096, .f32⟩
  | 58 => ⟨S64x64x4096, .f32⟩
  | 59 => ⟨S64x64x4096, .f32⟩
  | 60 => ⟨S_, .f32⟩
  | 61 => ⟨S64x4096, .f32⟩
  | 62 => ⟨S64x1x4096, .f32⟩
  | 63 => ⟨S64x1x4096, .f32⟩
  | 64 => ⟨S_, .f32⟩
  | 65 => ⟨S64x1x4096, .f32⟩
  | 66 => ⟨S64x1x4096, .f32⟩
  | 67 => ⟨S64x64x4096, .f32⟩
  | 68 => ⟨S64x64x4096, .f32⟩
  | 69 => ⟨S64x64x4096, .f32⟩
  | 70 => ⟨S_, .f32⟩
  | 71 => ⟨S64x4096, .f32⟩
  | 72 => ⟨S64x1x4096, .f32⟩
  | 73 => ⟨S64x1x4096, .f32⟩
  | 74 => ⟨S_, .f32⟩
  | 75 => ⟨S64x1x4096, .f32⟩
  | 76 => ⟨S64x1x4096, .f32⟩
  | 77 => ⟨S64x64x4096, .f32⟩
  | 78 => ⟨S64x64x4096, .f32⟩
  | 79 => ⟨S64x64x4096, .f32⟩
  | 80 => ⟨S64x64x4096, .f32⟩
  | 81 => ⟨S_, .f32⟩
  | 82 => ⟨S64x64, .f32⟩
  | 83 => ⟨S64x4096, .f32⟩
  | 84 => ⟨S64x64, .f32⟩
  | 85 => ⟨S64x64, .i32⟩
  | 86 => ⟨S64x1x64, .i32⟩
  | 87 => ⟨S64x64x64, .i32⟩
  | 88 => ⟨S_, .i32⟩
  | 89 => ⟨S64x64x64, .i32⟩
  | 90 => ⟨S64x64x64, .i1⟩
  | 91 => ⟨S_, .i32⟩
  | 92 => ⟨S64x64x64, .i32⟩
  | 93 => ⟨S64x64x64, .i32⟩
  | 94 => ⟨S64x64x64, .i32⟩
  | 95 => ⟨S64x64x64x1, .i32⟩
  | 96 => ⟨S1, .i32⟩
  | 97 => ⟨S_, .i32⟩
  | 98 => ⟨S64x64x64x1, .i32⟩
  | 99 => ⟨S64x64x64x1, .i1⟩
  | 100 => ⟨S1x1x1x1, .i32⟩
  | 101 => ⟨S64x64x64x1, .i32⟩
  | 102 => ⟨S64x64x64x1, .i1⟩
  | 103 => ⟨S64x64x64x1, .i1⟩
  | 104 => ⟨S_, .i1⟩
  | 105 => ⟨S64x64x64, .i1⟩
  | 106 => ⟨S64x64x64, .f32⟩
  | 107 => ⟨S_, .f32⟩
  | 108 => ⟨S64x64x64, .f32⟩
  | 109 => ⟨S64x64x64, .f32⟩
  | 110 => ⟨S_, .i32⟩
  | 111 => ⟨S64x64x64, .i32⟩
  | 112 => ⟨S64x64x64, .i1⟩
  | 113 => ⟨S_, .i32⟩
  | 114 => ⟨S64x64x64, .i32⟩
  | 115 => ⟨S64x64x64, .i32⟩
  | 116 => ⟨S64x64x64, .i32⟩
  | 117 => ⟨S64x64x64x1, .i32⟩
  | 118 => ⟨S1, .i32⟩
  | 119 => ⟨S_, .i32⟩
  | 120 => ⟨S64x64x64x1, .i32⟩
  | 121 => ⟨S64x64x64x1, .i1⟩
  | 122 => ⟨S1x1x1x1, .i32⟩
  | 123 => ⟨S64x64x64x1, .i32⟩
  | 124 => ⟨S64x64x64x1, .i1⟩
  | 125 => ⟨S64x64x64x1, .i1⟩
  | 126 => ⟨S_, .i1⟩
  | 127 => ⟨S64x64x64, .i1⟩
  | _ => ⟨S4x1024x4096, .f32⟩

abbrev hbmTy0_1 (i : Nat) : BufTy := match i % 128 with
  | 0 => ⟨S64x64x64, .f32⟩
  | 1 => ⟨S_, .f32⟩
  | 2 => ⟨S64x64x64, .f32⟩
  | 3 => ⟨S64x64x64, .f32⟩
  | 4 => ⟨S64x4096x64, .f32⟩
  | 5 => ⟨S64x64x64, .f32⟩
  | 6 => ⟨S64x64x64, .f32⟩
  | 7 => ⟨S64x4096x64, .f32⟩
  | 8 => ⟨S_, .f32⟩
  | 9 => ⟨S64x4096, .f32⟩
  | 10 => ⟨S_, .f32⟩
  | 11 => ⟨S64x4096, .f32⟩
  | 12 => ⟨S64x4096, .f32⟩
  | 13 => ⟨S64x4096x1, .f32⟩
  | 14 => ⟨S64x4096x64, .f32⟩
  | 15 => ⟨S64x4096x64, .f32⟩
  | 16 => ⟨S64x4096x64, .f32⟩
  | 17 => ⟨S_, .f32⟩
  | 18 => ⟨S64x4096, .f32⟩
  | 19 => ⟨S64x4096x1, .f32⟩
  | 20 => ⟨S64x4096x64, .f32⟩
  | 21 => ⟨S64x4096x64, .f32⟩
  | 22 => ⟨S64x4096x64, .f32⟩
  | 23 => ⟨S4x16x4096x64, .f32⟩
  | 24 => ⟨S4x16x64x4096, .f32⟩
  | 25 => ⟨S4x1024x4096, .f32⟩
  | 26 => ⟨S4x4096x64, .f32⟩
  | 27 => ⟨S4x64x4096, .f32⟩
  | 28 => ⟨S1x64x1, .f32⟩
  | 29 => ⟨S4x64x4096, .f32⟩
  | 30 => ⟨S4x64x4096, .f32⟩
  | _ => ⟨S4x1024x4096, .f32⟩

abbrev hbmTy (i : Nat) : BufTy := match i / 128 with
  | 0 => hbmTy0_0 i
  | 1 => hbmTy0_1 i
  | _ => ⟨S4x1024x4096, .f32⟩

abbrev bufTy : (tb : Table) → Fin (tcTables nBuf tb) → BufTy
  | .hbm, ⟨i, _⟩ => hbmTy i
  | _, _ => ⟨S4x1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_cst : Ref sig .tc := ⟨.hbm, 7, rfl⟩
abbrev main_call0_v0 : Ref sig .tc := ⟨.hbm, 8, rfl⟩
abbrev main_call0_v1 : Ref sig .tc := ⟨.hbm, 9, rfl⟩
abbrev main_call0_cst_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_cst_1 : Ref sig .tc := ⟨.hbm, 17, rfl⟩
abbrev main_call0_v8 : Ref sig .tc := ⟨.hbm, 18, rfl⟩
abbrev main_call0_cst_2 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_cst_3 : Ref sig .tc := ⟨.hbm, 24, rfl⟩
abbrev main_call0_v13 : Ref sig .tc := ⟨.hbm, 25, rfl⟩
abbrev main_call0_cst_4 : Ref sig .tc := ⟨.hbm, 26, rfl⟩
abbrev main_call0_call0_v0 : Ref sig .tc := ⟨.hbm, 27, rfl⟩
abbrev main_call0_call0_v1 : Ref sig .tc := ⟨.hbm, 28, rfl⟩
abbrev main_v0 : Ref sig .tc := ⟨.hbm, 29, rfl⟩
abbrev main_cst : Ref sig .tc := ⟨.hbm, 30, rfl⟩
abbrev main_v1 : Ref sig .tc := ⟨.hbm, 31, rfl⟩
abbrev main_v2 : Ref sig .tc := ⟨.hbm, 32, rfl⟩
abbrev main_cst_0 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_cst_1 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_call1_v0 : Ref sig .tc := ⟨.hbm, 59, rfl⟩
abbrev main_call1_cst : Ref sig .tc := ⟨.hbm, 60, rfl⟩
abbrev main_call1_v1 : Ref sig .tc := ⟨.hbm, 61, rfl⟩
abbrev main_call1_v2 : Ref sig .tc := ⟨.hbm, 62, rfl⟩
abbrev main_v27 : Ref sig .tc := ⟨.hbm, 63, rfl⟩
abbrev main_cst_2 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_call2_v0 : Ref sig .tc := ⟨.hbm, 69, rfl⟩
abbrev main_call2_cst : Ref sig .tc := ⟨.hbm, 70, rfl⟩
abbrev main_call2_v1 : Ref sig .tc := ⟨.hbm, 71, rfl⟩
abbrev main_call2_v2 : Ref sig .tc := ⟨.hbm, 72, rfl⟩
abbrev main_v32 : Ref sig .tc := ⟨.hbm, 73, rfl⟩
abbrev main_cst_3 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_cst_4 : Ref sig .tc := ⟨.hbm, 81, rfl⟩
abbrev main_v39 : Ref sig .tc := ⟨.hbm, 82, rfl⟩
abbrev main_v40 : Ref sig .tc := ⟨.hbm, 83, rfl⟩
abbrev main_values : Ref sig .tc := ⟨.hbm, 84, rfl⟩
abbrev main_indices : Ref sig .tc := ⟨.hbm, 85, rfl⟩
abbrev main_v41 : Ref sig .tc := ⟨.hbm, 86, rfl⟩
abbrev main_v42 : Ref sig .tc := ⟨.hbm, 87, rfl⟩
abbrev main_call3_c : Ref sig .tc := ⟨.hbm, 88, rfl⟩
abbrev main_call3_v0 : Ref sig .tc := ⟨.hbm, 89, rfl⟩
abbrev main_call3_v1 : Ref sig .tc := ⟨.hbm, 90, rfl⟩
abbrev main_call3_c_0 : Ref sig .tc := ⟨.hbm, 91, rfl⟩
abbrev main_call3_v2 : Ref sig .tc := ⟨.hbm, 92, rfl⟩
abbrev main_call3_v3 : Ref sig .tc := ⟨.hbm, 93, rfl⟩
abbrev main_call3_v4 : Ref sig .tc := ⟨.hbm, 94, rfl⟩
abbrev main_call3_v5 : Ref sig .tc := ⟨.hbm, 95, rfl⟩
abbrev main_call3_c_1 : Ref sig .tc := ⟨.hbm, 96, rfl⟩
abbrev main_call3_c_2 : Ref sig .tc := ⟨.hbm, 97, rfl⟩
abbrev main_call3_v6 : Ref sig .tc := ⟨.hbm, 98, rfl⟩
abbrev main_call3_v7 : Ref sig .tc := ⟨.hbm, 99, rfl⟩
abbrev main_call3_v8 : Ref sig .tc := ⟨.hbm, 100, rfl⟩
abbrev main_call3_v9 : Ref sig .tc := ⟨.hbm, 101, rfl⟩
abbrev main_call3_v10 : Ref sig .tc := ⟨.hbm, 102, rfl⟩
abbrev main_call3_v11 : Ref sig .tc := ⟨.hbm, 103, rfl⟩
abbrev main_call3_c_3 : Ref sig .tc := ⟨.hbm, 104, rfl⟩
abbrev main_call3_v12 : Ref sig .tc := ⟨.hbm, 105, rfl⟩
abbrev main_call3_v13 : Ref sig .tc := ⟨.hbm, 106, rfl⟩
abbrev main_call3_cst : Ref sig .tc := ⟨.hbm, 107, rfl⟩
abbrev main_call3_v14 : Ref sig .tc := ⟨.hbm, 108, rfl⟩
abbrev main_v43 : Ref sig .tc := ⟨.hbm, 109, rfl⟩
abbrev main_call4_c : Ref sig .tc := ⟨.hbm, 110, rfl⟩
abbrev main_call4_v0 : Ref sig .tc := ⟨.hbm, 111, rfl⟩
abbrev main_call4_v1 : Ref sig .tc := ⟨.hbm, 112, rfl⟩
abbrev main_call4_c_0 : Ref sig .tc := ⟨.hbm, 113, rfl⟩
abbrev main_call4_v2 : Ref sig .tc := ⟨.hbm, 114, rfl⟩
abbrev main_call4_v3 : Ref sig .tc := ⟨.hbm, 115, rfl⟩
abbrev main_call4_v4 : Ref sig .tc := ⟨.hbm, 116, rfl⟩
abbrev main_call4_v5 : Ref sig .tc := ⟨.hbm, 117, rfl⟩
abbrev main_call4_c_1 : Ref sig .tc := ⟨.hbm, 118, rfl⟩
abbrev main_call4_c_2 : Ref sig .tc := ⟨.hbm, 119, rfl⟩
abbrev main_call4_v6 : Ref sig .tc := ⟨.hbm, 120, rfl⟩
abbrev main_call4_v7 : Ref sig .tc := ⟨.hbm, 121, rfl⟩
abbrev main_call4_v8 : Ref sig .tc := ⟨.hbm, 122, rfl⟩
abbrev main_call4_v9 : Ref sig .tc := ⟨.hbm, 123, rfl⟩
abbrev main_call4_v10 : Ref sig .tc := ⟨.hbm, 124, rfl⟩
abbrev main_call4_v11 : Ref sig .tc := ⟨.hbm, 125, rfl⟩
abbrev main_call4_c_3 : Ref sig .tc := ⟨.hbm, 126, rfl⟩
abbrev main_call4_v12 : Ref sig .tc := ⟨.hbm, 127, rfl⟩
abbrev main_call4_v13 : Ref sig .tc := ⟨.hbm, 128, rfl⟩
abbrev main_call4_cst : Ref sig .tc := ⟨.hbm, 129, rfl⟩
abbrev main_call4_v14 : Ref sig .tc := ⟨.hbm, 130, rfl⟩
abbrev main_v44 : Ref sig .tc := ⟨.hbm, 131, rfl⟩
abbrev main_v45 : Ref sig .tc := ⟨.hbm, 132, rfl⟩
abbrev main_v46 : Ref sig .tc := ⟨.hbm, 133, rfl⟩
abbrev main_v47 : Ref sig .tc := ⟨.hbm, 134, rfl⟩
abbrev main_v48 : Ref sig .tc := ⟨.hbm, 135, rfl⟩
abbrev main_cst_5 : Ref sig .tc := ⟨.hbm, 136, rfl⟩
abbrev main_v49 : Ref sig .tc := ⟨.hbm, 137, rfl⟩
abbrev main_cst_6 : Ref sig .tc := ⟨.hbm, 138, rfl⟩
abbrev main_v50 : Ref sig .tc := ⟨.hbm, 139, rfl⟩
abbrev main_v51 : Ref sig .tc := ⟨.hbm, 140, rfl⟩
abbrev main_v52 : Ref sig .tc := ⟨.hbm, 141, rfl⟩
abbrev main_v53 : Ref sig .tc := ⟨.hbm, 142, rfl⟩
abbrev main_v54 : Ref sig .tc := ⟨.hbm, 143, rfl⟩
abbrev main_v55 : Ref sig .tc := ⟨.hbm, 144, rfl⟩
abbrev main_cst_7 : Ref sig .tc := ⟨.hbm, 145, rfl⟩
abbrev main_v56 : Ref sig .tc := ⟨.hbm, 146, rfl⟩
abbrev main_v57 : Ref sig .tc := ⟨.hbm, 147, rfl⟩
abbrev main_v58 : Ref sig .tc := ⟨.hbm, 148, rfl⟩
abbrev main_v59 : Ref sig .tc := ⟨.hbm, 149, rfl⟩
abbrev main_v60 : Ref sig .tc := ⟨.hbm, 150, rfl⟩
abbrev main_v61 : Ref sig .tc := ⟨.hbm, 151, rfl⟩
abbrev main_v62 : Ref sig .tc := ⟨.hbm, 152, rfl⟩
abbrev main_v63 : Ref sig .tc := ⟨.hbm, 153, rfl⟩
abbrev main_v64 : Ref sig .tc := ⟨.hbm, 154, rfl⟩
abbrev main_v65 : Ref sig .tc := ⟨.hbm, 155, rfl⟩
abbrev main_v66 : Ref sig .tc := ⟨.hbm, 156, rfl⟩
abbrev main_v67 : Ref sig .tc := ⟨.hbm, 157, rfl⟩
abbrev main_v68 : Ref sig .tc := ⟨.hbm, 158, rfl⟩

abbrev nD : Nat := 1
abbrev τ : Topo := Topo.v7x

variable {F : FTy → Type} [FloatOps F]
-- ==== Proof.Region0.Runs.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Proof.Region0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 8) — by arithmetic of the point. -/
theorem hcond0_0 : ∀ t : Fin cfg0.N, cond0_0 (grid0.coords t) ↔ t.val % 8 = 0 :=
  (fun t => by
    have ht : t.val < 32 := Nat.lt_of_lt_of_eq t.isLt N_0
    have e0 : (grid0.coords t 0).val = t.val / 8 % 4 := Pipeline.Grid.coords_val t 0 (by decide) rfl
    have e1 : (grid0.coords t 1).val = t.val / 1 % 8 := Pipeline.Grid.coords_val t 1 (by decide) rfl
    simp only [cond0_0, k0_cond1, e0, e1]
    word_cmp
   : ∀ t : Fin grid0.N, cond0_0 (grid0.coords t) ↔ t.val % 8 = 0)

/-- The condition of the body's `scf.if` 1 (`k0_h2`), from the grid coordinates (the skeleton's scalar
    chain substituted). -/
abbrev cond0_1 (i : grid0.Coords) : Prop := k0_cond2 i = 1#1
/-- It holds at the points whose coordinates have 1 ≤ i1 — decided over the grid. -/
theorem hcond0_1 : ∀ t : Fin cfg0.N, cond0_1 (grid0.coords t) ↔ 1 ≤ t.val % 8 :=
  (by decide +kernel : ∀ t : Fin grid0.N, cond0_1 (grid0.coords t) ↔ 1 ≤ t.val % 8)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an output stored at every point, under no condition). -/
theorem liveAt0_4 : ∀ t : Fin cfg0.N, cfg0.idle 4 (grid0.coords t) = false := fun _ => rfl
/-- Window 5 is never idle (an output stored at every point, under no condition). -/
theorem liveAt0_5 : ∀ t : Fin cfg0.N, cfg0.idle 5 (grid0.coords t) = false := fun _ => rfl
/-- Window 6 is never idle (an output stored at every point, under no condition). -/
theorem liveAt0_6 : ∀ t : Fin cfg0.N, cfg0.idle 6 (grid0.coords t) = false := fun _ => rfl
/-- Window 7 is never idle (an output stored at every point, under no condition). -/
theorem liveAt0_7 : ∀ t : Fin cfg0.N, cfg0.idle 7 (grid0.coords t) = false := fun _ => rfl
/-- Whether output 8's buffer is FRESH at each position `1 ‥ N` — holds nothing the body stored since the region's entry or the
    last write-back (written back at the point before, or idle there and fresh before it) —, as a bitmask the classifier
    computed, bit `n` for position `n + 1`; position 0 is fresh. `freshTab0_8_step` checks it against the configuration's own
    step point by point and Lib/Pipeline/TableIdle.lean `Cfg.fresh_tab` makes it `Cfg.fresh` (`fresh0_8_eq`). -/
def freshTab0_8 : ℕ → Bool
  | 0 => true
  | n + 1 => (0x80808080 : ℕ).testBit n
theorem freshTab0_8_step : ∀ t : Fin cfg0.N,
    freshTab0_8 (t.val + 1) = ((cfg0.win 8).flush t || (cfg0.idle 8 (cfg0.grid.coords t) && freshTab0_8 t.val)) := by decide +kernel
theorem fresh0_8_eq (t : Fin cfg0.N) : cfg0.fresh 8 t.val = freshTab0_8 t.val :=
  Pipeline.Cfg.fresh_tab cfg0 8 freshTab0_8 rfl freshTab0_8_step t.val (Nat.le_of_lt t.isLt)
/-- At the points of case A the printed configuration (`Cfg.idle`) calls output 8 live: the case stores into it. -/
theorem liveAt0_8_A : ∀ t : Fin cfg0.N, cond0_0 (grid0.coords t) → ¬cond0_1 (grid0.coords t) → cfg0.idle 8 (grid0.coords t) = false := by decide +kernel
/-- At the points of case B the printed configuration (`Cfg.idle`) calls output 8 live: the case stores into it. -/
theorem liveAt0_8_B : ∀ t : Fin cfg0.N, ¬cond0_0 (grid0.coords t) → cond0_1 (grid0.coords t) → cfg0.idle 8 (grid0.coords t) = false := by decide +kernel
/-- At the points of case B, which keeps output 8's prior contents (reads it before covering, or covers it in part), the
    window's buffer is not FRESH: something was stored into it since the region's entry or its last write-back, idle points
    between or not (Lib/Pipeline/TableIdle.lean `Cfg.fresh`, by the table `freshTab0_8`). -/
theorem notFresh0_8_B : ∀ t : Fin cfg0.N, ¬cond0_0 (grid0.coords t) → cond0_1 (grid0.coords t) → cfg0.fresh 8 t.val = false := by
  intro t; rw [fresh0_8_eq t]; revert t; decide +kernel

/-! ## The kernel body on any staging memrefs: a subtype the run finds -/

/-- One staging buffer of output window 4, through which its contents are stated (`View.read_writes_of_cover`: the
    choice does not matter). -/
abbrev VO0_4 : View sig .tc .vmem S16x512x64 .f32 := (Memref.whole cc0_stg4_0 : Memref sig .tc .vmem S16x512x64 .f32).view
/-- One staging buffer of output window 5, through which its contents are stated (`View.read_writes_of_cover`: the
    choice does not matter). -/
abbrev VO0_5 : View sig .tc .vmem S16x512x64 .f32 := (Memref.whole cc0_stg5_0 : Memref sig .tc .vmem S16x512x64 .f32).view
/-- One staging buffer of output window 6, through which its contents are stated (`View.read_writes_of_cover`: the
    choice does not matter). -/
abbrev VO0_6 : View sig .tc .vmem S16x512x64 .f32 := (Memref.whole cc0_stg6_0 : Memref sig .tc .vmem S16x512x64 .f32).view
/-- One staging buffer of output window 7, through which its contents are stated (`View.read_writes_of_cover`: the
    choice does not matter). -/
abbrev VO0_7 : View sig .tc .vmem S1x1024x512 .f32 := (Memref.whole cc0_stg7_0 : Memref sig .tc .vmem S1x1024x512 .f32).view
/-- One staging buffer of output window 8, through which its contents are stated (`View.read_writes_of_cover`: the
    choice does not matter). -/
abbrev VO0_8 : View sig .tc .vmem S1x1x16x64 .f32 := (Memref.whole cc0_stg8_0 : Memref sig .tc .vmem S1x1x16x64 .f32).view
/-- Each window's current staging memref at point `t`, spelled as the pipeline passes it (`bodyAt0`), and its wholeness. -/
abbrev ms0_0 (t : Fin cfg0.N) : Memref sig .tc .vmem S1x1024x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3072x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S16x512x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S16x512x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S16x512x64 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1x16x64 .f32 := win0_8.stage (cfg0.slots t 8)
abbrev hs0_8 (t : Fin cfg0.N) : (ms0_8 t).IsWhole := hstage0_8 ((cfg0.slots t 8).cast nbuf0_8)

end Cert.Proof.Region0

end
-- ==== Proof.Region0.RunA.lean ====
module

public import proofs.«01_k».proof.Proof.Region0.Runs

@[expose] public section

-- membership in a rectangle of production extents (`View.cover_of_tiled`): the elaborator's structural look
-- recurses once per coordinate of the long axes
set_option maxRecDepth 16384

noncomputable section

/-! # The first call's body at a row's first tile -/

namespace Cert.Proof.Region0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the run's proof term is large: the definition's epilogue — `abstractNestedProofs` — walks it past the default budget)
set_option maxHeartbeats 1036000 in
/-- What the body's stores leave in each output's staging memref, as pieces (last first) IN CASE A (`scf.if` 0 taken, `scf.if` 1 not taken: points 0, 8, 16, 24), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S1x1024x512 .f32) (harg2 : arg2.IsWhole) (arg3 : Memref sig .tc .vmem S1x1024x1 .f32) (harg3 : arg3.IsWhole) (arg4 : Memref sig .tc .vmem S1x1024x1 .f32) (harg4 : arg4.IsWhole) (arg5 : Memref sig .tc .vmem S3072x1024 .f32) (harg5 : arg5.IsWhole) (arg6 : Memref sig .tc .vmem S16x512x64 .f32) (harg6 : arg6.IsWhole) (arg7 : Memref sig .tc .vmem S16x512x64 .f32) (harg7 : arg7.IsWhole) (arg8 : Memref sig .tc .vmem S16x512x64 .f32) (harg8 : arg8.IsWhole) (arg9 : Memref sig .tc .vmem S1x1024x512 .f32) (harg9 : arg9.IsWhole) (arg10 : Memref sig .tc .vmem S1x1x16x64 .f32) (harg10 : arg10.IsWhole) (hc0 : cond0_0 i) (hc1 : ¬cond0_1 i)
    (x0 : Vec F S1x1024x512 .f32) (x1 : Vec F S1x1024x1 .f32) (x2 : Vec F S1x1024x1 .f32) (x3 : Vec F S3072x1024 .f32) :
    Σ' (L4 : List (View.Piece (Elt F) S16x512x64 .f32)), Σ' (L5 : List (View.Piece (Elt F) S16x512x64 .f32)), Σ' (L6 : List (View.Piece (Elt F) S16x512x64 .f32)), Σ' (L7 : List (View.Piece (Elt F) S1x1024x512 .f32)), { L8 : List (View.Piece (Elt F) S1x1x16x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8)) -∗ K ⟨⟩))
          ⊢ wp frame (wpE (defs₀ (F := F)) Variants.none c none) E (cc0__k1_body i arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0__k1_body_eq_skeleton]; unfold cc0__k1_body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, Hk⟩
    obtain rfl := harg2.eq_unread hf0; obtain rfl := harg3.eq_unread hf1; obtain rfl := harg4.eq_unread hf2; obtain rfl := harg5.eq_unread hf3
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    isplitl [H7]; · iexists _; iexact H7
    iexists _; iexact H8

end Cert.Proof.Region0

end
-- ==== Proof.Region0.RunB.lean ====
module

public import proofs.«01_k».proof.Proof.Region0.RunA

@[expose] public section

-- membership in a rectangle of production extents (`View.cover_of_tiled`): the elaborator's structural look
-- recurses once per coordinate of the long axes
set_option maxRecDepth 16384

noncomputable section

/-! # The first call's body at a later tile -/

namespace Cert.Proof.Region0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the run's proof term is large: the definition's epilogue — `abstractNestedProofs` — walks it past the default budget)
set_option maxHeartbeats 1040000 in
/-- What the body's stores leave in each output's staging memref, as pieces (last first) IN CASE B (`scf.if` 0 not taken, `scf.if` 1 taken: points 1, 2, … 31: 28 of 32), WITH the
    proof that on whole staging memrefs — the inputs' at their contents, the outputs it reads before covering (8) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S1x1024x512 .f32) (harg2 : arg2.IsWhole) (arg3 : Memref sig .tc .vmem S1x1024x1 .f32) (harg3 : arg3.IsWhole) (arg4 : Memref sig .tc .vmem S1x1024x1 .f32) (harg4 : arg4.IsWhole) (arg5 : Memref sig .tc .vmem S3072x1024 .f32) (harg5 : arg5.IsWhole) (arg6 : Memref sig .tc .vmem S16x512x64 .f32) (harg6 : arg6.IsWhole) (arg7 : Memref sig .tc .vmem S16x512x64 .f32) (harg7 : arg7.IsWhole) (arg8 : Memref sig .tc .vmem S16x512x64 .f32) (harg8 : arg8.IsWhole) (arg9 : Memref sig .tc .vmem S1x1024x512 .f32) (harg9 : arg9.IsWhole) (arg10 : Memref sig .tc .vmem S1x1x16x64 .f32) (harg10 : arg10.IsWhole) (hc0 : ¬cond0_0 i) (hc1 : cond0_1 i)
    (x0 : Vec F S1x1024x512 .f32) (x1 : Vec F S1x1024x1 .f32) (x2 : Vec F S1x1024x1 .f32) (x3 : Vec F S3072x1024 .f32) (xo8 : Vec F S1x1x16x64 .f32) :
    Σ' (L4 : List (View.Piece (Elt F) S16x512x64 .f32)), Σ' (L5 : List (View.Piece (Elt F) S16x512x64 .f32)), Σ' (L6 : List (View.Piece (Elt F) S16x512x64 .f32)), Σ' (L7 : List (View.Piece (Elt F) S1x1024x512 .f32)), { L8 : List (View.Piece (Elt F) S1x1x16x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xo8
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8)) -∗ K ⟨⟩))
          ⊢ wp frame (wpE (defs₀ (F := F)) Variants.none c none) E (cc0__k1_body i arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0__k1_body_eq_skeleton]; unfold cc0__k1_body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%f8, %hf8, H8⟩, Hk⟩
    obtain rfl := harg2.eq_unread hf0; obtain rfl := harg3.eq_unread hf1; obtain rfl := harg4.eq_unread hf2; obtain rfl := harg5.eq_unread hf3; obtain rfl := harg10.eq_unread hf8
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    isplitl [H7]; · iexists _; iexact H7
    iexists _; iexact H8

end Cert.Proof.Region0

end
-- ==== Proof.Region0.Body.lean ====
module

public import proofs.«01_k».proof.Proof.Region0.RunB
public import Idealize.ShloMosaic.Lib.Claim

@[expose] public section

-- membership in a rectangle of production extents (`View.cover_of_tiled`): the elaborator's structural look
-- recurses once per coordinate of the long axes
set_option maxRecDepth 16384

noncomputable section

namespace Cert.Proof.Region0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-- Case A's pieces for output 4 tile its block (16 stores of `S1x512x64`, checked by the kernel's evaluation: Lib/Ring.lean `Piece.tiledL`, linear in the pieces, through a loop's `@[irreducible]` trip theorem too), so they cover it. -/
theorem cover0_A_4 (c : Dev nD) (i : grid0.Coords) (arg2 : Memref sig .tc .vmem S1x1024x512 .f32) (harg2 : arg2.IsWhole) (arg3 : Memref sig .tc .vmem S1x1024x1 .f32) (harg3 : arg3.IsWhole) (arg4 : Memref sig .tc .vmem S1x1024x1 .f32) (harg4 : arg4.IsWhole) (arg5 : Memref sig .tc .vmem S3072x1024 .f32) (harg5 : arg5.IsWhole) (arg6 : Memref sig .tc .vmem S16x512x64 .f32) (harg6 : arg6.IsWhole) (arg7 : Memref sig .tc .vmem S16x512x64 .f32) (harg7 : arg7.IsWhole) (arg8 : Memref sig .tc .vmem S16x512x64 .f32) (harg8 : arg8.IsWhole) (arg9 : Memref sig .tc .vmem S1x1024x512 .f32) (harg9 : arg9.IsWhole) (arg10 : Memref sig .tc .vmem S1x1x16x64 .f32) (harg10 : arg10.IsWhole) (hc0 : cond0_0 i) (hc1 : ¬cond0_1 i)
    (x0 : Vec F S1x1024x512 .f32) (x1 : Vec F S1x1024x1 .f32) (x2 : Vec F S1x1024x1 .f32) (x3 : Vec F S3072x1024 .f32) (y : S16x512x64.Idx) :
    ∃ pc ∈ (kernelRun0_A c i arg2 harg2 arg3 harg3 arg4 harg4 arg5 harg5 arg6 harg6 arg7 harg7 arg8 harg8 arg9 harg9 arg10 harg10 hc0 hc1 x0 x1 x2 x3).1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3).1 S1x512x64.size (by sl_kernel_rfl) y

/-- What case A leaves in output 4's staging buffer: its pieces read back over junk. -/
def out0_A_4 (c : Dev nD) (i : grid0.Coords) (arg2 : Memref sig .tc .vmem S1x1024x512 .f32) (harg2 : arg2.IsWhole) (arg3 : Memref sig .tc .vmem S1x1024x1 .f32) (harg3 : arg3.IsWhole) (arg4 : Memref sig .tc .vmem S1x1024x1 .f32) (harg4 : arg4.IsWhole) (arg5 : Memref sig .tc .vmem S3072x1024 .f32) (harg5 : arg5.IsWhole) (arg6 : Memref sig .tc .vmem S16x512x64 .f32) (harg6 : arg6.IsWhole) (arg7 : Memref sig .tc .vmem S16x512x64 .f32) (harg7 : arg7.IsWhole) (arg8 : Memref sig .tc .vmem S16x512x64 .f32) (harg8 : arg8.IsWhole) (arg9 : Memref sig .tc .vmem S1x1024x512 .f32) (harg9 : arg9.IsWhole) (arg10 : Memref sig .tc .vmem S1x1x16x64 .f32) (harg10 : arg10.IsWhole) (hc0 : cond0_0 i) (hc1 : ¬cond0_1 i)
    (x0 : Vec F S1x1024x512 .f32) (x1 : Vec F S1x1024x1 .f32) (x2 : Vec F S1x1024x1 .f32) (x3 : Vec F S3072x1024 .f32) : Vec F S16x512x64 .f32 :=
  VO0_4.read (Elt F) (VO0_4.writes (Elt F) VO0_4.junk (kernelRun0_A c i arg2 harg2 arg3 harg3 arg4 harg4 arg5 harg5 arg6 harg6 arg7 harg7 arg8 harg8 arg9 harg9 arg10 harg10 hc0 hc1 x0 x1 x2 x3).1)

/-- Case A's pieces for output 5 tile its block (16 stores of `S1x512x64`, checked by the kernel's evaluation: Lib/Ring.lean `Piece.tiledL`, linear in the pieces, through a loop's `@[irreducible]` trip theorem too), so they cover it. -/
theorem cover0_A_5 (c : Dev nD) (i : grid0.Coords) (arg2 : Memref sig .tc .vmem S1x1024x512 .f32) (harg2 : arg2.IsWhole) (arg3 : Memref sig .tc .vmem S1x1024x1 .f32) (harg3 : arg3.IsWhole) (arg4 : Memref sig .tc .vmem S1x1024x1 .f32) (harg4 : arg4.IsWhole) (arg5 : Memref sig .tc .vmem S3072x1024 .f32) (harg5 : arg5.IsWhole) (arg6 : Memref sig .tc .vmem S16x512x64 .f32) (harg6 : arg6.IsWhole) (arg7 : Memref sig .tc .vmem S16x512x64 .f32) (harg7 : arg7.IsWhole) (arg8 : Memref sig .tc .vmem S16x512x64 .f32) (harg8 : arg8.IsWhole) (arg9 : Memref sig .tc .vmem S1x1024x512 .f32) (harg9 : arg9.IsWhole) (arg10 : Memref sig .tc .vmem S1x1x16x64 .f32) (harg10 : arg10.IsWhole) (hc0 : cond0_0 i) (hc1 : ¬cond0_1 i)
    (x0 : Vec F S1x1024x512 .f32) (x1 : Vec F S1x1024x1 .f32) (x2 : Vec F S1x1024x1 .f32) (x3 : Vec F S3072x1024 .f32) (y : S16x512x64.Idx) :
    ∃ pc ∈ (kernelRun0_A c i arg2 harg2 arg3 harg3 arg4 harg4 arg5 harg5 arg6 harg6 arg7 harg7 arg8 harg8 arg9 harg9 arg10 harg10 hc0 hc1 x0 x1 x2 x3).2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3).2.1 S1x512x64.size (by sl_kernel_rfl) y

/-- What case A leaves in output 5's staging buffer: its pieces read back over junk. -/
def out0_A_5 (c : Dev nD) (i : grid0.Coords) (arg2 : Memref sig .tc .vmem S1x1024x512 .f32) (harg2 : arg2.IsWhole) (arg3 : Memref sig .tc .vmem S1x1024x1 .f32) (harg3 : arg3.IsWhole) (arg4 : Memref sig .tc .vmem S1x1024x1 .f32) (harg4 : arg4.IsWhole) (arg5 : Memref sig .tc .vmem S3072x1024 .f32) (harg5 : arg5.IsWhole) (arg6 : Memref sig .tc .vmem S16x512x64 .f32) (harg6 : arg6.IsWhole) (arg7 : Memref sig .tc .vmem S16x512x64 .f32) (harg7 : arg7.IsWhole) (arg8 : Memref sig .tc .vmem S16x512x64 .f32) (harg8 : arg8.IsWhole) (arg9 : Memref sig .tc .vmem S1x1024x512 .f32) (harg9 : arg9.IsWhole) (arg10 : Memref sig .tc .vmem S1x1x16x64 .f32) (harg10 : arg10.IsWhole) (hc0 : cond0_0 i) (hc1 : ¬cond0_1 i)
    (x0 : Vec F S1x1024x512 .f32) (x1 : Vec F S1x1024x1 .f32) (x2 : Vec F S1x1024x1 .f32) (x3 : Vec F S3072x1024 .f32) : Vec F S16x512x64 .f32 :=
  VO0_5.read (Elt F) (VO0_5.writes (Elt F) VO0_5.junk (kernelRun0_A c i arg2 harg2 arg3 harg3 arg4 harg4 arg5 harg5 arg6 harg6 arg7 harg7 arg8 harg8 arg9 harg9 arg10 harg10 hc0 hc1 x0 x1 x2 x3).2.1)

/-- Case A's pieces for output 6 tile its block (16 stores of `S1x512x64`, checked by the kernel's evaluation: Lib/Ring.lean `Piece.tiledL`, linear in the pieces, through a loop's `@[irreducible]` trip theorem too), so they cover it. -/
theorem cover0_A_6 (c : Dev nD) (i : grid0.Coords) (arg2 : Memref sig .tc .vmem S1x1024x512 .f32) (harg2 : arg2.IsWhole) (arg3 : Memref sig .tc .vmem S1x1024x1 .f32) (harg3 : arg3.IsWhole) (arg4 : Memref sig .tc .vmem S1x1024x1 .f32) (harg4 : arg4.IsWhole) (arg5 : Memref sig .tc .vmem S3072x1024 .f32) (harg5 : arg5.IsWhole) (arg6 : Memref sig .tc .vmem S16x512x64 .f32) (harg6 : arg6.IsWhole) (arg7 : Memref sig .tc .vmem S16x512x64 .f32) (harg7 : arg7.IsWhole) (arg8 : Memref sig .tc .vmem S16x512x64 .f32) (harg8 : arg8.IsWhole) (arg9 : Memref sig .tc .vmem S1x1024x512 .f32) (harg9 : arg9.IsWhole) (arg10 : Memref sig .tc .vmem S1x1x16x64 .f32) (harg10 : arg10.IsWhole) (hc0 : cond0_0 i) (hc1 : ¬cond0_1 i)
    (x0 : Vec F S1x1024x512 .f32) (x1 : Vec F S1x1024x1 .f32) (x2 : Vec F S1x1024x1 .f32) (x3 : Vec F S3072x1024 .f32) (y : S16x512x64.Idx) :
    ∃ pc ∈ (kernelRun0_A c i arg2 harg2 arg3 harg3 arg4 harg4 arg5 harg5 arg6 harg6 arg7 harg7 arg8 harg8 arg9 harg9 arg10 harg10 hc0 hc1 x0 x1 x2 x3).2.2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3).2.2.1 S1x512x64.size (by sl_kernel_rfl) y

/-- What case A leaves in output 6's staging buffer: its pieces read back over junk. -/
def out0_A_6 (c : Dev nD) (i : grid0.Coords) (arg2 : Memref sig .tc .vmem S1x1024x512 .f32) (harg2 : arg2.IsWhole) (arg3 : Memref sig .tc .vmem S1x1024x1 .f32) (harg3 : arg3.IsWhole) (arg4 : Memref sig .tc .vmem S1x1024x1 .f32) (harg4 : arg4.IsWhole) (arg5 : Memref sig .tc .vmem S3072x1024 .f32) (harg5 : arg5.IsWhole) (arg6 : Memref sig .tc .vmem S16x512x64 .f32) (harg6 : arg6.IsWhole) (arg7 : Memref sig .tc .vmem S16x512x64 .f32) (harg7 : arg7.IsWhole) (arg8 : Memref sig .tc .vmem S16x512x64 .f32) (harg8 : arg8.IsWhole) (arg9 : Memref sig .tc .vmem S1x1024x512 .f32) (harg9 : arg9.IsWhole) (arg10 : Memref sig .tc .vmem S1x1x16x64 .f32) (harg10 : arg10.IsWhole) (hc0 : cond0_0 i) (hc1 : ¬cond0_1 i)
    (x0 : Vec F S1x1024x512 .f32) (x1 : Vec F S1x1024x1 .f32) (x2 : Vec F S1x1024x1 .f32) (x3 : Vec F S3072x1024 .f32) : Vec F S16x512x64 .f32 :=
  VO0_6.read (Elt F) (VO0_6.writes (Elt F) VO0_6.junk (kernelRun0_A c i arg2 harg2 arg3 harg3 arg4 harg4 arg5 harg5 arg6 harg6 arg7 harg7 arg8 harg8 arg9 harg9 arg10 harg10 hc0 hc1 x0 x1 x2 x3).2.2.1)

/-- Case A's pieces for output 7 tile its block (16 stores of `S1x64x512`, checked by the kernel's evaluation: Lib/Ring.lean `Piece.tiledL`, linear in the pieces, through a loop's `@[irreducible]` trip theorem too), so they cover it. -/
theorem cover0_A_7 (c : Dev nD) (i : grid0.Coords) (arg2 : Memref sig .tc .vmem S1x1024x512 .f32) (harg2 : arg2.IsWhole) (arg3 : Memref sig .tc .vmem S1x1024x1 .f32) (harg3 : arg3.IsWhole) (arg4 : Memref sig .tc .vmem S1x1024x1 .f32) (harg4 : arg4.IsWhole) (arg5 : Memref sig .tc .vmem S3072x1024 .f32) (harg5 : arg5.IsWhole) (arg6 : Memref sig .tc .vmem S16x512x64 .f32) (harg6 : arg6.IsWhole) (arg7 : Memref sig .tc .vmem S16x512x64 .f32) (harg7 : arg7.IsWhole) (arg8 : Memref sig .tc .vmem S16x512x64 .f32) (harg8 : arg8.IsWhole) (arg9 : Memref sig .tc .vmem S1x1024x512 .f32) (harg9 : arg9.IsWhole) (arg10 : Memref sig .tc .vmem S1x1x16x64 .f32) (harg10 : arg10.IsWhole) (hc0 : cond0_0 i) (hc1 : ¬cond0_1 i)
    (x0 : Vec F S1x1024x512 .f32) (x1 : Vec F S1x1024x1 .f32) (x2 : Vec F S1x1024x1 .f32) (x3 : Vec F S3072x1024 .f32) (y : S1x1024x512.Idx) :
    ∃ pc ∈ (kernelRun0_A c i arg2 harg2 arg3 harg3 arg4 harg4 arg5 harg5 arg6 harg6 arg7 harg7 arg8 harg8 arg9 harg9 arg10 harg10 hc0 hc1 x0 x1 x2 x3).2.2.2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3).2.2.2.1 S1x64x512.size (by sl_kernel_rfl) y

/-- What case A leaves in output 7's staging buffer: its pieces read back over junk. -/
def out0_A_7 (c : Dev nD) (i : grid0.Coords) (arg2 : Memref sig .tc .vmem S1x1024x512 .f32) (harg2 : arg2.IsWhole) (arg3 : Memref sig .tc .vmem S1x1024x1 .f32) (harg3 : arg3.IsWhole) (arg4 : Memref sig .tc .vmem S1x1024x1 .f32) (harg4 : arg4.IsWhole) (arg5 : Memref sig .tc .vmem S3072x1024 .f32) (harg5 : arg5.IsWhole) (arg6 : Memref sig .tc .vmem S16x512x64 .f32) (harg6 : arg6.IsWhole) (arg7 : Memref sig .tc .vmem S16x512x64 .f32) (harg7 : arg7.IsWhole) (arg8 : Memref sig .tc .vmem S16x512x64 .f32) (harg8 : arg8.IsWhole) (arg9 : Memref sig .tc .vmem S1x1024x512 .f32) (harg9 : arg9.IsWhole) (arg10 : Memref sig .tc .vmem S1x1x16x64 .f32) (harg10 : arg10.IsWhole) (hc0 : cond0_0 i) (hc1 : ¬cond0_1 i)
    (x0 : Vec F S1x1024x512 .f32) (x1 : Vec F S1x1024x1 .f32) (x2 : Vec F S1x1024x1 .f32) (x3 : Vec F S3072x1024 .f32) : Vec F S1x1024x512 .f32 :=
  VO0_7.read (Elt F) (VO0_7.writes (Elt F) VO0_7.junk (kernelRun0_A c i arg2 harg2 arg3 harg3 arg4 harg4 arg5 harg5 arg6 harg6 arg7 harg7 arg8 harg8 arg9 harg9 arg10 harg10 hc0 hc1 x0 x1 x2 x3).2.2.2.1)

/-- Case A's pieces for output 8 tile its block (1 store of `S1x1x16x64`, checked by the kernel's evaluation: Lib/Ring.lean `Piece.tiledL`, linear in the pieces, through a loop's `@[irreducible]` trip theorem too), so they cover it. -/
theorem cover0_A_8 (c : Dev nD) (i : grid0.Coords) (arg2 : Memref sig .tc .vmem S1x1024x512 .f32) (harg2 : arg2.IsWhole) (arg3 : Memref sig .tc .vmem S1x1024x1 .f32) (harg3 : arg3.IsWhole) (arg4 : Memref sig .tc .vmem S1x1024x1 .f32) (harg4 : arg4.IsWhole) (arg5 : Memref sig .tc .vmem S3072x1024 .f32) (harg5 : arg5.IsWhole) (arg6 : Memref sig .tc .vmem S16x512x64 .f32) (harg6 : arg6.IsWhole) (arg7 : Memref sig .tc .vmem S16x512x64 .f32) (harg7 : arg7.IsWhole) (arg8 : Memref sig .tc .vmem S16x512x64 .f32) (harg8 : arg8.IsWhole) (arg9 : Memref sig .tc .vmem S1x1024x512 .f32) (harg9 : arg9.IsWhole) (arg10 : Memref sig .tc .vmem S1x1x16x64 .f32) (harg10 : arg10.IsWhole) (hc0 : cond0_0 i) (hc1 : ¬cond0_1 i)
    (x0 : Vec F S1x1024x512 .f32) (x1 : Vec F S1x1024x1 .f32) (x2 : Vec F S1x1024x1 .f32) (x3 : Vec F S3072x1024 .f32) (y : S1x1x16x64.Idx) :
    ∃ pc ∈ (kernelRun0_A c i arg2 harg2 arg3 harg3 arg4 harg4 arg5 harg5 arg6 harg6 arg7 harg7 arg8 harg8 arg9 harg9 arg10 harg10 hc0 hc1 x0 x1 x2 x3).2.2.2.2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3).2.2.2.2.1 S1x1x16x64.size (by sl_kernel_rfl) y

/-- What case A leaves in output 8's staging buffer: its pieces read back over junk. -/
def out0_A_8 (c : Dev nD) (i : grid0.Coords) (arg2 : Memref sig .tc .vmem S1x1024x512 .f32) (harg2 : arg2.IsWhole) (arg3 : Memref sig .tc .vmem S1x1024x1 .f32) (harg3 : arg3.IsWhole) (arg4 : Memref sig .tc .vmem S1x1024x1 .f32) (harg4 : arg4.IsWhole) (arg5 : Memref sig .tc .vmem S3072x1024 .f32) (harg5 : arg5.IsWhole) (arg6 : Memref sig .tc .vmem S16x512x64 .f32) (harg6 : arg6.IsWhole) (arg7 : Memref sig .tc .vmem S16x512x64 .f32) (harg7 : arg7.IsWhole) (arg8 : Memref sig .tc .vmem S16x512x64 .f32) (harg8 : arg8.IsWhole) (arg9 : Memref sig .tc .vmem S1x1024x512 .f32) (harg9 : arg9.IsWhole) (arg10 : Memref sig .tc .vmem S1x1x16x64 .f32) (harg10 : arg10.IsWhole) (hc0 : cond0_0 i) (hc1 : ¬cond0_1 i)
    (x0 : Vec F S1x1024x512 .f32) (x1 : Vec F S1x1024x1 .f32) (x2 : Vec F S1x1024x1 .f32) (x3 : Vec F S3072x1024 .f32) : Vec F S1x1x16x64 .f32 :=
  VO0_8.read (Elt F) (VO0_8.writes (Elt F) VO0_8.junk (kernelRun0_A c i arg2 harg2 arg3 harg3 arg4 harg4 arg5 harg5 arg6 harg6 arg7 harg7 arg8 harg8 arg9 harg9 arg10 harg10 hc0 hc1 x0 x1 x2 x3).2.2.2.2.1)

/-- Case B's pieces for output 4 tile its block (16 stores of `S1x512x64`, checked by the kernel's evaluation: Lib/Ring.lean `Piece.tiledL`, linear in the pieces, through a loop's `@[irreducible]` trip theorem too), so they cover it. -/
theorem cover0_B_4 (c : Dev nD) (i : grid0.Coords) (arg2 : Memref sig .tc .vmem S1x1024x512 .f32) (harg2 : arg2.IsWhole) (arg3 : Memref sig .tc .vmem S1x1024x1 .f32) (harg3 : arg3.IsWhole) (arg4 : Memref sig .tc .vmem S1x1024x1 .f32) (harg4 : arg4.IsWhole) (arg5 : Memref sig .tc .vmem S3072x1024 .f32) (harg5 : arg5.IsWhole) (arg6 : Memref sig .tc .vmem S16x512x64 .f32) (harg6 : arg6.IsWhole) (arg7 : Memref sig .tc .vmem S16x512x64 .f32) (harg7 : arg7.IsWhole) (arg8 : Memref sig .tc .vmem S16x512x64 .f32) (harg8 : arg8.IsWhole) (arg9 : Memref sig .tc .vmem S1x1024x512 .f32) (harg9 : arg9.IsWhole) (arg10 : Memref sig .tc .vmem S1x1x16x64 .f32) (harg10 : arg10.IsWhole) (hc0 : ¬cond0_0 i) (hc1 : cond0_1 i)
    (x0 : Vec F S1x1024x512 .f32) (x1 : Vec F S1x1024x1 .f32) (x2 : Vec F S1x1024x1 .f32) (x3 : Vec F S3072x1024 .f32) (xo8 : Vec F S1x1x16x64 .f32) (y : S16x512x64.Idx) :
    ∃ pc ∈ (kernelRun0_B c i arg2 harg2 arg3 harg3 arg4 harg4 arg5 harg5 arg6 harg6 arg7 harg7 arg8 harg8 arg9 harg9 arg10 harg10 hc0 hc1 x0 x1 x2 x3 xo8).1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 xo8).1 S1x512x64.size (by sl_kernel_rfl) y

/-- What case B leaves in output 4's staging buffer: its pieces read back over junk. -/
def out0_B_4 (c : Dev nD) (i : grid0.Coords) (arg2 : Memref sig .tc .vmem S1x1024x512 .f32) (harg2 : arg2.IsWhole) (arg3 : Memref sig .tc .vmem S1x1024x1 .f32) (harg3 : arg3.IsWhole) (arg4 : Memref sig .tc .vmem S1x1024x1 .f32) (harg4 : arg4.IsWhole) (arg5 : Memref sig .tc .vmem S3072x1024 .f32) (harg5 : arg5.IsWhole) (arg6 : Memref sig .tc .vmem S16x512x64 .f32) (harg6 : arg6.IsWhole) (arg7 : Memref sig .tc .vmem S16x512x64 .f32) (harg7 : arg7.IsWhole) (arg8 : Memref sig .tc .vmem S16x512x64 .f32) (harg8 : arg8.IsWhole) (arg9 : Memref sig .tc .vmem S1x1024x512 .f32) (harg9 : arg9.IsWhole) (arg10 : Memref sig .tc .vmem S1x1x16x64 .f32) (harg10 : arg10.IsWhole) (hc0 : ¬cond0_0 i) (hc1 : cond0_1 i)
    (x0 : Vec F S1x1024x512 .f32) (x1 : Vec F S1x1024x1 .f32) (x2 : Vec F S1x1024x1 .f32) (x3 : Vec F S3072x1024 .f32) (xo8 : Vec F S1x1x16x64 .f32) : Vec F S16x512x64 .f32 :=
  VO0_4.read (Elt F) (VO0_4.writes (Elt F) VO0_4.junk (kernelRun0_B c i arg2 harg2 arg3 harg3 arg4 harg4 arg5 harg5 arg6 harg6 arg7 harg7 arg8 harg8 arg9 harg9 arg10 harg10 hc0 hc1 x0 x1 x2 x3 xo8).1)

/-- Case B's pieces for output 5 tile its block (16 stores of `S1x512x64`, checked by the kernel's evaluation: Lib/Ring.lean `Piece.tiledL`, linear in the pieces, through a loop's `@[irreducible]` trip theorem too), so they cover it. -/
theorem cover0_B_5 (c : Dev nD) (i : grid0.Coords) (arg2 : Memref sig .tc .vmem S1x1024x512 .f32) (harg2 : arg2.IsWhole) (arg3 : Memref sig .tc .vmem S1x1024x1 .f32) (harg3 : arg3.IsWhole) (arg4 : Memref sig .tc .vmem S1x1024x1 .f32) (harg4 : arg4.IsWhole) (arg5 : Memref sig .tc .vmem S3072x1024 .f32) (harg5 : arg5.IsWhole) (arg6 : Memref sig .tc .vmem S16x512x64 .f32) (harg6 : arg6.IsWhole) (arg7 : Memref sig .tc .vmem S16x512x64 .f32) (harg7 : arg7.IsWhole) (arg8 : Memref sig .tc .vmem S16x512x64 .f32) (harg8 : arg8.IsWhole) (arg9 : Memref sig .tc .vmem S1x1024x512 .f32) (harg9 : arg9.IsWhole) (arg10 : Memref sig .tc .vmem S1x1x16x64 .f32) (harg10 : arg10.IsWhole) (hc0 : ¬cond0_0 i) (hc1 : cond0_1 i)
    (x0 : Vec F S1x1024x512 .f32) (x1 : Vec F S1x1024x1 .f32) (x2 : Vec F S1x1024x1 .f32) (x3 : Vec F S3072x1024 .f32) (xo8 : Vec F S1x1x16x64 .f32) (y : S16x512x64.Idx) :
    ∃ pc ∈ (kernelRun0_B c i arg2 harg2 arg3 harg3 arg4 harg4 arg5 harg5 arg6 harg6 arg7 harg7 arg8 harg8 arg9 harg9 arg10 harg10 hc0 hc1 x0 x1 x2 x3 xo8).2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 xo8).2.1 S1x512x64.size (by sl_kernel_rfl) y

/-- What case B leaves in output 5's staging buffer: its pieces read back over junk. -/
def out0_B_5 (c : Dev nD) (i : grid0.Coords) (arg2 : Memref sig .tc .vmem S1x1024x512 .f32) (harg2 : arg2.IsWhole) (arg3 : Memref sig .tc .vmem S1x1024x1 .f32) (harg3 : arg3.IsWhole) (arg4 : Memref sig .tc .vmem S1x1024x1 .f32) (harg4 : arg4.IsWhole) (arg5 : Memref sig .tc .vmem S3072x1024 .f32) (harg5 : arg5.IsWhole) (arg6 : Memref sig .tc .vmem S16x512x64 .f32) (harg6 : arg6.IsWhole) (arg7 : Memref sig .tc .vmem S16x512x64 .f32) (harg7 : arg7.IsWhole) (arg8 : Memref sig .tc .vmem S16x512x64 .f32) (harg8 : arg8.IsWhole) (arg9 : Memref sig .tc .vmem S1x1024x512 .f32) (harg9 : arg9.IsWhole) (arg10 : Memref sig .tc .vmem S1x1x16x64 .f32) (harg10 : arg10.IsWhole) (hc0 : ¬cond0_0 i) (hc1 : cond0_1 i)
    (x0 : Vec F S1x1024x512 .f32) (x1 : Vec F S1x1024x1 .f32) (x2 : Vec F S1x1024x1 .f32) (x3 : Vec F S3072x1024 .f32) (xo8 : Vec F S1x1x16x64 .f32) : Vec F S16x512x64 .f32 :=
  VO0_5.read (Elt F) (VO0_5.writes (Elt F) VO0_5.junk (kernelRun0_B c i arg2 harg2 arg3 harg3 arg4 harg4 arg5 harg5 arg6 harg6 arg7 harg7 arg8 harg8 arg9 harg9 arg10 harg10 hc0 hc1 x0 x1 x2 x3 xo8).2.1)

/-- Case B's pieces for output 6 tile its block (16 stores of `S1x512x64`, checked by the kernel's evaluation: Lib/Ring.lean `Piece.tiledL`, linear in the pieces, through a loop's `@[irreducible]` trip theorem too), so they cover it. -/
theorem cover0_B_6 (c : Dev nD) (i : grid0.Coords) (arg2 : Memref sig .tc .vmem S1x1024x512 .f32) (harg2 : arg2.IsWhole) (arg3 : Memref sig .tc .vmem S1x1024x1 .f32) (harg3 : arg3.IsWhole) (arg4 : Memref sig .tc .vmem S1x1024x1 .f32) (harg4 : arg4.IsWhole) (arg5 : Memref sig .tc .vmem S3072x1024 .f32) (harg5 : arg5.IsWhole) (arg6 : Memref sig .tc .vmem S16x512x64 .f32) (harg6 : arg6.IsWhole) (arg7 : Memref sig .tc .vmem S16x512x64 .f32) (harg7 : arg7.IsWhole) (arg8 : Memref sig .tc .vmem S16x512x64 .f32) (harg8 : arg8.IsWhole) (arg9 : Memref sig .tc .vmem S1x1024x512 .f32) (harg9 : arg9.IsWhole) (arg10 : Memref sig .tc .vmem S1x1x16x64 .f32) (harg10 : arg10.IsWhole) (hc0 : ¬cond0_0 i) (hc1 : cond0_1 i)
    (x0 : Vec F S1x1024x512 .f32) (x1 : Vec F S1x1024x1 .f32) (x2 : Vec F S1x1024x1 .f32) (x3 : Vec F S3072x1024 .f32) (xo8 : Vec F S1x1x16x64 .f32) (y : S16x512x64.Idx) :
    ∃ pc ∈ (kernelRun0_B c i arg2 harg2 arg3 harg3 arg4 harg4 arg5 harg5 arg6 harg6 arg7 harg7 arg8 harg8 arg9 harg9 arg10 harg10 hc0 hc1 x0 x1 x2 x3 xo8).2.2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 xo8).2.2.1 S1x512x64.size (by sl_kernel_rfl) y

/-- What case B leaves in output 6's staging buffer: its pieces read back over junk. -/
def out0_B_6 (c : Dev nD) (i : grid0.Coords) (arg2 : Memref sig .tc .vmem S1x1024x512 .f32) (harg2 : arg2.IsWhole) (arg3 : Memref sig .tc .vmem S1x1024x1 .f32) (harg3 : arg3.IsWhole) (arg4 : Memref sig .tc .vmem S1x1024x1 .f32) (harg4 : arg4.IsWhole) (arg5 : Memref sig .tc .vmem S3072x1024 .f32) (harg5 : arg5.IsWhole) (arg6 : Memref sig .tc .vmem S16x512x64 .f32) (harg6 : arg6.IsWhole) (arg7 : Memref sig .tc .vmem S16x512x64 .f32) (harg7 : arg7.IsWhole) (arg8 : Memref sig .tc .vmem S16x512x64 .f32) (harg8 : arg8.IsWhole) (arg9 : Memref sig .tc .vmem S1x1024x512 .f32) (harg9 : arg9.IsWhole) (arg10 : Memref sig .tc .vmem S1x1x16x64 .f32) (harg10 : arg10.IsWhole) (hc0 : ¬cond0_0 i) (hc1 : cond0_1 i)
    (x0 : Vec F S1x1024x512 .f32) (x1 : Vec F S1x1024x1 .f32) (x2 : Vec F S1x1024x1 .f32) (x3 : Vec F S3072x1024 .f32) (xo8 : Vec F S1x1x16x64 .f32) : Vec F S16x512x64 .f32 :=
  VO0_6.read (Elt F) (VO0_6.writes (Elt F) VO0_6.junk (kernelRun0_B c i arg2 harg2 arg3 harg3 arg4 harg4 arg5 harg5 arg6 harg6 arg7 harg7 arg8 harg8 arg9 harg9 arg10 harg10 hc0 hc1 x0 x1 x2 x3 xo8).2.2.1)

/-- Case B's pieces for output 7 tile its block (16 stores of `S1x64x512`, checked by the kernel's evaluation: Lib/Ring.lean `Piece.tiledL`, linear in the pieces, through a loop's `@[irreducible]` trip theorem too), so they cover it. -/
theorem cover0_B_7 (c : Dev nD) (i : grid0.Coords) (arg2 : Memref sig .tc .vmem S1x1024x512 .f32) (harg2 : arg2.IsWhole) (arg3 : Memref sig .tc .vmem S1x1024x1 .f32) (harg3 : arg3.IsWhole) (arg4 : Memref sig .tc .vmem S1x1024x1 .f32) (harg4 : arg4.IsWhole) (arg5 : Memref sig .tc .vmem S3072x1024 .f32) (harg5 : arg5.IsWhole) (arg6 : Memref sig .tc .vmem S16x512x64 .f32) (harg6 : arg6.IsWhole) (arg7 : Memref sig .tc .vmem S16x512x64 .f32) (harg7 : arg7.IsWhole) (arg8 : Memref sig .tc .vmem S16x512x64 .f32) (harg8 : arg8.IsWhole) (arg9 : Memref sig .tc .vmem S1x1024x512 .f32) (harg9 : arg9.IsWhole) (arg10 : Memref sig .tc .vmem S1x1x16x64 .f32) (harg10 : arg10.IsWhole) (hc0 : ¬cond0_0 i) (hc1 : cond0_1 i)
    (x0 : Vec F S1x1024x512 .f32) (x1 : Vec F S1x1024x1 .f32) (x2 : Vec F S1x1024x1 .f32) (x3 : Vec F S3072x1024 .f32) (xo8 : Vec F S1x1x16x64 .f32) (y : S1x1024x512.Idx) :
    ∃ pc ∈ (kernelRun0_B c i arg2 harg2 arg3 harg3 arg4 harg4 arg5 harg5 arg6 harg6 arg7 harg7 arg8 harg8 arg9 harg9 arg10 harg10 hc0 hc1 x0 x1 x2 x3 xo8).2.2.2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 xo8).2.2.2.1 S1x64x512.size (by sl_kernel_rfl) y

/-- What case B leaves in output 7's staging buffer: its pieces read back over junk. -/
def out0_B_7 (c : Dev nD) (i : grid0.Coords) (arg2 : Memref sig .tc .vmem S1x1024x512 .f32) (harg2 : arg2.IsWhole) (arg3 : Memref sig .tc .vmem S1x1024x1 .f32) (harg3 : arg3.IsWhole) (arg4 : Memref sig .tc .vmem S1x1024x1 .f32) (harg4 : arg4.IsWhole) (arg5 : Memref sig .tc .vmem S3072x1024 .f32) (harg5 : arg5.IsWhole) (arg6 : Memref sig .tc .vmem S16x512x64 .f32) (harg6 : arg6.IsWhole) (arg7 : Memref sig .tc .vmem S16x512x64 .f32) (harg7 : arg7.IsWhole) (arg8 : Memref sig .tc .vmem S16x512x64 .f32) (harg8 : arg8.IsWhole) (arg9 : Memref sig .tc .vmem S1x1024x512 .f32) (harg9 : arg9.IsWhole) (arg10 : Memref sig .tc .vmem S1x1x16x64 .f32) (harg10 : arg10.IsWhole) (hc0 : ¬cond0_0 i) (hc1 : cond0_1 i)
    (x0 : Vec F S1x1024x512 .f32) (x1 : Vec F S1x1024x1 .f32) (x2 : Vec F S1x1024x1 .f32) (x3 : Vec F S3072x1024 .f32) (xo8 : Vec F S1x1x16x64 .f32) : Vec F S1x1024x512 .f32 :=
  VO0_7.read (Elt F) (VO0_7.writes (Elt F) VO0_7.junk (kernelRun0_B c i arg2 harg2 arg3 harg3 arg4 harg4 arg5 harg5 arg6 harg6 arg7 harg7 arg8 harg8 arg9 harg9 arg10 harg10 hc0 hc1 x0 x1 x2 x3 xo8).2.2.2.1)

/-- Case B's pieces for output 8 tile its block (1 store of `S1x1x16x64`, checked by the kernel's evaluation: Lib/Ring.lean `Piece.tiledL`, linear in the pieces, through a loop's `@[irreducible]` trip theorem too), so they cover it. -/
theorem cover0_B_8 (c : Dev nD) (i : grid0.Coords) (arg2 : Memref sig .tc .vmem S1x1024x512 .f32) (harg2 : arg2.IsWhole) (arg3 : Memref sig .tc .vmem S1x1024x1 .f32) (harg3 : arg3.IsWhole) (arg4 : Memref sig .tc .vmem S1x1024x1 .f32) (harg4 : arg4.IsWhole) (arg5 : Memref sig .tc .vmem S3072x1024 .f32) (harg5 : arg5.IsWhole) (arg6 : Memref sig .tc .vmem S16x512x64 .f32) (harg6 : arg6.IsWhole) (arg7 : Memref sig .tc .vmem S16x512x64 .f32) (harg7 : arg7.IsWhole) (arg8 : Memref sig .tc .vmem S16x512x64 .f32) (harg8 : arg8.IsWhole) (arg9 : Memref sig .tc .vmem S1x1024x512 .f32) (harg9 : arg9.IsWhole) (arg10 : Memref sig .tc .vmem S1x1x16x64 .f32) (harg10 : arg10.IsWhole) (hc0 : ¬cond0_0 i) (hc1 : cond0_1 i)
    (x0 : Vec F S1x1024x512 .f32) (x1 : Vec F S1x1024x1 .f32) (x2 : Vec F S1x1024x1 .f32) (x3 : Vec F S3072x1024 .f32) (xo8 : Vec F S1x1x16x64 .f32) (y : S1x1x16x64.Idx) :
    ∃ pc ∈ (kernelRun0_B c i arg2 harg2 arg3 harg3 arg4 harg4 arg5 harg5 arg6 harg6 arg7 harg7 arg8 harg8 arg9 harg9 arg10 harg10 hc0 hc1 x0 x1 x2 x3 xo8).2.2.2.2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 xo8).2.2.2.2.1 S1x1x16x64.size (by sl_kernel_rfl) y

/-- What case B leaves in output 8's staging buffer: its pieces read back over junk. -/
def out0_B_8 (c : Dev nD) (i : grid0.Coords) (arg2 : Memref sig .tc .vmem S1x1024x512 .f32) (harg2 : arg2.IsWhole) (arg3 : Memref sig .tc .vmem S1x1024x1 .f32) (harg3 : arg3.IsWhole) (arg4 : Memref sig .tc .vmem S1x1024x1 .f32) (harg4 : arg4.IsWhole) (arg5 : Memref sig .tc .vmem S3072x1024 .f32) (harg5 : arg5.IsWhole) (arg6 : Memref sig .tc .vmem S16x512x64 .f32) (harg6 : arg6.IsWhole) (arg7 : Memref sig .tc .vmem S16x512x64 .f32) (harg7 : arg7.IsWhole) (arg8 : Memref sig .tc .vmem S16x512x64 .f32) (harg8 : arg8.IsWhole) (arg9 : Memref sig .tc .vmem S1x1024x512 .f32) (harg9 : arg9.IsWhole) (arg10 : Memref sig .tc .vmem S1x1x16x64 .f32) (harg10 : arg10.IsWhole) (hc0 : ¬cond0_0 i) (hc1 : cond0_1 i)
    (x0 : Vec F S1x1024x512 .f32) (x1 : Vec F S1x1024x1 .f32) (x2 : Vec F S1x1024x1 .f32) (x3 : Vec F S3072x1024 .f32) (xo8 : Vec F S1x1x16x64 .f32) : Vec F S1x1x16x64 .f32 :=
  VO0_8.read (Elt F) (VO0_8.writes (Elt F) VO0_8.junk (kernelRun0_B c i arg2 harg2 arg3 harg3 arg4 harg4 arg5 harg5 arg6 harg6 arg7 harg7 arg8 harg8 arg9 harg9 arg10 harg10 hc0 hc1 x0 x1 x2 x3 xo8).2.2.2.2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Vec F S16x512x64 .f32 × Vec F S16x512x64 .f32 × Vec F S16x512x64 .f32 × Vec F S1x1024x512 .f32 × Vec F S1x1x16x64 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) ((hcond0_0 ⟨0, hn⟩).mpr (Nat.zero_mod _)) (fun h => (fun h => by (try dsimp only at h); omega) ((hcond0_1 ⟨0, hn⟩).mp h)) (iblk V c 0 ⟨0, hn⟩) (iblk V c 1 ⟨0, hn⟩) (iblk V c 2 ⟨0, hn⟩) (iblk V c 3 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) ((hcond0_0 ⟨0, hn⟩).mpr (Nat.zero_mod _)) (fun h => (fun h => by (try dsimp only at h); omega) ((hcond0_1 ⟨0, hn⟩).mp h)) (iblk V c 0 ⟨0, hn⟩) (iblk V c 1 ⟨0, hn⟩) (iblk V c 2 ⟨0, hn⟩) (iblk V c 3 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) ((hcond0_0 ⟨0, hn⟩).mpr (Nat.zero_mod _)) (fun h => (fun h => by (try dsimp only at h); omega) ((hcond0_1 ⟨0, hn⟩).mp h)) (iblk V c 0 ⟨0, hn⟩) (iblk V c 1 ⟨0, hn⟩) (iblk V c 2 ⟨0, hn⟩) (iblk V c 3 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) ((hcond0_0 ⟨0, hn⟩).mpr (Nat.zero_mod _)) (fun h => (fun h => by (try dsimp only at h); omega) ((hcond0_1 ⟨0, hn⟩).mp h)) (iblk V c 0 ⟨0, hn⟩) (iblk V c 1 ⟨0, hn⟩) (iblk V c 2 ⟨0, hn⟩) (iblk V c 3 ⟨0, hn⟩), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) ((hcond0_0 ⟨0, hn⟩).mpr (Nat.zero_mod _)) (fun h => (fun h => by (try dsimp only at h); omega) ((hcond0_1 ⟨0, hn⟩).mp h)) (iblk V c 0 ⟨0, hn⟩) (iblk V c 1 ⟨0, hn⟩) (iblk V c 2 ⟨0, hn⟩) (iblk V c 3 ⟨0, hn⟩))
  | n + 1, hn =>
    if h0 : (n + 1) % 8 = 0 then
      if h1 : 1 ≤ (n + 1) % 8 then
        False.elim (by have hN : n + 1 < 32 := lt_of_lt_of_eq hn (show cfg0.N = 32 from N_0); omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) ((hcond0_0 ⟨n + 1, hn⟩).mpr h0) (fun h => h1 ((hcond0_1 ⟨n + 1, hn⟩).mp h)) (iblk V c 0 ⟨n + 1, hn⟩) (iblk V c 1 ⟨n + 1, hn⟩) (iblk V c 2 ⟨n + 1, hn⟩) (iblk V c 3 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) ((hcond0_0 ⟨n + 1, hn⟩).mpr h0) (fun h => h1 ((hcond0_1 ⟨n + 1, hn⟩).mp h)) (iblk V c 0 ⟨n + 1, hn⟩) (iblk V c 1 ⟨n + 1, hn⟩) (iblk V c 2 ⟨n + 1, hn⟩) (iblk V c 3 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) ((hcond0_0 ⟨n + 1, hn⟩).mpr h0) (fun h => h1 ((hcond0_1 ⟨n + 1, hn⟩).mp h)) (iblk V c 0 ⟨n + 1, hn⟩) (iblk V c 1 ⟨n + 1, hn⟩) (iblk V c 2 ⟨n + 1, hn⟩) (iblk V c 3 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) ((hcond0_0 ⟨n + 1, hn⟩).mpr h0) (fun h => h1 ((hcond0_1 ⟨n + 1, hn⟩).mp h)) (iblk V c 0 ⟨n + 1, hn⟩) (iblk V c 1 ⟨n + 1, hn⟩) (iblk V c 2 ⟨n + 1, hn⟩) (iblk V c 3 ⟨n + 1, hn⟩), out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) ((hcond0_0 ⟨n + 1, hn⟩).mpr h0) (fun h => h1 ((hcond0_1 ⟨n + 1, hn⟩).mp h)) (iblk V c 0 ⟨n + 1, hn⟩) (iblk V c 1 ⟨n + 1, hn⟩) (iblk V c 2 ⟨n + 1, hn⟩) (iblk V c 3 ⟨n + 1, hn⟩))
    else
      if h1 : 1 ≤ (n + 1) % 8 then
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (fun h => h0 ((hcond0_0 ⟨n + 1, hn⟩).mp h)) ((hcond0_1 ⟨n + 1, hn⟩).mpr h1) (iblk V c 0 ⟨n + 1, hn⟩) (iblk V c 1 ⟨n + 1, hn⟩) (iblk V c 2 ⟨n + 1, hn⟩) (iblk V c 3 ⟨n + 1, hn⟩) (outsAt0 c n (Nat.lt_of_succ_lt hn)).2.2.2.2, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (fun h => h0 ((hcond0_0 ⟨n + 1, hn⟩).mp h)) ((hcond0_1 ⟨n + 1, hn⟩).mpr h1) (iblk V c 0 ⟨n + 1, hn⟩) (iblk V c 1 ⟨n + 1, hn⟩) (iblk V c 2 ⟨n + 1, hn⟩) (iblk V c 3 ⟨n + 1, hn⟩) (outsAt0 c n (Nat.lt_of_succ_lt hn)).2.2.2.2, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (fun h => h0 ((hcond0_0 ⟨n + 1, hn⟩).mp h)) ((hcond0_1 ⟨n + 1, hn⟩).mpr h1) (iblk V c 0 ⟨n + 1, hn⟩) (iblk V c 1 ⟨n + 1, hn⟩) (iblk V c 2 ⟨n + 1, hn⟩) (iblk V c 3 ⟨n + 1, hn⟩) (outsAt0 c n (Nat.lt_of_succ_lt hn)).2.2.2.2, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (fun h => h0 ((hcond0_0 ⟨n + 1, hn⟩).mp h)) ((hcond0_1 ⟨n + 1, hn⟩).mpr h1) (iblk V c 0 ⟨n + 1, hn⟩) (iblk V c 1 ⟨n + 1, hn⟩) (iblk V c 2 ⟨n + 1, hn⟩) (iblk V c 3 ⟨n + 1, hn⟩) (outsAt0 c n (Nat.lt_of_succ_lt hn)).2.2.2.2, out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (fun h => h0 ((hcond0_0 ⟨n + 1, hn⟩).mp h)) ((hcond0_1 ⟨n + 1, hn⟩).mpr h1) (iblk V c 0 ⟨n + 1, hn⟩) (iblk V c 1 ⟨n + 1, hn⟩) (iblk V c 2 ⟨n + 1, hn⟩) (iblk V c 3 ⟨n + 1, hn⟩) (outsAt0 c n (Nat.lt_of_succ_lt hn)).2.2.2.2)
      else
        False.elim (by have hN : n + 1 < 32 := lt_of_lt_of_eq hn (show cfg0.N = 32 from N_0); omega)

/-- `outsAt0` at a point of case A: that case's contents. -/
theorem outsAt0_A (c : Dev nD) (t : Fin cfg0.N) (h0 : t.val % 8 = 0) (h1 : ¬1 ≤ t.val % 8) :
    outsAt0 V c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (fun h => h1 ((hcond0_1 t).mp h)) (iblk V c 0 t) (iblk V c 1 t) (iblk V c 2 t) (iblk V c 3 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (fun h => h1 ((hcond0_1 t).mp h)) (iblk V c 0 t) (iblk V c 1 t) (iblk V c 2 t) (iblk V c 3 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (fun h => h1 ((hcond0_1 t).mp h)) (iblk V c 0 t) (iblk V c 1 t) (iblk V c 2 t) (iblk V c 3 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (fun h => h1 ((hcond0_1 t).mp h)) (iblk V c 0 t) (iblk V c 1 t) (iblk V c 2 t) (iblk V c 3 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (fun h => h1 ((hcond0_1 t).mp h)) (iblk V c 0 t) (iblk V c 1 t) (iblk V c 2 t) (iblk V c 3 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 8 = 0) (h1 : 1 ≤ t.val % 8) :
    outsAt0 V c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) ((hcond0_1 t).mpr h1) (iblk V c 0 t) (iblk V c 1 t) (iblk V c 2 t) (iblk V c 3 t) (outsAt0 V c (t.val - 1) (Nat.lt_of_le_of_lt (Nat.sub_le _ _) t.isLt)).2.2.2.2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) ((hcond0_1 t).mpr h1) (iblk V c 0 t) (iblk V c 1 t) (iblk V c 2 t) (iblk V c 3 t) (outsAt0 V c (t.val - 1) (Nat.lt_of_le_of_lt (Nat.sub_le _ _) t.isLt)).2.2.2.2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) ((hcond0_1 t).mpr h1) (iblk V c 0 t) (iblk V c 1 t) (iblk V c 2 t) (iblk V c 3 t) (outsAt0 V c (t.val - 1) (Nat.lt_of_le_of_lt (Nat.sub_le _ _) t.isLt)).2.2.2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) ((hcond0_1 t).mpr h1) (iblk V c 0 t) (iblk V c 1 t) (iblk V c 2 t) (iblk V c 3 t) (outsAt0 V c (t.val - 1) (Nat.lt_of_le_of_lt (Nat.sub_le _ _) t.isLt)).2.2.2.2, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) ((hcond0_1 t).mpr h1) (iblk V c 0 t) (iblk V c 1 t) (iblk V c 2 t) (iblk V c 3 t) (outsAt0 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt0 V c t.val t.isLt).1
    | ⟨5, _⟩ => (outsAt0 V c t.val t.isLt).2.1
    | ⟨6, _⟩ => (outsAt0 V c t.val t.isLt).2.2.1
    | ⟨7, _⟩ => (outsAt0 V c t.val t.isLt).2.2.2.1
    | ⟨8, _⟩ => (outsAt0 V c t.val t.isLt).2.2.2.2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dat V c).A w = V c (Pipeline.arrRef spec0 w) := by
  dsimp only [dat]

/-- What the body leaves, window by window (the proof data's `match` reduced by `dsimp`). -/
theorem after0_0 (c : Dev nD) (t : Fin cfg0.N) : (dat V c).after 0 t = iblk V c 0 t := by dsimp only [dat]
theorem after0_1 (c : Dev nD) (t : Fin cfg0.N) : (dat V c).after 1 t = iblk V c 1 t := by dsimp only [dat]
theorem after0_2 (c : Dev nD) (t : Fin cfg0.N) : (dat V c).after 2 t = iblk V c 2 t := by dsimp only [dat]
theorem after0_3 (c : Dev nD) (t : Fin cfg0.N) : (dat V c).after 3 t = iblk V c 3 t := by dsimp only [dat]
theorem after0_4 (c : Dev nD) (t : Fin cfg0.N) : (dat V c).after 4 t = (outsAt0 V c t.val t.isLt).1 := by dsimp only [dat]
theorem after0_5 (c : Dev nD) (t : Fin cfg0.N) : (dat V c).after 5 t = (outsAt0 V c t.val t.isLt).2.1 := by dsimp only [dat]
theorem after0_6 (c : Dev nD) (t : Fin cfg0.N) : (dat V c).after 6 t = (outsAt0 V c t.val t.isLt).2.2.1 := by dsimp only [dat]
theorem after0_7 (c : Dev nD) (t : Fin cfg0.N) : (dat V c).after 7 t = (outsAt0 V c t.val t.isLt).2.2.2.1 := by dsimp only [dat]
theorem after0_8 (c : Dev nD) (t : Fin cfg0.N) : (dat V c).after 8 t = (outsAt0 V c t.val t.isLt).2.2.2.2 := by dsimp only [dat]

/-- Each input's current staging buffer holds its block at every point, fetched there or not (`beforeK_W_of`). -/
theorem before0_0 (c : Dev nD) (t : Fin cfg0.N) (d) : (dat V c).before 0 t d = iblk V c 0 t :=
  before0_0_of V (dat V c) (A_eq V c 0) (after0_0 V c) t d
theorem before0_1 (c : Dev nD) (t : Fin cfg0.N) (d) : (dat V c).before 1 t d = iblk V c 1 t :=
  before0_1_of V (dat V c) (A_eq V c 1) (after0_1 V c) t d
theorem before0_2 (c : Dev nD) (t : Fin cfg0.N) (d) : (dat V c).before 2 t d = iblk V c 2 t :=
  before0_2_of V (dat V c) (A_eq V c 2) (after0_2 V c) t d
theorem before0_3 (c : Dev nD) (t : Fin cfg0.N) (d) : (dat V c).before 3 t d = iblk V c 3 t :=
  before0_3_of V (dat V c) (A_eq V c 3) (after0_3 V c) t d

/-- Output 8's contents CARRY through the points that leave it idle: at such a point, its buffer not fresh, the proof data's
    `after` is the point before's (the case there stores nothing into the window and its term says so; a case that stores
    into it is not idle there by `liveAt0_8_κ`) — the hypothesis of Lib/Pipeline/TableIdle.lean `Dat.before_out_traj`. -/
theorem hcarry0_8 (c : Dev nD) : ∀ (t : Fin cfg0.N) (_ : t.val ≠ 0), cfg0.idle 8 (grid0.coords t) = true → cfg0.fresh 8 t.val = false →
    (dat V c).after 8 t = (dat V c).after 8 ⟨t.val - 1, by omega⟩ := by
  intro t _ hi _
  have hN : t.val < 32 := lt_of_lt_of_eq t.isLt (show cfg0.N = 32 from N_0)
  rw [after0_8, after0_8]
  by_cases h0 : t.val % 8 = 0
  · by_cases h1 : 1 ≤ t.val % 8
    · exfalso; omega
    · rw [liveAt0_8_A t ((hcond0_0 t).mpr h0) (fun h => h1 ((hcond0_1 t).mp h))] at hi
      exact absurd hi Bool.false_ne_true
  · by_cases h1 : 1 ≤ t.val % 8
    · rw [liveAt0_8_B t (fun h => h0 ((hcond0_0 t).mp h)) ((hcond0_1 t).mpr h1)] at hi
      exact absurd hi Bool.false_ne_true
    · exfalso; omega
/-- At a point of case B output 8's current staging buffer holds what the point before left: the buffer is not fresh
    there (`notFresh0_8_B`: stored into since the region's entry or the last write-back, carried through the points that
    leave it idle by `hcarry0_8`; Lib/Pipeline/TableIdle.lean `Dat.before_out_traj`). -/
theorem before0_8_B (c : Dev nD) (t : Fin cfg0.N) (h0 : ¬t.val % 8 = 0) (h1 : 1 ≤ t.val % 8) (d) :
    (dat V c).before 8 t d = (outsAt0 V c (t.val - 1) (Nat.lt_of_le_of_lt (Nat.sub_le _ _) t.isLt)).2.2.2.2 := by
  rw [Dat.before_out_traj _ 8 rfl (fun _ _ => rfl) (hcarry0_8 V c) t.val t rfl d,
    if_neg (by rw [notFresh0_8_B t (fun h => h0 ((hcond0_0 t).mp h)) ((hcond0_1 t).mpr h1)]; exact Bool.false_ne_true)]
  dsimp only [dat]

/-! ## The body obligation, at a generic point -/

/-- What the body is called with at point `t` (Lib/Pipeline.lean `BodyObligation`'s precondition, the windows one by one), -/
def bodyPre (c : Dev nD) (t : Fin cfg0.N) : sProp 𝕄 :=
  iprop((dat V c).Φ t.castSucc ∗ (dat V c).owesAt () t.castSucc
    ∗ (∃ d, owns (c : Thread nD τ) (ms0_0 t) fullShare ((dat V c).before 0 t d))
    ∗ (∃ d, owns (c : Thread nD τ) (ms0_1 t) fullShare ((dat V c).before 1 t d))
    ∗ (∃ d, owns (c : Thread nD τ) (ms0_2 t) fullShare ((dat V c).before 2 t d))
    ∗ (∃ d, owns (c : Thread nD τ) (ms0_3 t) fullShare ((dat V c).before 3 t d))
    ∗ (∃ d, owns (c : Thread nD τ) (ms0_4 t) fullShare ((dat V c).before 4 t d))
    ∗ (∃ d, owns (c : Thread nD τ) (ms0_5 t) fullShare ((dat V c).before 5 t d))
    ∗ (∃ d, owns (c : Thread nD τ) (ms0_6 t) fullShare ((dat V c).before 6 t d))
    ∗ (∃ d, owns (c : Thread nD τ) (ms0_7 t) fullShare ((dat V c).before 7 t d))
    ∗ (∃ d, owns (c : Thread nD τ) (ms0_8 t) fullShare ((dat V c).before 8 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t)

set_option maxHeartbeats 1600000 in
/-- The body at any point: the inputs' memrefs hold their blocks (`before0_W`); the closed forms say which case the point is in (`by_cases`), an output the case reads before covering holds what the point before left (`before0_W_κ`); so the
    run applies; the invariant passes through unread; the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3]
  rw [show (dat V c).Φ t.succ = (dat V c).Φ t.castSucc from rfl,
    show (dat V c).owesAt () t.succ = (dat V c).owesAt () t.castSucc from rfl]
  have hN : t.val < 32 := lt_of_lt_of_eq t.isLt (show cfg0.N = 32 from N_0)
  by_cases h0 : t.val % 8 = 0
  · by_cases h1 : 1 ≤ t.val % 8
    · exfalso; omega
    · rw [show (dat V c).leavesExact 0 t = owns (c : Thread nD τ) (ms0_0 t) fullShare ((dat V c).after 0 t) from by
      unfold Dat.leavesExact; rw [liveAt0_0 t], after0_0]
      rw [show (dat V c).leavesExact 1 t = owns (c : Thread nD τ) (ms0_1 t) fullShare ((dat V c).after 1 t) from by
      unfold Dat.leavesExact; rw [liveAt0_1 t], after0_1]
      rw [show (dat V c).leavesExact 2 t = owns (c : Thread nD τ) (ms0_2 t) fullShare ((dat V c).after 2 t) from by
      unfold Dat.leavesExact; rw [liveAt0_2 t], after0_2]
      rw [show (dat V c).leavesExact 3 t = owns (c : Thread nD τ) (ms0_3 t) fullShare ((dat V c).after 3 t) from by
      unfold Dat.leavesExact; rw [liveAt0_3 t], after0_3]
      rw [show (dat V c).leavesExact 4 t = owns (c : Thread nD τ) (ms0_4 t) fullShare ((dat V c).after 4 t) from by
      unfold Dat.leavesExact; rw [liveAt0_4 t], after0_4]
      rw [show (dat V c).leavesExact 5 t = owns (c : Thread nD τ) (ms0_5 t) fullShare ((dat V c).after 5 t) from by
      unfold Dat.leavesExact; rw [liveAt0_5 t], after0_5]
      rw [show (dat V c).leavesExact 6 t = owns (c : Thread nD τ) (ms0_6 t) fullShare ((dat V c).after 6 t) from by
      unfold Dat.leavesExact; rw [liveAt0_6 t], after0_6]
      rw [show (dat V c).leavesExact 7 t = owns (c : Thread nD τ) (ms0_7 t) fullShare ((dat V c).after 7 t) from by
      unfold Dat.leavesExact; rw [liveAt0_7 t], after0_7]
      rw [show (dat V c).leavesExact 8 t = owns (c : Thread nD τ) (ms0_8 t) fullShare ((dat V c).after 8 t) from by
      unfold Dat.leavesExact; rw [liveAt0_8_A t ((hcond0_0 t).mpr h0) (fun h => h1 ((hcond0_1 t).mp h))], after0_8]
      rw [outsAt0_A V c t h0 h1]
      unfold out0_A_4 out0_A_5 out0_A_6 out0_A_7 out0_A_8; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) _ _ _ _ _ _ _ _ _ _ _ _ _ _ _ _ _ _ ((hcond0_0 t).mpr h0) (fun h => h1 ((hcond0_1 t).mp h)) (iblk V c 0 t) (iblk V c 1 t) (iblk V c 2 t) (iblk V c 3 t)).2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [H7]; · iexists _; iexact H7
      isplitl [H8]; · iexists _; iexact H8
      iintro ⟨H0, H1, H2, H3, ⟨%e4, H4⟩, ⟨%e5, H5⟩, ⟨%e6, H6⟩, ⟨%e7, H7⟩, ⟨%e8, H8⟩⟩
      isplitl [HΦ]; · iexact HΦ
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_A_4 c _ _ _ _ _ _ _ _ _ _ _ _ _ _ _ _ _ _ _ _ _ _ _ _ _)
      isplitl [H5]
      · unfold owns; iexists _; isplitr
        swap; · iexact H5
        ipureintro; exact View.read_writes_of_cover _ _ _ _ _ (cover0_A_5 c _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _ _ _)
      isplitl [H7]
      · unfold owns; iexists _; isplitr
        swap; · iexact H7
        ipureintro; exact View.read_writes_of_cover _ _ _ _ _ (cover0_A_7 c _ _ _ _ _ _ _ _ _ _ _ _ _ _ _ _ _ _ _ _ _ _ _ _ _)
      unfold owns; iexists _; isplitr
      swap; · iexact H8
      ipureintro; exact View.read_writes_of_cover _ _ _ _ _ (cover0_A_8 c _ _ _ _ _ _ _ _ _ _ _ _ _ _ _ _ _ _ _ _ _ _ _ _ _)
  · by_cases h1 : 1 ≤ t.val % 8
    · rw [show (dat V c).leavesExact 0 t = owns (c : Thread nD τ) (ms0_0 t) fullShare ((dat V c).after 0 t) from by
      unfold Dat.leavesExact; rw [liveAt0_0 t], after0_0]
      rw [show (dat V c).leavesExact 1 t = owns (c : Thread nD τ) (ms0_1 t) fullShare ((dat V c).after 1 t) from by
      unfold Dat.leavesExact; rw [liveAt0_1 t], after0_1]
      rw [show (dat V c).leavesExact 2 t = owns (c : Thread nD τ) (ms0_2 t) fullShare ((dat V c).after 2 t) from by
      unfold Dat.leavesExact; rw [liveAt0_2 t], after0_2]
      rw [show (dat V c).leavesExact 3 t = owns (c : Thread nD τ) (ms0_3 t) fullShare ((dat V c).after 3 t) from by
      unfold Dat.leavesExact; rw [liveAt0_3 t], after0_3]
      rw [show (dat V c).leavesExact 4 t = owns (c : Thread nD τ) (ms0_4 t) fullShare ((dat V c).after 4 t) from by
      unfold Dat.leavesExact; rw [liveAt0_4 t], after0_4]
      rw [show (dat V c).leavesExact 5 t = owns (c : Thread nD τ) (ms0_5 t) fullShare ((dat V c).after 5 t) from by
      unfold Dat.leavesExact; rw [liveAt0_5 t], after0_5]
      rw [show (dat V c).leavesExact 6 t = owns (c : Thread nD τ) (ms0_6 t) fullShare ((dat V c).after 6 t) from by
      unfold Dat.leavesExact; rw [liveAt0_6 t], after0_6]
      rw [show (dat V c).leavesExact 7 t = owns (c : Thread nD τ) (ms0_7 t) fullShare ((dat V c).after 7 t) from by
      unfold Dat.leavesExact; rw [liveAt0_7 t], after0_7]
      rw [show (dat V c).leavesExact 8 t = owns (c : Thread nD τ) (ms0_8 t) fullShare ((dat V c).after 8 t) from by
      unfold Dat.leavesExact; rw [liveAt0_8_B t (fun h => h0 ((hcond0_0 t).mp h)) ((hcond0_1 t).mpr h1)], after0_8]
      rw [outsAt0_B V c t h0 h1]
      simp only [before0_8_B V c t h0 h1]
      unfold out0_B_4 out0_B_5 out0_B_6 out0_B_7 out0_B_8; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c (grid0.coords t) _ _ _ _ _ _ _ _ _ _ _ _ _ _ _ _ _ _ (fun h => h0 ((hcond0_0 t).mp h)) ((hcond0_1 t).mpr h1) (iblk V c 0 t) (iblk V c 1 t) (iblk V c 2 t) (iblk V c 3 t) _).2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [H7]; · iexists _; iexact H7
      isplitl [H8]; · iexact H8
      iintro ⟨H0, H1, H2, H3, ⟨%e4, H4⟩, ⟨%e5, H5⟩, ⟨%e6, H6⟩, ⟨%e7, H7⟩, ⟨%e8, H8⟩⟩
      isplitl [HΦ]; · iexact HΦ
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_B_4 c _ _ _ _ _ _ _ _ _ _ _ _ _ _ _ _ _ _ _ _ _ _ _ _ _ _)
      isplitl [H5]
      · unfold owns; iexists _; isplitr
        swap; · iexact H5
        ipureintro; exact View.read_writes_of_cover _ _ _ _ _ (cover0_B_5 c _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover0_B_7 c _ _ _ _ _ _ _ _ _ _ _ _ _ _ _ _ _ _ _ _ _ _ _ _ _ _)
      unfold owns; iexists _; isplitr
      swap; · iexact H8
      ipureintro; exact View.read_writes_of_cover _ _ _ _ _ (cover0_B_8 c _ _ _ _ _ _ _ _ _ _ _ _ _ _ _ _ _ _ _ _ _ _ _ _ _ _)
    · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dat (F := F) V c) (defs₀ (F := F)) Variants.none () Set.univ := fun t => by
  rw [bigSep_W0, bigSep_W0, defs₀_row]
  exact triple_restated (sound_body V c t) rfl .rfl fun _ => .rfl

end Cert.Proof.Region0

end
-- ==== Proof.Region1.Runs.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Proof.Region1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! ## The windows' blocks -/

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The kernel body on any staging memrefs: a subtype the run finds -/

/-- One staging buffer of output window 2, through which its contents are stated (`View.read_writes_of_cover`: the
    choice does not matter). -/
abbrev VO0_2 : View sig .tc .vmem S1x8x512 .f32 := (Memref.whole cc1_stg2_0 : Memref sig .tc .vmem S1x8x512 .f32).view
/-- Each window's current staging memref at point `t`, spelled as the pipeline passes it (`bodyAt1`), and its wholeness. -/
abbrev ms0_0 (t : Fin cfg1.N) : Memref sig .tc .vmem S1x1x16x64 .f32 := win1_0.stage (cfg1.slots t 0)
abbrev hs0_0 (t : Fin cfg1.N) : (ms0_0 t).IsWhole := hstage1_0 ((cfg1.slots t 0).cast nbuf1_0)
abbrev ms0_1 (t : Fin cfg1.N) : Memref sig .tc .vmem S1x64x4096 .f32 := win1_1.stage (cfg1.slots t 1)
abbrev hs0_1 (t : Fin cfg1.N) : (ms0_1 t).IsWhole := hstage1_1 ((cfg1.slots t 1).cast nbuf1_1)
abbrev ms0_2 (t : Fin cfg1.N) : Memref sig .tc .vmem S1x8x512 .f32 := win1_2.stage (cfg1.slots t 2)
abbrev hs0_2 (t : Fin cfg1.N) : (ms0_2 t).IsWhole := hstage1_2 ((cfg1.slots t 2).cast nbuf1_2)

end Cert.Proof.Region1

end
-- ==== Proof.Region1.RunA.lean ====
module

public import proofs.«01_k».proof.Proof.Region1.Runs

@[expose] public section

-- membership in a rectangle of production extents (`View.cover_of_tiled`): the elaborator's structural look
-- recurses once per coordinate of the long axes
set_option maxRecDepth 16384

noncomputable section

/-! # The second call's body, run once -/

namespace Cert.Proof.Region1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid1.Coords) (arg2 : Memref sig .tc .vmem S1x1x16x64 .f32) (harg2 : arg2.IsWhole) (arg3 : Memref sig .tc .vmem S1x64x4096 .f32) (harg3 : arg3.IsWhole) (arg4 : Memref sig .tc .vmem S1x8x512 .f32) (harg4 : arg4.IsWhole)
    (x0 : Vec F S1x1x16x64 .f32) (x1 : Vec F S1x64x4096 .f32) :
    { L2 : List (View.Piece (Elt F) S1x8x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc1__k2a_body i arg2 harg2 arg3 harg3 arg4 harg4) K } := by
  refine ⟨?_, fun E K => ?run⟩
  case run =>
    simp only [cc1__k2a_body_eq_skeleton]; unfold cc1__k2a_body_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Proof.Region1

end
-- ==== Proof.Region1.Body.lean ====
module

public import proofs.«01_k».proof.Proof.Region1.RunA
public import Idealize.ShloMosaic.Lib.Claim

@[expose] public section

-- membership in a rectangle of production extents (`View.cover_of_tiled`): the elaborator's structural look
-- recurses once per coordinate of the long axes
set_option maxRecDepth 16384

noncomputable section

namespace Cert.Proof.Region1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-- The run's pieces for output 2 tile its block (1 store of `S1x8x512`, checked by the kernel's evaluation: Lib/Ring.lean `Piece.tiledL`, linear in the pieces, through a loop's `@[irreducible]` trip theorem too), so they cover it. -/
theorem cover0_A_2 (c : Dev nD) (i : grid1.Coords) (arg2 : Memref sig .tc .vmem S1x1x16x64 .f32) (harg2 : arg2.IsWhole) (arg3 : Memref sig .tc .vmem S1x64x4096 .f32) (harg3 : arg3.IsWhole) (arg4 : Memref sig .tc .vmem S1x8x512 .f32) (harg4 : arg4.IsWhole)
    (x0 : Vec F S1x1x16x64 .f32) (x1 : Vec F S1x64x4096 .f32) (y : S1x8x512.Idx) :
    ∃ pc ∈ (kernelRun0_A c i arg2 harg2 arg3 harg3 arg4 harg4 x0 x1).1, y ∈ pc.1.set :=
  View.cover_of_tiledL (kernelRun0_A c i arg2 harg2 arg3 harg3 arg4 harg4 x0 x1).1 S1x8x512.size (by sl_kernel_rfl) y

/-- What the run leaves in output 2's staging buffer: its pieces read back over junk. -/
def out0_A_2 (c : Dev nD) (i : grid1.Coords) (arg2 : Memref sig .tc .vmem S1x1x16x64 .f32) (harg2 : arg2.IsWhole) (arg3 : Memref sig .tc .vmem S1x64x4096 .f32) (harg3 : arg3.IsWhole) (arg4 : Memref sig .tc .vmem S1x8x512 .f32) (harg4 : arg4.IsWhole)
    (x0 : Vec F S1x1x16x64 .f32) (x1 : Vec F S1x64x4096 .f32) : Vec F S1x8x512 .f32 :=
  VO0_2.read (Elt F) (VO0_2.writes (Elt F) VO0_2.junk (kernelRun0_A c i arg2 harg2 arg3 harg3 arg4 harg4 x0 x1).1)

/-! ## What the outputs hold after each point -/

/-- What the outputs' staging buffers hold after the body at point `t`: the run's contents at
    the point's memrefs and input blocks. -/
def outsAt0 (c : Dev nD) (t : Fin cfg1.N) : Vec F S1x8x512 .f32 :=
  out0_A_2 c (grid1.coords t) (ms0_0 t) (hs0_0 t) (ms0_1 t) (hs0_1 t) (ms0_2 t) (hs0_2 t) (iblk V c 0 t) (iblk V c 1 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => (outsAt0 V c t)
  Φ _ := Pipeline.ΦA spec1 c
  q _ := fullShare
  owed _ := 0

/-- The proof data's arrays are the region-entry contents: the proof data's definition projected (`dsimp`), so that
    `V` — a fold over @main's host prefix, long for some programs — is never unfolded to check it. -/
theorem A_eq (c : Dev nD) (w : Fin cfg1.W) : (dat V c).A w = V c (Pipeline.arrRef spec1 w) := by
  dsimp only [dat]

/-- What the body leaves, window by window (the proof data's `match` reduced by `dsimp`). -/
theorem after0_0 (c : Dev nD) (t : Fin cfg1.N) : (dat V c).after 0 t = iblk V c 0 t := by dsimp only [dat]
theorem after0_1 (c : Dev nD) (t : Fin cfg1.N) : (dat V c).after 1 t = iblk V c 1 t := by dsimp only [dat]
theorem after0_2 (c : Dev nD) (t : Fin cfg1.N) : (dat V c).after 2 t = (outsAt0 V c t) := by dsimp only [dat]

/-- Each input's current staging buffer holds its block at every point, fetched there or not (`beforeK_W_of`). -/
theorem before0_0 (c : Dev nD) (t : Fin cfg1.N) (d) : (dat V c).before 0 t d = iblk V c 0 t :=
  before0_0_of V (dat V c) (A_eq V c 0) (after0_0 V c) t d
theorem before0_1 (c : Dev nD) (t : Fin cfg1.N) (d) : (dat V c).before 1 t d = iblk V c 1 t :=
  before0_1_of V (dat V c) (A_eq V c 1) (after0_1 V c) t d

/-! ## The body obligation, at a generic point -/

/-- What the body is called with at point `t` (Lib/Pipeline.lean `BodyObligation`'s precondition, the windows one by one), -/
def bodyPre (c : Dev nD) (t : Fin cfg1.N) : sProp 𝕄 :=
  iprop((dat V c).Φ t.castSucc ∗ (dat V c).owesAt () t.castSucc
    ∗ (∃ d, owns (c : Thread nD τ) (ms0_0 t) fullShare ((dat V c).before 0 t d))
    ∗ (∃ d, owns (c : Thread nD τ) (ms0_1 t) fullShare ((dat V c).before 1 t d))
    ∗ (∃ d, owns (c : Thread nD τ) (ms0_2 t) fullShare ((dat V c).before 2 t d)))

/-- and what it returns. -/
def bodyPost (c : Dev nD) (t : Fin cfg1.N) : sProp 𝕄 :=
  iprop((dat V c).Φ t.succ ∗ (dat V c).owesAt () t.succ
    ∗ owns (c : Thread nD τ) (ms0_0 t) fullShare ((dat V c).after 0 t)
    ∗ owns (c : Thread nD τ) (ms0_1 t) fullShare ((dat V c).after 1 t)
    ∗ owns (c : Thread nD τ) (ms0_2 t) fullShare ((dat V c).after 2 t))

/-- The body at any point: the inputs' memrefs hold their blocks (`before0_W`); so the
    run applies; the invariant passes through unread; the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0_0, before0_1]
  rw [show (dat V c).Φ t.succ = (dat V c).Φ t.castSucc from rfl,
    show (dat V c).owesAt () t.succ = (dat V c).owesAt () t.castSucc from rfl,
    after0_0, after0_1, after0_2]
  unfold outsAt0
  unfold out0_A_2
  iintro ⟨HΦ, Ho, ⟨%d0, H0⟩, ⟨%d1, H1⟩, ⟨%d2, H2⟩⟩
  iapply ((kernelRun0_A c (grid1.coords t) _ _ _ _ _ _ (iblk V c 0 t) (iblk V c 1 t)).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro; exact View.read_writes_of_cover _ _ _ _ _ (cover0_A_2 c _ _ _ _ _ _ _ _ _)

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation (c : Dev nD) : BodyObligation (dat (F := F) V c) (defs₀ (F := F)) Variants.none () Set.univ := fun t => by
  rw [bigSep_W1, bigSep_W1, defs₀_row]
  exact triple_restated (sound_body V c t) rfl .rfl fun _ => .rfl

end Cert.Proof.Region1

end
-- ==== Proof.Region2.Runs.lean ====
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Proof.Region2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! ## The windows' blocks -/

/-- Window `w`'s block at point `t`, read off its array as the region finds it (`V`). -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The kernel body on any staging memrefs: a subtype the run finds -/

/-- One staging buffer of output window 1, through which its contents are stated (`View.read_writes_of_cover`: the
    choice does not matter). -/
abbrev VO0_1 : View sig .tc .vmem S64x1x64 .i32 := (Memref.whole cc2_stg1_0 : Memref sig .tc .vmem S64x1x64 .i32).view
/-- Each window's current staging memref at point `t`, spelled as the pipeline passes it (`bodyAt2`), and its wholeness. -/
abbrev ms0_0 (t : Fin cfg2.N) : Memref sig .tc .vmem S64x8x512 .f32 := win2_0.stage (cfg2.slots t 0)
abbrev hs0_0 (t : Fin cfg2.N) : (ms0_0 t).IsWhole := hstage2_0 ((cfg2.slots t 0).cast nbuf2_0)
abbrev ms0_1 (t : Fin cfg2.N) : Memref sig .tc .vmem S64x1x64 .i32 := win2_1.stage (cfg2.slots t 1)
abbrev hs0_1 (t : Fin cfg2.N) : (ms0_1 t).IsWhole := hstage2_1 ((cfg2.slots t 1).cast nbuf2_1)

end Cert.Proof.Region2

end
-- ==== Proof.Region2.RunA.lean ====
module

public import proofs.«01_k».proof.Proof.Region2.Runs

@[expose] public section

-- membership in a rectangle of production extents (`View.cover_of_tiled`): the elaborator's structural look
-- recurses once per coordinate of the long axes
set_option maxRecDepth 16384

noncomputable section

/-! # The third call's body, run once -/

namespace Cert.Proof.Region2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid2.Coords) (arg1 : Memref sig .tc .vmem S64x8x512 .f32) (harg1 : arg1.IsWhole) (arg2 : Memref sig .tc .vmem S64x1x64 .i32) (harg2 : arg2.IsWhole)
    (x0 : Vec F S64x8x512 .f32) :
    { L1 : List (View.Piece (Elt F) S64x1x64 .i32) //
      ∀ (E : Set ℕ) (K : PUnit → sProp 𝕄),
        iprop(owns (c : Thread nD τ) arg1 fullShare x0 ∗ (∃ d, owns (c : Thread nD τ) arg2 fullShare d)
            ∗ (iprop(owns (c : Thread nD τ) arg1 fullShare x0 ∗ (∃ f, arg2.view.loc (c : Thread nD τ) ↦[arg2.view.set]{fullShare} arg2.view.writes (Elt F) f L1)) -∗ K ⟨⟩))
          ⊢ wp frame (wpE (defs₀ (F := F)) Variants.none c none) E (cc2__k2b_body i arg1 harg1 arg2 harg2) K } := by
  refine ⟨?_, fun E K => ?run⟩
  case run =>
    simp only [cc2__k2b_body_eq_skeleton]; unfold cc2__k2b_body_skel
    unfold owns
    iintro ⟨⟨%f0, %hf0, H0⟩, ⟨%d1, %f1, -, H1⟩, Hk⟩
    obtain rfl := harg1.eq_unread hf0
    sl_exec
    sl_step
    iapply Hk
    isplitl [H0]
    · iexists _; isplitr; · ipureintro; exact harg1.read_unread _
      iexact H0
    iexists _; iexact H1

end Cert.Proof.Region2

end
-- ==== Proof.Region2.Body.lean ====
module

public import proofs.«01_k».proof.Proof.Region2.RunA
public import Idealize.ShloMosaic.Lib.Claim

@[expose] public section

-- membership in a rectangle of production extents (`View.cover_of_tiled`): the elaborator's structural look
-- recurses once per coordinate of the long axes
set_option maxRecDepth 16384

noncomputable section

namespace Cert.Proof.Region2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-- The run's pieces for output 1 tile its block (1 store of `S64x1x64`, checked by the kernel's evaluation: Lib/Ring.lean `Piece.tiledL`, linear in the pieces, through a loop's `@[irreducible]` trip theorem too), so they cover it. -/
theorem cover0_A_1 (c : Dev nD) (i : grid2.Coords) (arg1 : Memref sig .tc .vmem S64x8x512 .f32) (harg1 : arg1.IsWhole) (arg2 : Memref sig .tc .vmem S64x1x64 .i32) (harg2 : arg2.IsWhole)
    (x0 : Vec F S64x8x512 .f32) (y : S64x1x64.Idx) :
    ∃ pc ∈ (kernelRun0_A c i arg1 harg1 arg2 harg2 x0).1, y ∈ pc.1.set :=
  View.cover_of_tiledL (kernelRun0_A c i arg1 harg1 arg2 harg2 x0).1 S64x1x64.size (by sl_kernel_rfl) y

/-- What the run leaves in output 1's staging buffer: its pieces read back over junk. -/
def out0_A_1 (c : Dev nD) (i : grid2.Coords) (arg1 : Memref sig .tc .vmem S64x8x512 .f32) (harg1 : arg1.IsWhole) (arg2 : Memref sig .tc .vmem S64x1x64 .i32) (harg2 : arg2.IsWhole)
    (x0 : Vec F S64x8x512 .f32) : Vec F S64x1x64 .i32 :=
  VO0_1.read (Elt F) (VO0_1.writes (Elt F) VO0_1.junk (kernelRun0_A c i arg1 harg1 arg2 harg2 x0).1)

/-! ## What the outputs hold after each point -/

/-- What the outputs' staging buffers hold after the body at point `t`: the run's contents at
    the point's memrefs and input blocks. -/
def outsAt0 (c : Dev nD) (t : Fin cfg2.N) : Vec F S64x1x64 .i32 :=
  out0_A_1 c (grid2.coords t) (ms0_0 t) (hs0_0 t) (ms0_1 t) (hs0_1 t) (iblk V c 0 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => (outsAt0 V c t)
  Φ _ := Pipeline.ΦA spec2 c
  q _ := fullShare
  owed _ := 0

/-- The proof data's arrays are the region-entry contents: the proof data's definition projected (`dsimp`), so that
    `V` — a fold over @main's host prefix, long for some programs — is never unfolded to check it. -/
theorem A_eq (c : Dev nD) (w : Fin cfg2.W) : (dat V c).A w = V c (Pipeline.arrRef spec2 w) := by
  dsimp only [dat]

/-- What the body leaves, window by window (the proof data's `match` reduced by `dsimp`). -/
theorem after0_0 (c : Dev nD) (t : Fin cfg2.N) : (dat V c).after 0 t = iblk V c 0 t := by dsimp only [dat]
theorem after0_1 (c : Dev nD) (t : Fin cfg2.N) : (dat V c).after 1 t = (outsAt0 V c t) := by dsimp only [dat]

/-- Each input's current staging buffer holds its block at every point, fetched there or not (`beforeK_W_of`). -/
theorem before0_0 (c : Dev nD) (t : Fin cfg2.N) (d) : (dat V c).before 0 t d = iblk V c 0 t :=
  before0_0_of V (dat V c) (A_eq V c 0) (after0_0 V c) t d

/-! ## The body obligation, at a generic point -/

/-- What the body is called with at point `t` (Lib/Pipeline.lean `BodyObligation`'s precondition, the windows one by one), -/
def bodyPre (c : Dev nD) (t : Fin cfg2.N) : sProp 𝕄 :=
  iprop((dat V c).Φ t.castSucc ∗ (dat V c).owesAt () t.castSucc
    ∗ (∃ d, owns (c : Thread nD τ) (ms0_0 t) fullShare ((dat V c).before 0 t d))
    ∗ (∃ d, owns (c : Thread nD τ) (ms0_1 t) fullShare ((dat V c).before 1 t d)))

/-- and what it returns. -/
def bodyPost (c : Dev nD) (t : Fin cfg2.N) : sProp 𝕄 :=
  iprop((dat V c).Φ t.succ ∗ (dat V c).owesAt () t.succ
    ∗ owns (c : Thread nD τ) (ms0_0 t) fullShare ((dat V c).after 0 t)
    ∗ owns (c : Thread nD τ) (ms0_1 t) fullShare ((dat V c).after 1 t))

/-- The body at any point: the inputs' memrefs hold their blocks (`before0_W`); so the
    run applies; the invariant passes through unread; the core owes nothing throughout. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before0_0]
  rw [show (dat V c).Φ t.succ = (dat V c).Φ t.castSucc from rfl,
    show (dat V c).owesAt () t.succ = (dat V c).owesAt () t.castSucc from rfl,
    after0_0, after0_1]
  unfold outsAt0
  unfold out0_A_1
  iintro ⟨HΦ, Ho, ⟨%d0, H0⟩, ⟨%d1, H1⟩⟩
  iapply ((kernelRun0_A c (grid2.coords t) _ _ _ _ (iblk V c 0 t)).2 Set.univ _)
  isplitl [H0]; · iexact H0
  isplitl [H1]; · iexists _; iexact H1
  iintro ⟨H0, ⟨%e1, H1⟩⟩
  isplitl [HΦ]; · iexact HΦ
  isplitl [Ho]; · iexact Ho
  isplitl [H0]; · iexact H0
  unfold owns; iexists _; isplitr
  swap; · iexact H1
  ipureintro; exact View.read_writes_of_cover _ _ _ _ _ (cover0_A_1 c _ _ _ _ _ _)

/-- The body table's row at point `t`'s slots is the body as `bodyAt2` spells it. -/
theorem defs₀_row (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation (c : Dev nD) : BodyObligation (dat (F := F) V c) (defs₀ (F := F)) Variants.none () Set.univ := fun t => by
  rw [bigSep_W2, bigSep_W2, defs₀_row]
  exact triple_restated (sound_body V c t) rfl .rfl fun _ => .rfl

end Cert.Proof.Region2

end
-- ==== Proof.Region3.Gather.lean ====
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import Idealize.ShloMosaic.Lib.WholeRead
public import Idealize.ShloMosaic.Lib.Pointwise

@[expose] public section

set_option maxRecDepth 16384

noncomputable section

namespace Cert.Proof.Region3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The gather loop: 64 trips, each copying the key row and the value row the table names -/

/-- The loop takes 64 trips. -/
theorem trips_eq : k3_t1_loop.trips = 64 := by decide +kernel

/-- Trip `k` at grid point `i` reads the table at `64 * (16 * i₀ + i₁) + k`. -/
theorem off1_eq (i : grid3.Coords) (k : Fin k3_t1_loop.trips) :
    k3_off1 i k = ![64 * (16 * (i 0).val + (i 1).val) + k.val] := by
  have h0 : (i 0).val < 4 := (i 0).isLt
  have h1 : (i 1).val < 16 := (i 1).isLt
  have hk : k.val < 64 := lt_of_lt_of_eq k.isLt trips_eq
  refine congrArg (fun n : ℕ => (![n] : Fin 1 → ℕ)) ?_
  simp only [Scalar.addi, Scalar.muli, Scalar.indexCast, Scf.iv, IntOp.addi, IntOp.muli, BitVec.toNat_add, BitVec.toNat_mul, BitVec.toNat_ofNat]
  omega

/-- and writes row `k` of the scratch buffers. -/
theorem off3_eq (k : Fin k3_t1_loop.trips) : k3_off3 k = ![k.val, 0] := by
  have hk : k.val < 64 := lt_of_lt_of_eq k.isLt trips_eq
  refine congrArg (fun n : ℕ => (![n, 0] : Fin 2 → ℕ)) ?_
  simp only [Scalar.indexCast, Scf.iv, BitVec.toNat_add, BitVec.toNat_mul, BitVec.toNat_ofNat]
  omega

/-- A trip loads at the row that its word names. -/
theorem off2_eq (v : BitVec 32) : k3_off2 v = ![0, v.toNat, 0] := rfl

/-- The assumed condition on a word says that it is below 4096. -/
theorem lt_of_chk {v : BitVec 32} (h : k3_chk1 v) : v.toNat < 4096 := by
  have h1 : v.toNat + 1 ≤ 4096 := h 1
  omega

/-- And nothing else. -/
theorem chk_of_lt {v : BitVec 32} (h : v.toNat < 4096) : k3_chk1 v := by
  intro a
  fin_cases a
  · exact le_refl 1
  · show v.toNat + 1 ≤ 4096
    omega
  · exact le_refl 64

/-- A trip's place in the table is inside it. -/
theorem cell_lt (i : grid3.Coords) (k : Fin 64) : 64 * (16 * (i 0).val + (i 1).val) + k.val < 4096 := by
  have h0 : (i 0).val < 4 := (i 0).isLt
  have h1 : (i 1).val < 16 := (i 1).isLt
  have hk := k.isLt
  omega

/-- The table word that trip `k` at grid point `i` reads. -/
def word (T : Vec F S4096 .i32) (i : grid3.Coords) (k : Fin 64) : BitVec 32 :=
  T (ix1 ⟨64 * (16 * (i 0).val + (i 1).val) + k.val, cell_lt i k⟩)

/-- A word as a row number (a word past the last row names the last). -/
def rowOf (v : BitVec 32) : Fin 4096 := ⟨min v.toNat 4095, by omega⟩

/-- The 64 rows of `x` that the table names at grid point `i`. -/
def gath (T : Vec F S4096 .i32) (i : grid3.Coords) (x : Vec F S1x4096x64 .f32) : Vec F S64x64 .f32 :=
  fun y => x (ix3 0 (rowOf (word T i (y 0))) (y 1))

/-- What the trip's read of the table finds. -/
theorem word_read (T : Vec F S4096 .i32) (i : grid3.Coords) {m : Memref sig .tc .smem S4096 .i32} (hm : m.IsWhole)
    (k : Fin k3_t1_loop.trips) (hin : ∀ a, (k3_off1 i k) a + S1.size a ≤ S4096.size a)
    (x : (Rect.unit (s := S4096) (k3_off1 i k) S1.size hin).toLoadRect.shape.Idx) :
    View.readAt (Elt F) m.view (Rect.unit (s := S4096) (k3_off1 i k) S1.size hin).toLoadRect (hm.unread T) x
      = word T i ⟨k.val, lt_of_lt_of_eq k.isLt trips_eq⟩ := by
  rw [hm.readAt_unread]
  unfold word
  refine congrArg T (funext fun a => ?_)
  obtain rfl : a = 0 := Subsingleton.elim _ _
  apply Fin.ext
  have hx : (x 0).val = 0 := Nat.lt_one_iff.mp (x 0).isLt
  show (k3_off1 i k) 0 + 1 * (x 0).val = _
  rw [hx, off1_eq]; rfl

/-- The key row's payload lays the row out flat. -/
theorem pay2_eq (v : Vec F S1x1x64 .f32) : k3_pay2 v = fun x => v (ix3 0 0 (x 1)) := by
  funext j
  pointwise [k3_pay2]

/-- The value row's payload lays the row out flat. -/
theorem pay3_eq (v : Vec F S1x1x64 .f32) : k3_pay3 v = fun x => v (ix3 0 0 (x 1)) := by
  funext j
  pointwise [k3_pay3]

/-- One trip's store adds one gathered row. -/
theorem rows_step (T : Vec F S4096 .i32) (i : grid3.Coords) {m : Memref sig .tc .vmem S1x4096x64 .f32} (hm : m.IsWhole)
    (x : Vec F S1x4096x64 .f32) (k : Fin k3_t1_loop.trips) {m' : Memref sig .tc .vmem S64x64 .f32} {f : m'.view.ty.Contents (Elt F)}
    (hf : ∀ y : S64x64.Idx, (y 0).val < k.val → m'.view.read (Elt F) f y = gath T i x y)
    {w : BitVec 32} (hw : w = word T i ⟨k.val, lt_of_lt_of_eq k.isLt trips_eq⟩)
    {hin : ∀ a, k3_off2 w a + S1x1x64.size a ≤ S1x4096x64.size a}
    (pay : Vec F S1x1x64 .f32 → FVec F S1x64 .f32) (hpay : ∀ v, pay v = fun x => v (ix3 0 0 (x 1)))
    (hin3 : ∀ a, k3_off3 k a + S1x64.size a ≤ S64x64.size a) (y : S64x64.Idx) (hy : (y 0).val < k.val + 1) :
    m'.view.read (Elt F) (m'.view.writes (Elt F) f [⟨Rect.unit (s := S64x64) (k3_off3 k) S1x64.size hin3,
      pay (View.readAt (Elt F) m.view (Rect.unit (s := S1x4096x64) (k3_off2 w) S1x1x64.size hin).toLoadRect (hm.unread x))⟩]) y
      = gath T i x y := by
  by_cases hk : (y 0).val < k.val
  · rw [View.read_writes_cons_miss_of_axis m'.view f _ [] y 0 k.val 1 (by show (k3_off3 k) 0 = _; rw [off3_eq]; rfl) rfl rfl (.inl hk)]
    exact hf y hk
  · have e0 : (y 0).val = k.val := by omega
    have hx : ∀ a, (y a).val = (Rect.unit (s := S64x64) (k3_off3 k) S1x64.size hin3).off a
        + (Rect.unit (s := S64x64) (k3_off3 k) S1x64.size hin3).stride a * ((ix2 (0 : Fin 1) (y 1 : Fin 64) : S1x64.Idx) a).val := by
      intro a
      have h3 := congrFun (off3_eq k) a
      show (y a).val = (k3_off3 k) a + 1 * ((ix2 (0 : Fin 1) (y 1 : Fin 64) : S1x64.Idx) a).val
      rw [h3]
      fin_cases a
      · show (y 0).val = k.val + 1 * 0
        omega
      · show (y 1).val = 0 + 1 * (y 1).val
        omega
    rw [View.read_writes_cons_hit_of_coords m'.view f _ _ [] (ix2 (0 : Fin 1) (y 1 : Fin 64)) y hx]
    rw [hpay]
    refine (hm.readAt_unread x _ _).trans ?_
    subst hw
    unfold gath rowOf
    have hl := lt_of_chk (v := word T i ⟨k.val, lt_of_lt_of_eq k.isLt trips_eq⟩) hin
    have ey : (y 0 : Fin 64) = ⟨k.val, lt_of_lt_of_eq k.isLt trips_eq⟩ := Fin.ext e0
    refine congrArg x (funext fun a => Fin.ext ?_)
    fin_cases a
    · rfl
    · show (word T i ⟨k.val, lt_of_lt_of_eq k.isLt trips_eq⟩).toNat + 1 * 0 = min (word T i (y 0)).toNat 4095
      rw [ey]
      exact (Nat.min_eq_left (Nat.le_of_lt_succ hl)).symm
    · show 0 + 1 * (y 1).val = (y 1).val
      omega

section Loop

variable (c : Dev nD) (T : Vec F S4096 .i32) (x1 x2 : Vec F S1x4096x64 .f32)
  (i : grid3.Coords) (arg2 : Memref sig .tc .smem S4096 .i32) (harg2 : arg2.IsWhole) (arg3 : Memref sig .tc .vmem S1x4096x64 .f32) (harg3 : arg3.IsWhole) (arg4 : Memref sig .tc .vmem S1x4096x64 .f32) (harg4 : arg4.IsWhole) (arg5 : Memref sig .tc .vmem S1x4096x64 .f32) (harg5 : arg5.IsWhole) (arg6 : Memref sig .tc .vmem S1x64x64 .f32) (harg6 : arg6.IsWhole) (arg7 : Memref sig .tc .vmem S1x64x1 .f32) (harg7 : arg7.IsWhole) (arg8 : Memref sig .tc .vmem S1x64x4096 .f32) (harg8 : arg8.IsWhole) (arg9 : Memref sig .tc .vmem S64x64 .f32) (harg9 : arg9.IsWhole) (arg10 : Memref sig .tc .vmem S64x64 .f32) (harg10 : arg10.IsWhole)

/-- Before trip `k` of the gather loop: the table and the two windows at their contents, the first `k` rows of each
    scratch buffer gathered. -/
def inv (k : ℕ) (_ : Unit) : sProp 𝕄 :=
  iprop((arg2.view.loc (c : Thread nD τ) ↦[arg2.view.set]{fullShare} harg2.unread T)
    ∗ (arg4.view.loc (c : Thread nD τ) ↦[arg4.view.set]{fullShare} harg4.unread x1)
    ∗ (arg5.view.loc (c : Thread nD τ) ↦[arg5.view.set]{fullShare} harg5.unread x2)
    ∗ (∃ f, (arg9.view.loc (c : Thread nD τ) ↦[arg9.view.set]{fullShare} f) ∗ ⌜∀ y : S64x64.Idx, (y 0).val < k → arg9.view.read (Elt F) f y = gath T i x1 y⌝)
    ∗ (∃ f, (arg10.view.loc (c : Thread nD τ) ↦[arg10.view.set]{fullShare} f) ∗ ⌜∀ y : S64x64.Idx, (y 0).val < k → arg10.view.read (Elt F) f y = gath T i x2 y⌝))

/-- One trip carries the invariant on. -/
theorem step (hT : ∀ y, k3_chk1 (T y)) (k : Fin k3_t1_loop.trips) (acc : Unit) :
    inv c T x1 x2 i arg2 harg2 arg4 harg4 arg5 harg5 arg9 arg10 k acc
      ⊢ wp frame (wpE (defs₀ (F := F)) Variants.none c none) Set.univ
          (k3_t1_body i arg2 harg2 arg3 harg3 arg4 harg4 arg5 harg5 arg6 harg6 arg7 harg7 arg8 harg8 arg9 harg9 arg10 harg10 k acc)
          (inv c T x1 x2 i arg2 harg2 arg4 harg4 arg5 harg5 arg9 arg10 (k.val + 1)) := by
  unfold inv k3_t1_body
  iintro ⟨H2, H4, H5, ⟨%f9, H9, %hf9⟩, ⟨%f10, H10, %hf10⟩⟩
  sl_exec
  have e : step.sl.r T i arg2 harg2 k = word T i ⟨k.val, lt_of_lt_of_eq k.isLt trips_eq⟩ := by
    unfold step.sl.r
    exact word_read T i harg2 k _ _
  have hc : k3_chk1 (step.sl.r T i arg2 harg2 k) := by rw [e]; exact hT _
  sl_exec
  sl_step
  isplitl [H2]; · iexact H2
  isplitl [H4]; · iexact H4
  isplitl [H5]; · iexact H5
  isplitl [H9]
  · iexists _; isplitl [H9]; · iexact H9
    ipureintro
    exact rows_step T i harg4 x1 k hf9 e _ (fun _ => pay2_eq _) _
  · iexists _; isplitl [H10]; · iexact H10
    ipureintro
    exact rows_step T i harg5 x2 k hf10 e _ (fun _ => pay3_eq _) _

/-- The gather loop's invariant as the class the run looks for. -/
@[reducible] def loopInv (hT : ∀ y, k3_chk1 (T y)) :
    LoopInvTy_k3_t1 (F := F) Unit ℕ (UR sig nD τ) ℕ Variants.none c none Set.univ i arg2 harg2 arg3 harg3 arg4 harg4 arg5 harg5 arg6 harg6 arg7 harg7 arg8 harg8 arg9 harg9 arg10 harg10 where
  inv := inv c T x1 x2 i arg2 harg2 arg4 harg4 arg5 harg5 arg9 arg10
  step := step c T x1 x2 i arg2 harg2 arg3 harg3 arg4 harg4 arg5 harg5 arg6 harg6 arg7 harg7 arg8 harg8 arg9 harg9 arg10 harg10 hT

end Loop
end Cert.Proof.Region3

end
-- ==== Proof.Region3.Run.lean ====
module

public import proofs.«01_k».proof.Proof.Region3.Gather

@[expose] public section

set_option maxRecDepth 16384

noncomputable section

namespace Cert.Proof.Region3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body at one grid point

It gathers, forms the head's contribution, and puts it in the output window: as it is at the first head, added to what
is there at the later ones, the bias added after the last. -/

/-- A whole block stored over anything reads as the payload. -/
theorem read_full {m : Memref sig .tc .vmem S1x64x4096 .f32} (f : m.view.ty.Contents (Elt F))
    (hin : ∀ a, (![0, 0, 0] : Fin 3 → ℕ) a + S1x64x4096.size a ≤ S1x64x4096.size a) (w : Vec F S1x64x4096 .f32)
    (L : List (View.Piece (Elt F) S1x64x4096 .f32)) :
    m.view.read (Elt F) (m.view.writes (Elt F) f (⟨Rect.unit (s := S1x64x4096) ![0, 0, 0] S1x64x4096.size hin, w⟩ :: L)) = w := by
  funext y
  refine View.read_writes_cons_hit_of_coords m.view f (Rect.unit (s := S1x64x4096) ![0, 0, 0] S1x64x4096.size hin) w L y y ?_
  intro a
  show (y a).val = (![0, 0, 0] : Fin 3 → ℕ) a + 1 * (y a).val
  fin_cases a <;> simp

/-- A whole block loaded reads its contents. -/
theorem load_full {s : Shape} {e : EltTy} {m : Memref sig .tc .vmem s e} (hm : m.IsWhole) (X : Vec F s e) (off : Fin s.rank → ℕ)
    (h0 : ∀ a, off a = 0) (hin : ∀ a, off a + s.size a ≤ s.size a) :
    View.readAt (Elt F) m.view (Rect.unit (s := s) off s.size hin).toLoadRect (hm.unread X) = X := by
  funext x
  refine (hm.readAt_unread X _ x).trans (congrArg X (funext fun a => Fin.ext ?_))
  show off a + 1 * (x a).val = (x a).val
  rw [h0]; omega

theorem zeros3 : ∀ a, (![0, 0, 0] : Fin 3 → ℕ) a = 0 := by decide
theorem zeros2 : ∀ a, (![0, 0] : Fin 2 → ℕ) a = 0 := by decide

/-- A whole block loaded after a whole block was stored reads the payload. -/
theorem reload_full {m : Memref sig .tc .vmem S1x64x4096 .f32}
    (hin : ∀ a, (![0, 0, 0] : Fin 3 → ℕ) a + S1x64x4096.size a ≤ S1x64x4096.size a) (w : Vec F S1x64x4096 .f32)
    (L : List (View.Piece (Elt F) S1x64x4096 .f32)) :
    m.view.readCov (⟨Rect.unit (s := S1x64x4096) ![0, 0, 0] S1x64x4096.size hin, w⟩ :: L)
      (Rect.unit (s := S1x64x4096) ![0, 0, 0] S1x64x4096.size hin).toLoadRect = w := by
  funext x
  refine (congrFun (read_full (m := m) m.view.junk hin w L) _).trans (congrArg w (funext fun a => Fin.ext ?_))
  show (![0, 0, 0] : Fin 3 → ℕ) a + 1 * (x a).val = (x a).val
  rw [zeros3]; omega

section Run

variable (c : Dev nD) (T : Vec F S4096 .i32) (x1 x2 : Vec F S1x4096x64 .f32)
  (i : grid3.Coords) (arg2 : Memref sig .tc .smem S4096 .i32) (harg2 : arg2.IsWhole) (arg3 : Memref sig .tc .vmem S1x4096x64 .f32) (harg3 : arg3.IsWhole) (arg4 : Memref sig .tc .vmem S1x4096x64 .f32) (harg4 : arg4.IsWhole) (arg5 : Memref sig .tc .vmem S1x4096x64 .f32) (harg5 : arg5.IsWhole) (arg6 : Memref sig .tc .vmem S1x64x64 .f32) (harg6 : arg6.IsWhole) (arg7 : Memref sig .tc .vmem S1x64x1 .f32) (harg7 : arg7.IsWhole) (arg8 : Memref sig .tc .vmem S1x64x4096 .f32) (harg8 : arg8.IsWhole) (arg9 : Memref sig .tc .vmem S64x64 .f32) (harg9 : arg9.IsWhole) (arg10 : Memref sig .tc .vmem S64x64 .f32) (harg10 : arg10.IsWhole)

/-- After the loop both scratch buffers hold the gathered rows. -/
@[reducible] def loopExit (hT : ∀ y, k3_chk1 (T y)) :
    LoopExit (loopInv (F := F) c T x1 x2 i arg2 harg2 arg3 harg3 arg4 harg4 arg5 harg5 arg6 harg6 arg7 harg7 arg8 harg8 arg9 harg9 arg10 harg10 hT) where
  post _ := iprop((arg2.view.loc (c : Thread nD τ) ↦[arg2.view.set]{fullShare} harg2.unread T)
    ∗ (arg4.view.loc (c : Thread nD τ) ↦[arg4.view.set]{fullShare} harg4.unread x1)
    ∗ (arg5.view.loc (c : Thread nD τ) ↦[arg5.view.set]{fullShare} harg5.unread x2)
    ∗ (arg9.view.loc (c : Thread nD τ) ↦[arg9.view.set]{fullShare} harg9.unread (gath T i x1))
    ∗ (arg10.view.loc (c : Thread nD τ) ↦[arg10.view.set]{fullShare} harg10.unread (gath T i x2)))
  exit _ := by
    show inv c T x1 x2 i arg2 harg2 arg4 harg4 arg5 harg5 arg9 arg10 k3_t1_loop.trips _ ⊢ _
    unfold inv
    iintro ⟨H2, H4, H5, ⟨%f9, H9, %h9⟩, ⟨%f10, H10, %h10⟩⟩
    obtain rfl := harg9.eq_unread (funext fun y => h9 y (lt_of_lt_of_eq (y 0).isLt trips_eq.symm))
    obtain rfl := harg10.eq_unread (funext fun y => h10 y (lt_of_lt_of_eq (y 0).isLt trips_eq.symm))
    isplitl [H2]; · iexact H2
    isplitl [H4]; · iexact H4
    isplitl [H5]; · iexact H5
    isplitl [H9]; · iexact H9
    iexact H10

/-- What the body is given beside the output window: the table, the five input blocks and the two scratch buffers. -/
def given (x0 : Vec F S1x4096x64 .f32) (x3 : Vec F S1x64x64 .f32) (x4 : Vec F S1x64x1 .f32) : sProp 𝕄 :=
  iprop(owns (c : Thread nD τ) arg2 fullShare T ∗ owns (c : Thread nD τ) arg3 fullShare x0 ∗ owns (c : Thread nD τ) arg4 fullShare x1
    ∗ owns (c : Thread nD τ) arg5 fullShare x2 ∗ owns (c : Thread nD τ) arg6 fullShare x3 ∗ owns (c : Thread nD τ) arg7 fullShare x4
    ∗ (∃ d, owns (c : Thread nD τ) arg9 fullShare d) ∗ (∃ d, owns (c : Thread nD τ) arg10 fullShare d))

attribute [local instance] loopExit in
set_option maxHeartbeats 1000000 in
/-- The first head: the window gets the head's contribution. -/
theorem run_A (hT : ∀ y, k3_chk1 (T y)) (x0 : Vec F S1x4096x64 .f32) (x3 : Vec F S1x64x64 .f32) (x4 : Vec F S1x64x1 .f32)
    (hc1 : k3_cond1 i = 1#1) (hc2 : ¬ k3_cond2 i = 1#1) (hc3 : ¬ k3_cond3 i = 1#1) (K : PUnit → sProp 𝕄) :
    iprop(given c T x1 x2 arg2 arg3 arg4 arg5 arg6 arg7 arg9 arg10 x0 x3 x4 ∗ (∃ d, owns (c : Thread nD τ) arg8 fullShare d)
        ∗ (iprop(given c T x1 x2 arg2 arg3 arg4 arg5 arg6 arg7 arg9 arg10 x0 x3 x4
            ∗ owns (c : Thread nD τ) arg8 fullShare (k3_pay5 x0 (gath T i x1) (gath T i x2) x3)) -∗ K ⟨⟩))
      ⊢ wp frame (wpE (defs₀ (F := F)) Variants.none c none) Set.univ
          (cc3__k3_body i arg2 harg2 arg3 harg3 arg4 harg4 arg5 harg5 arg6 harg6 arg7 harg7 arg8 harg8 arg9 harg9 arg10 harg10) K := by
  simp only [cc3__k3_body_eq_skeleton]; unfold cc3__k3_body_skel

  unfold given owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%d9, %f9, -, H9⟩, ⟨%d10, %f10, -, H10⟩⟩, ⟨%d8, %f8, -, H8⟩, Hk⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7
  let L := loopInv (F := F) c T x1 x2 i arg2 harg2 arg3 harg3 arg4 harg4 arg5 harg5 arg6 harg6 arg7 harg7 arg8 harg8 arg9 harg9 arg10 harg10 hT
  have h9 : ∀ f : arg9.view.ty.Contents (Elt F), ∀ y : S64x64.Idx, (y 0).val < 0 → arg9.view.read (Elt F) f y = gath T i x1 y := fun _ _ h => absurd h (Nat.not_lt_zero _)
  have h10 : ∀ f : arg10.view.ty.Contents (Elt F), ∀ y : S64x64.Idx, (y 0).val < 0 → arg10.view.read (Elt F) f y = gath T i x2 y := fun _ _ h => absurd h (Nat.not_lt_zero _)
  sl_exec
  sl_step
  iapply Hk
  isplitr [H8]
  · isplitl [HL0]
    · iexists _; isplitr
      · ipureintro; exact hf2
      iexact HL0
    isplitl [H3]
    · iexists _; isplitr
      · ipureintro; exact hf3
      iexact H3
    isplitl [HL1]
    · iexists _; isplitr
      · ipureintro; exact hf4
      iexact HL1
    isplitl [HL2]
    · iexists _; isplitr
      · ipureintro; exact hf5
      iexact HL2
    isplitl [H6]
    · iexists _; isplitr
      · ipureintro; exact hf6
      iexact H6
    isplitl [H7]
    · iexists _; isplitr
      · ipureintro; exact hf7
      iexact H7
    isplitl [HL3]
    · iexists gath T i x1, harg9.unread (gath T i x1); isplitr
      · ipureintro; exact harg9.read_unread _
      iexact HL3
    iexists gath T i x2, harg10.unread (gath T i x2); isplitr
    · ipureintro; exact harg10.read_unread _
    iexact HL4
  · iexists _; isplitr; swap
    · iexact H8
    · ipureintro
      refine (read_full _ _ _ _).trans ?_
      rw [load_full harg3 x0 _ zeros3, load_full harg9 _ _ zeros2, load_full harg10 _ _ zeros2, load_full harg6 x3 _ zeros3]

attribute [local instance] loopExit in
set_option maxHeartbeats 1000000 in
/-- A middle head: the contribution is added to what the window holds. -/
theorem run_B (hT : ∀ y, k3_chk1 (T y)) (x0 : Vec F S1x4096x64 .f32) (x3 : Vec F S1x64x64 .f32) (x4 : Vec F S1x64x1 .f32) (prev : Vec F S1x64x4096 .f32)
    (hc1 : ¬ k3_cond1 i = 1#1) (hc2 : k3_cond2 i = 1#1) (hc3 : ¬ k3_cond3 i = 1#1) (K : PUnit → sProp 𝕄) :
    iprop(given c T x1 x2 arg2 arg3 arg4 arg5 arg6 arg7 arg9 arg10 x0 x3 x4 ∗ owns (c : Thread nD τ) arg8 fullShare prev
        ∗ (iprop(given c T x1 x2 arg2 arg3 arg4 arg5 arg6 arg7 arg9 arg10 x0 x3 x4
            ∗ owns (c : Thread nD τ) arg8 fullShare (k3_pay6 x0 (gath T i x1) (gath T i x2) x3 prev)) -∗ K ⟨⟩))
      ⊢ wp frame (wpE (defs₀ (F := F)) Variants.none c none) Set.univ
          (cc3__k3_body i arg2 harg2 arg3 harg3 arg4 harg4 arg5 harg5 arg6 harg6 arg7 harg7 arg8 harg8 arg9 harg9 arg10 harg10) K := by
  simp only [cc3__k3_body_eq_skeleton]; unfold cc3__k3_body_skel

  unfold given owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%d9, %f9, -, H9⟩, ⟨%d10, %f10, -, H10⟩⟩, ⟨%f8, %hf8, H8⟩, Hk⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7; obtain rfl := harg8.eq_unread hf8
  let L := loopInv (F := F) c T x1 x2 i arg2 harg2 arg3 harg3 arg4 harg4 arg5 harg5 arg6 harg6 arg7 harg7 arg8 harg8 arg9 harg9 arg10 harg10 hT
  have h9 : ∀ f : arg9.view.ty.Contents (Elt F), ∀ y : S64x64.Idx, (y 0).val < 0 → arg9.view.read (Elt F) f y = gath T i x1 y := fun _ _ h => absurd h (Nat.not_lt_zero _)
  have h10 : ∀ f : arg10.view.ty.Contents (Elt F), ∀ y : S64x64.Idx, (y 0).val < 0 → arg10.view.read (Elt F) f y = gath T i x2 y := fun _ _ h => absurd h (Nat.not_lt_zero _)
  sl_exec
  sl_step
  iapply Hk
  isplitr [H8]
  · isplitl [HL0]
    · iexists _; isplitr
      · ipureintro; exact hf2
      iexact HL0
    isplitl [H3]
    · iexists _; isplitr
      · ipureintro; exact hf3
      iexact H3
    isplitl [HL1]
    · iexists _; isplitr
      · ipureintro; exact hf4
      iexact HL1
    isplitl [HL2]
    · iexists _; isplitr
      · ipureintro; exact hf5
      iexact HL2
    isplitl [H6]
    · iexists _; isplitr
      · ipureintro; exact hf6
      iexact H6
    isplitl [H7]
    · iexists _; isplitr
      · ipureintro; exact hf7
      iexact H7
    isplitl [HL3]
    · iexists gath T i x1, harg9.unread (gath T i x1); isplitr
      · ipureintro; exact harg9.read_unread _
      iexact HL3
    iexists gath T i x2, harg10.unread (gath T i x2); isplitr
    · ipureintro; exact harg10.read_unread _
    iexact HL4
  · iexists _; isplitr; swap
    · iexact H8
    · ipureintro
      refine (read_full _ _ _ _).trans ?_
      rw [load_full harg3 x0 _ zeros3, load_full harg9 _ _ zeros2, load_full harg10 _ _ zeros2, load_full harg6 x3 _ zeros3, load_full harg8 prev _ zeros3]

attribute [local instance] loopExit in
set_option maxHeartbeats 1000000 in
/-- The last head: the contribution is added to what the window holds, and then the bias. -/
theorem run_C (hT : ∀ y, k3_chk1 (T y)) (x0 : Vec F S1x4096x64 .f32) (x3 : Vec F S1x64x64 .f32) (x4 : Vec F S1x64x1 .f32) (prev : Vec F S1x64x4096 .f32)
    (hc1 : ¬ k3_cond1 i = 1#1) (hc2 : k3_cond2 i = 1#1) (hc3 : k3_cond3 i = 1#1) (K : PUnit → sProp 𝕄) :
    iprop(given c T x1 x2 arg2 arg3 arg4 arg5 arg6 arg7 arg9 arg10 x0 x3 x4 ∗ owns (c : Thread nD τ) arg8 fullShare prev
        ∗ (iprop(given c T x1 x2 arg2 arg3 arg4 arg5 arg6 arg7 arg9 arg10 x0 x3 x4
            ∗ owns (c : Thread nD τ) arg8 fullShare (k3_pay1 (k3_pay6 x0 (gath T i x1) (gath T i x2) x3 prev) x4)) -∗ K ⟨⟩))
      ⊢ wp frame (wpE (defs₀ (F := F)) Variants.none c none) Set.univ
          (cc3__k3_body i arg2 harg2 arg3 harg3 arg4 harg4 arg5 harg5 arg6 harg6 arg7 harg7 arg8 harg8 arg9 harg9 arg10 harg10) K := by
  simp only [cc3__k3_body_eq_skeleton]; unfold cc3__k3_body_skel

  unfold given owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%d9, %f9, -, H9⟩, ⟨%d10, %f10, -, H10⟩⟩, ⟨%f8, %hf8, H8⟩, Hk⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7; obtain rfl := harg8.eq_unread hf8
  let L := loopInv (F := F) c T x1 x2 i arg2 harg2 arg3 harg3 arg4 harg4 arg5 harg5 arg6 harg6 arg7 harg7 arg8 harg8 arg9 harg9 arg10 harg10 hT
  have h9 : ∀ f : arg9.view.ty.Contents (Elt F), ∀ y : S64x64.Idx, (y 0).val < 0 → arg9.view.read (Elt F) f y = gath T i x1 y := fun _ _ h => absurd h (Nat.not_lt_zero _)
  have h10 : ∀ f : arg10.view.ty.Contents (Elt F), ∀ y : S64x64.Idx, (y 0).val < 0 → arg10.view.read (Elt F) f y = gath T i x2 y := fun _ _ h => absurd h (Nat.not_lt_zero _)
  sl_exec
  sl_step
  iapply Hk
  isplitr [H8]
  · isplitl [HL0]
    · iexists _; isplitr
      · ipureintro; exact hf2
      iexact HL0
    isplitl [H3]
    · iexists _; isplitr
      · ipureintro; exact hf3
      iexact H3
    isplitl [HL1]
    · iexists _; isplitr
      · ipureintro; exact hf4
      iexact HL1
    isplitl [HL2]
    · iexists _; isplitr
      · ipureintro; exact hf5
      iexact HL2
    isplitl [H6]
    · iexists _; isplitr
      · ipureintro; exact hf6
      iexact H6
    isplitl [H7]
    · iexists _; isplitr
      · ipureintro; exact hf7
      iexact H7
    isplitl [HL3]
    · iexists gath T i x1, harg9.unread (gath T i x1); isplitr
      · ipureintro; exact harg9.read_unread _
      iexact HL3
    iexists gath T i x2, harg10.unread (gath T i x2); isplitr
    · ipureintro; exact harg10.read_unread _
    iexact HL4
  · iexists _; isplitr; swap
    · iexact H8
    · ipureintro
      refine (read_full _ _ _ _).trans ?_
      unfold run_C.sl.v30 run_C.sl.H8_1
      rw [reload_full]
      rw [load_full harg3 x0 _ zeros3, load_full harg9 _ _ zeros2, load_full harg10 _ _ zeros2, load_full harg6 x3 _ zeros3, load_full harg8 prev _ zeros3, load_full harg7 x4 _ zeros3]

end Run
end Cert.Proof.Region3

end
-- ==== Proof.Region3.Body.lean ====
module

public import proofs.«01_k».proof.Proof.Region3.Run
public import Idealize.ShloMosaic.Lib.Claim
public import Idealize.ShloMosaic.Lib.Pipeline.FrameBody
public import Idealize.ShloMosaic.Lib.WordCmp
@[expose] public section

set_option maxRecDepth 16384

noncomputable section

namespace Cert.Proof.Region3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (a : (pcfg3 (F := F)).Adm)

/-! ## The grid: sixteen heads of four batch entries -/

/-- The first condition holds at a row's first head. -/
theorem cond1_iff : ∀ t : Fin grid3.N, k3_cond1 (grid3.coords t) = 1#1 ↔ t.val % 16 = 0 := by decide +kernel
/-- The second at every other head. -/
theorem cond2_iff : ∀ t : Fin grid3.N, k3_cond2 (grid3.coords t) = 1#1 ↔ t.val % 16 ≠ 0 := by decide +kernel
/-- The third at the last. -/
theorem cond3_iff : ∀ t : Fin grid3.N, k3_cond3 (grid3.coords t) = 1#1 ↔ t.val % 16 = 15 := by decide +kernel

/-- The body stores into the output window at every point. -/
theorem live5 : ∀ i : grid3.Coords, idle3 5 i = false := by decide +kernel

/-- The output block moves after the last head only. -/
theorem still5 : ∀ t : Fin grid3.N, t.val % 16 ≠ 15 → ¬ t.val + 1 = grid3.N ∧ ∀ h : t.val + 1 < grid3.N, cc3_transform_5 (grid3.coords ⟨t.val + 1, h⟩) = cc3_transform_5 (grid3.coords t) := by
  decide +kernel

/-- The output block stays in place before a row's last head. -/
theorem noflush5 (t : Fin (cfg3 a).N) (h : t.val % 16 ≠ 15) : ((cfg3 a).win 5).flush t = false := by
  have hs := still5 t h
  unfold Pipeline.Window.flush
  rw [Bool.and_eq_false_iff]; right
  rw [Bool.or_eq_false_iff]
  refine ⟨decide_eq_false hs.1, decide_eq_false ?_⟩
  rintro ⟨h1, h2⟩
  exact h2 (hs.2 h1)

/-! ## The windows' blocks and buffers -/

/-- Window `w`'s block at point `t`, read off its array as the region finds it. -/
def iblk (c : Dev nD) (w : Fin (cfg3 a).W) (t : Fin (cfg3 a).N) : (((cfg3 a).win w).xblock ((cfg3 a).grid.coords t)).Idx → Elt F ((cfg3 a).win w).elt :=
  (((cfg3 a).win w).blk t).view.read (Elt F) (V c (Pipeline.arrRef spec3 w))

/-- The table of the selected positions. -/
abbrev tab : Vec F S4096 .i32 := a.1 0

abbrev ms0 (t : Fin (cfg3 a).N) : Memref sig .tc .vmem S1x4096x64 .f32 := spec3_0.stage ((cfg3 a).slots t 0)
abbrev hs0 (t : Fin (cfg3 a).N) : (ms0 a t).IsWhole := hstage3_0 (((cfg3 a).slots t 0).cast nbuf3_0)
abbrev ms1 (t : Fin (cfg3 a).N) : Memref sig .tc .vmem S1x4096x64 .f32 := spec3_1.stage ((cfg3 a).slots t 1)
abbrev hs1 (t : Fin (cfg3 a).N) : (ms1 a t).IsWhole := hstage3_1 (((cfg3 a).slots t 1).cast nbuf3_1)
abbrev ms2 (t : Fin (cfg3 a).N) : Memref sig .tc .vmem S1x4096x64 .f32 := spec3_2.stage ((cfg3 a).slots t 2)
abbrev hs2 (t : Fin (cfg3 a).N) : (ms2 a t).IsWhole := hstage3_2 (((cfg3 a).slots t 2).cast nbuf3_2)
abbrev ms3 (t : Fin (cfg3 a).N) : Memref sig .tc .vmem S1x64x64 .f32 := spec3_3.stage ((cfg3 a).slots t 3)
abbrev hs3 (t : Fin (cfg3 a).N) : (ms3 a t).IsWhole := hstage3_3 (((cfg3 a).slots t 3).cast nbuf3_3)
abbrev ms4 (t : Fin (cfg3 a).N) : Memref sig .tc .vmem S1x64x1 .f32 := spec3_4.stage ((cfg3 a).slots t 4)
abbrev hs4 (t : Fin (cfg3 a).N) : (ms4 a t).IsWhole := hstage3_4 (((cfg3 a).slots t 4).cast nbuf3_4)
abbrev ms5 (t : Fin (cfg3 a).N) : Memref sig .tc .vmem S1x64x4096 .f32 := spec3_5.stage ((cfg3 a).slots t 5)
abbrev hs5 (t : Fin (cfg3 a).N) : (ms5 a t).IsWhole := hstage3_5 (((cfg3 a).slots t 5).cast nbuf3_5)

/-! ## What the output window holds after each point -/

/-- The first head's contribution. -/
def first (c : Dev nD) (t : Fin (cfg3 a).N) : Vec F S1x64x4096 .f32 :=
  k3_pay5 (iblk V a c 0 t) (gath (tab a) (grid3.coords t) (iblk V a c 1 t)) (gath (tab a) (grid3.coords t) (iblk V a c 2 t)) (iblk V a c 3 t)

/-- What a later head makes of what the window held. -/
def next (c : Dev nD) (t : Fin (cfg3 a).N) (prev : Vec F S1x64x4096 .f32) : Vec F S1x64x4096 .f32 :=
  k3_pay6 (iblk V a c 0 t) (gath (tab a) (grid3.coords t) (iblk V a c 1 t)) (gath (tab a) (grid3.coords t) (iblk V a c 2 t)) (iblk V a c 3 t) prev

/-- The output window after point `n`: the sum of the heads' contributions so far, the bias added after the last. -/
def outAt (c : Dev nD) : (n : ℕ) → n < (cfg3 a).N → Vec F S1x64x4096 .f32
  | 0, h => first V a c ⟨0, h⟩
  | n + 1, h =>
      if (n + 1) % 16 = 0 then first V a c ⟨n + 1, h⟩
      else if (n + 1) % 16 = 15 then k3_pay1 (next V a c ⟨n + 1, h⟩ (outAt c n (Nat.lt_of_succ_lt h))) (iblk V a c 4 ⟨n + 1, h⟩)
      else next V a c ⟨n + 1, h⟩ (outAt c n (Nat.lt_of_succ_lt h))

/-- The output block after a row's first head. -/
theorem outAt_first (c : Dev nD) (t : Fin (cfg3 a).N) (h : t.val % 16 = 0) : outAt V a c t.val t.isLt = first V a c t := by
  obtain ⟨n, hn⟩ := t
  cases n with
  | zero => rfl
  | succ n => exact if_pos h

/-- After a head between. -/
theorem outAt_mid (c : Dev nD) (t : Fin (cfg3 a).N) (h : t.val % 16 ≠ 0) (h' : t.val % 16 ≠ 15) :
    outAt V a c t.val t.isLt = next V a c t (outAt V a c (t.val - 1) (Nat.lt_of_le_of_lt (Nat.sub_le _ _) t.isLt)) := by
  obtain ⟨n, hn⟩ := t
  cases n with
  | zero => exact absurd rfl h
  | succ n => exact (if_neg h).trans (if_neg h')

/-- And after the last. -/
theorem outAt_last (c : Dev nD) (t : Fin (cfg3 a).N) (h : t.val % 16 = 15) :
    outAt V a c t.val t.isLt = k3_pay1 (next V a c t (outAt V a c (t.val - 1) (Nat.lt_of_le_of_lt (Nat.sub_le _ _) t.isLt))) (iblk V a c 4 t) := by
  obtain ⟨n, hn⟩ := t
  cases n with
  | zero => simp at h
  | succ n => exact (if_neg (by simp only at h; omega)).trans (if_pos h)

/-! ## The pipeline's proof data -/

/-- The arrays as the region finds them; after each point the input windows hold their blocks and the output window
`outAt`; the invariant is the scoped buffers, the generator register and the table. -/
def dat (c : Dev nD) : Dat τ (Elt F) Unit ℕ (UR sig nD τ) ℕ (cfg3 a) c where
  A w := V c (Pipeline.arrRef spec3 w)
  after w t := match w with
    | ⟨0, _⟩ => iblk V a c 0 t
    | ⟨1, _⟩ => iblk V a c 1 t
    | ⟨2, _⟩ => iblk V a c 2 t
    | ⟨3, _⟩ => iblk V a c 3 t
    | ⟨4, _⟩ => iblk V a c 4 t
    | ⟨5, _⟩ => outAt V a c t.val t.isLt
  Φ _ := iprop(Pipeline.ΦA spec3 c ∗ Pipeline.prefHeld pre3 c (fun _ => fullShare) a.1)
  q _ := fullShare
  owed _ := 0

/-- The arrays the call finds. -/
theorem A_eq (c : Dev nD) (w : Fin (cfg3 a).W) : (dat V a c).A w = V c (Pipeline.arrRef spec3 w) := by
  dsimp only [dat]

theorem after_0 (c : Dev nD) (t : Fin (cfg3 a).N) : (dat V a c).after 0 t = iblk V a c 0 t := rfl
theorem after_1 (c : Dev nD) (t : Fin (cfg3 a).N) : (dat V a c).after 1 t = iblk V a c 1 t := rfl
theorem after_2 (c : Dev nD) (t : Fin (cfg3 a).N) : (dat V a c).after 2 t = iblk V a c 2 t := rfl
theorem after_3 (c : Dev nD) (t : Fin (cfg3 a).N) : (dat V a c).after 3 t = iblk V a c 3 t := rfl
theorem after_4 (c : Dev nD) (t : Fin (cfg3 a).N) : (dat V a c).after 4 t = iblk V a c 4 t := rfl
theorem after_5 (c : Dev nD) (t : Fin (cfg3 a).N) : (dat V a c).after 5 t = outAt V a c t.val t.isLt := rfl

theorem before_0 (c : Dev nD) (t : Fin (cfg3 a).N) (d) : (dat V a c).before 0 t d = iblk V a c 0 t :=
  ((dat V a c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin (cfg3 a).N) (d) : (dat V a c).before 1 t d = iblk V a c 1 t :=
  ((dat V a c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin (cfg3 a).N) (d) : (dat V a c).before 2 t d = iblk V a c 2 t :=
  ((dat V a c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin (cfg3 a).N) (d) : (dat V a c).before 3 t d = iblk V a c 3 t :=
  ((dat V a c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin (cfg3 a).N) (d) : (dat V a c).before 4 t d = iblk V a c 4 t :=
  ((dat V a c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

/-- At a later head the output window holds what the head before left. -/
theorem before_5 (c : Dev nD) (t : Fin (cfg3 a).N) (h : t.val % 16 ≠ 0) (d) :
    (dat V a c).before 5 t d = outAt V a c (t.val - 1) (Nat.lt_of_le_of_lt (Nat.sub_le _ _) t.isLt) :=
  ((dat V a c).before_out_kept 5 rfl t (fun h0 => h (by rw [h0])) (noflush5 a ⟨t.val - 1, Nat.lt_of_le_of_lt (Nat.sub_le _ _) t.isLt⟩ (by simp only; omega))
    live5 (fun _ _ => rfl) d).trans (after_5 V a c _)

/-! ## The body obligation -/

/-- The body at point `t`, at the point's buffers. -/
abbrev bodyAt (t : Fin (cfg3 a).N) : Prog (TpuEff nD τ sig (Elt F) Λ₀ .tc) PUnit :=
  cc3__k3_body (grid3.coords t) (Memref.whole main_v6) (Memref.isWhole_whole _) (ms0 a t) (hs0 a t) (ms1 a t) (hs1 a t) (ms2 a t) (hs2 a t)
    (ms3 a t) (hs3 a t) (ms4 a t) (hs4 a t) (ms5 a t) (hs5 a t) (Memref.whole cc3_scratch0) (Memref.isWhole_whole _) (Memref.whole cc3_scratch1) (Memref.isWhole_whole _)

/-- The held table is ownership of the buffer the positions lie in. -/
theorem prefHeld_eq (c : Dev nD) :
    (Pipeline.prefHeld pre3 c (fun _ => fullShare) a.1 : sProp 𝕄) = owns (c : Thread nD τ) (Memref.whole main_v6) fullShare (tab a) := by
  rw [owns_whole]
  unfold Pipeline.prefHeld
  exact bigSep_univ_eq_bigSepL [(0 : Fin 1)] (by decide) (by decide) _

/-- What the body is called with at point `t`, -/
def bodyPre (c : Dev nD) (t : Fin (cfg3 a).N) : sProp 𝕄 :=
  iprop((dat V a c).Φ t.castSucc ∗ (dat V a c).owesAt () t.castSucc
    ∗ (∃ d, owns (c : Thread nD τ) (ms0 a t) fullShare ((dat V a c).before 0 t d))
    ∗ (∃ d, owns (c : Thread nD τ) (ms1 a t) fullShare ((dat V a c).before 1 t d))
    ∗ (∃ d, owns (c : Thread nD τ) (ms2 a t) fullShare ((dat V a c).before 2 t d))
    ∗ (∃ d, owns (c : Thread nD τ) (ms3 a t) fullShare ((dat V a c).before 3 t d))
    ∗ (∃ d, owns (c : Thread nD τ) (ms4 a t) fullShare ((dat V a c).before 4 t d))
    ∗ (∃ d, owns (c : Thread nD τ) (ms5 a t) fullShare ((dat V a c).before 5 t d)))

/-- and what it returns. -/
def bodyPost (c : Dev nD) (t : Fin (cfg3 a).N) : sProp 𝕄 :=
  iprop((dat V a c).Φ t.succ ∗ (dat V a c).owesAt () t.succ
    ∗ owns (c : Thread nD τ) (ms0 a t) fullShare (iblk V a c 0 t)
    ∗ owns (c : Thread nD τ) (ms1 a t) fullShare (iblk V a c 1 t)
    ∗ owns (c : Thread nD τ) (ms2 a t) fullShare (iblk V a c 2 t)
    ∗ owns (c : Thread nD τ) (ms3 a t) fullShare (iblk V a c 3 t)
    ∗ owns (c : Thread nD τ) (ms4 a t) fullShare (iblk V a c 4 t)
    ∗ owns (c : Thread nD τ) (ms5 a t) fullShare (outAt V a c t.val t.isLt))

/-- The invariant, opened: the two scratch buffers, the rest of the scoped buffers, the register and the table. -/
theorem inv_open (c : Dev nD) (n : Fin ((cfg3 a).N + 1)) :
    (dat V a c).Φ n = iprop(((((∃ f, owns (c : Thread nD τ) (Memref.whole cc3_scratch0) fullShare f) ∗ (∃ f, owns (c : Thread nD τ) (Memref.whole cc3_scratch1) fullShare f))
      ∗ Pipeline.scopedRestBut spec3 c [cc3_scratch0, cc3_scratch1]) ∗ (∃ r, prngReg c r))
      ∗ owns (c : Thread nD τ) (Memref.whole main_v6) fullShare (tab a)) := by
  simp only [owns_whole (c : Thread nD τ) cc3_scratch0, owns_whole (c : Thread nD τ) cc3_scratch1]
  rw [← scopedRest3_split c, ← prefHeld_eq]
  rfl

/-- A head's run in the pipeline's terms: what the body is given is the invariant's scratch buffers and table and the five
input blocks. -/
theorem run_any (c : Dev nD) (t : Fin (cfg3 a).N) (P : sProp 𝕄) (out : Vec F S1x64x4096 .f32)
    (hrun : ∀ K : PUnit → sProp 𝕄,
      iprop(given c (tab a) (iblk V a c 1 t) (iblk V a c 2 t) (Memref.whole main_v6) (ms0 a t) (ms1 a t) (ms2 a t) (ms3 a t) (ms4 a t) (Memref.whole cc3_scratch0) (Memref.whole cc3_scratch1) (iblk V a c 0 t) (iblk V a c 3 t) (iblk V a c 4 t)
        ∗ P
        ∗ (iprop(given c (tab a) (iblk V a c 1 t) (iblk V a c 2 t) (Memref.whole main_v6) (ms0 a t) (ms1 a t) (ms2 a t) (ms3 a t) (ms4 a t) (Memref.whole cc3_scratch0) (Memref.whole cc3_scratch1) (iblk V a c 0 t) (iblk V a c 3 t) (iblk V a c 4 t)
            ∗ owns (c : Thread nD τ) (ms5 a t) fullShare out) -∗ K ⟨⟩))
      ⊢ wp frame (wpE (defs₀ (F := F)) Variants.none c none) Set.univ (bodyAt a t) K)
    (hP : ∀ d, owns (c : Thread nD τ) (ms5 a t) fullShare ((dat V a c).before 5 t d) ⊢ P)
    (ho : out = outAt V a c t.val t.isLt) :
    bodyPre V a c t ⊢ wp frame (wpE (defs₀ (F := F)) Variants.none c none) Set.univ (bodyAt a t) (fun _ => bodyPost V a c t) := by
  subst ho
  unfold bodyPre bodyPost
  simp only [before_0, before_1, before_2, before_3, before_4]
  rw [show (dat V a c).owesAt () t.succ = (dat V a c).owesAt () t.castSucc from rfl, inv_open, inv_open]
  iintro ⟨⟨⟨⟨⟨Hs0, Hs1⟩, Hr⟩, Hp⟩, HT⟩, Ho, ⟨%d0, H0⟩, ⟨%d1, H1⟩, ⟨%d2, H2⟩, ⟨%d3, H3⟩, ⟨%d4, H4⟩, ⟨%d5, H5⟩⟩
  iapply (hrun _)
  unfold given
  isplitl [HT H0 H1 H2 H3 H4 Hs0 Hs1]
  · isplitl [HT]; · iexact HT
    isplitl [H0]; · iexact H0
    isplitl [H1]; · iexact H1
    isplitl [H2]; · iexact H2
    isplitl [H3]; · iexact H3
    isplitl [H4]; · iexact H4
    isplitl [Hs0]; · iexact Hs0
    iexact Hs1
  isplitl [H5]
  · iapply (hP d5); iexact H5
  iintro ⟨⟨HT, H0, H1, H2, H3, H4, Hs0, Hs1⟩, H5⟩
  isplitl [HT Hs0 Hs1 Hr Hp]
  · isplitr [HT]
    · isplitr [Hp]
      · isplitr [Hr]
        · isplitl [Hs0]; · iexact Hs0
          iexact Hs1
        · iexact Hr
      · iexact Hp
    · iexact HT
  isplitl [Ho]; · iexact Ho
  isplitl [H0]; · iexact H0
  isplitl [H1]; · iexact H1
  isplitl [H2]; · iexact H2
  isplitl [H3]; · iexact H3
  isplitl [H4]; · iexact H4
  iexact H5

/-- The body at any point, of a table of positions in range. -/
theorem sound_body (hT : ∀ y, k3_chk1 (tab a y)) (c : Dev nD) (t : Fin (cfg3 a).N) :
    bodyPre V a c t ⊢ wp frame (wpE (defs₀ (F := F)) Variants.none c none) Set.univ (bodyAt a t) (fun _ => bodyPost V a c t) := by
  by_cases h0 : t.val % 16 = 0
  · exact run_any V a c t _ _ (fun K => run_A c (tab a) (iblk V a c 1 t) (iblk V a c 2 t) (grid3.coords t) _ (Memref.isWhole_whole _) _ (hs0 a t) _ (hs1 a t) _ (hs2 a t) _ (hs3 a t) _ (hs4 a t) _ (hs5 a t) _ (Memref.isWhole_whole _) _ (Memref.isWhole_whole _)
      hT _ _ _ ((cond1_iff t).mpr h0) (fun h => (cond2_iff t).mp h h0) (fun h => by have := (cond3_iff t).mp h; omega) K)
      (fun d => by iintro H; iexists _; iexact H) (outAt_first V a c t h0).symm
  by_cases h1 : t.val % 16 = 15
  · exact run_any V a c t _ _ (fun K => run_C c (tab a) (iblk V a c 1 t) (iblk V a c 2 t) (grid3.coords t) _ (Memref.isWhole_whole _) _ (hs0 a t) _ (hs1 a t) _ (hs2 a t) _ (hs3 a t) _ (hs4 a t) _ (hs5 a t) _ (Memref.isWhole_whole _) _ (Memref.isWhole_whole _)
      hT _ _ _ _ (fun h => h0 ((cond1_iff t).mp h)) ((cond2_iff t).mpr h0) ((cond3_iff t).mpr h1) K)
      (fun d => by rw [before_5 V a c t h0 d]) (outAt_last V a c t h1).symm
  · exact run_any V a c t _ _ (fun K => run_B c (tab a) (iblk V a c 1 t) (iblk V a c 2 t) (grid3.coords t) _ (Memref.isWhole_whole _) _ (hs0 a t) _ (hs1 a t) _ (hs2 a t) _ (hs3 a t) _ (hs4 a t) _ (hs5 a t) _ (Memref.isWhole_whole _) _ (Memref.isWhole_whole _)
      hT _ _ _ _ (fun h => h0 ((cond1_iff t).mp h)) ((cond2_iff t).mpr h0) (fun h => h1 ((cond3_iff t).mp h)) K)
      (fun d => by rw [before_5 V a c t h0 d]) (outAt_mid V a c t h0 h1).symm

/-- The body table's row at point `t`'s slots is the body. -/
theorem defs₀_row (t : Fin (cfg3 a).N) :
    defs₀ (F := F) .tc (cfg3 a).body ((cfg3 a).bodyArgs t ((cfg3 a).slots t)) = bodyAt a t := by
  unfold defs₀; rw [Defs.onTc_tc]

/-- What the body returns, as the library states it. -/
theorem bodyPost_eq (c : Dev nD) (t : Fin (cfg3 a).N) :
    bodyPost V a c t = iprop((dat V a c).Φ t.succ ∗ (dat V a c).owesAt () t.succ
      ∗ (dat V a c).leavesExact 0 t ∗ (dat V a c).leavesExact 1 t ∗ (dat V a c).leavesExact 2 t
      ∗ (dat V a c).leavesExact 3 t ∗ (dat V a c).leavesExact 4 t ∗ (dat V a c).leavesExact 5 t) := by
  have e0 : (dat V a c).leavesExact 0 t = owns (c : Thread nD τ) (ms0 a t) fullShare (iblk V a c 0 t) := by
    unfold Dat.leavesExact; rw [show (cfg3 a).idle 0 ((cfg3 a).grid.coords t) = false from rfl, after_0]; rfl
  have e1 : (dat V a c).leavesExact 1 t = owns (c : Thread nD τ) (ms1 a t) fullShare (iblk V a c 1 t) := by
    unfold Dat.leavesExact; rw [show (cfg3 a).idle 1 ((cfg3 a).grid.coords t) = false from rfl, after_1]; rfl
  have e2 : (dat V a c).leavesExact 2 t = owns (c : Thread nD τ) (ms2 a t) fullShare (iblk V a c 2 t) := by
    unfold Dat.leavesExact; rw [show (cfg3 a).idle 2 ((cfg3 a).grid.coords t) = false from rfl, after_2]; rfl
  have e3 : (dat V a c).leavesExact 3 t = owns (c : Thread nD τ) (ms3 a t) fullShare (iblk V a c 3 t) := by
    unfold Dat.leavesExact; rw [show (cfg3 a).idle 3 ((cfg3 a).grid.coords t) = false from rfl, after_3]; rfl
  have e4 : (dat V a c).leavesExact 4 t = owns (c : Thread nD τ) (ms4 a t) fullShare (iblk V a c 4 t) := by
    unfold Dat.leavesExact; rw [show (cfg3 a).idle 4 ((cfg3 a).grid.coords t) = false from rfl, after_4]; rfl
  have e5 : (dat V a c).leavesExact 5 t = owns (c : Thread nD τ) (ms5 a t) fullShare (outAt V a c t.val t.isLt) := by
    unfold Dat.leavesExact; rw [show (cfg3 a).idle 5 ((cfg3 a).grid.coords t) = false from live5 _, after_5]; rfl
  rw [e0, e1, e2, e3, e4, e5]; rfl

/-- The library's body obligation, at every point. -/
theorem body_obligation (hT : ∀ y, k3_chk1 (tab a y)) (c : Dev nD) :
    BodyObligation (dat (F := F) V a c) (defs₀ (F := F)) Variants.none () Set.univ := fun t => by
  rw [bigSep_W3, bigSep_W3, defs₀_row]
  exact triple_restated (sound_body V a hT c t) rfl .rfl fun _ => by rw [bodyPost_eq]; exact .rfl

end Cert.Proof.Region3

end
-- ==== Proof.Whole.lean ====
module

public import proofs.«01_k».proof.Proof.Region0.Body
public import proofs.«01_k».proof.Proof.Region1.Body
public import proofs.«01_k».proof.Proof.Region2.Body
public import proofs.«01_k».proof.Proof.Region3.Body
public import proofs.«01_k».proof.Proof.Gen.KernelIdeal.Regions
public import Idealize.ShloMosaic.Lib.Pipeline.RegionArraysTS
public import Idealize.ShloMosaic.Lib.Pipeline.FrameTail
@[expose] public section

set_option maxRecDepth 16384

noncomputable section

namespace Cert.Proof.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg HostSeg Seg afterRegion)

variable {F : FTy → Type} [FloatOps F]

local notation "𝕄" => MT nD τ sig Unit (Elt F) ℕ (UR sig nD τ) ℕ

variable (m : (ℓ : Loc nD τ sig) → Buf (Elt F) ℓ)

/-! ## The buffers between the calls

`UJ m c` is what core `c`'s unscoped buffers hold after item J−1 of the program: the four calls, with the host's reshapes
before the last. -/

/-- A valuation, as the calls' proof data read it. -/
abbrev refs (U : Dev nD → Valuation τ sig (Elt F)) : (c : Dev nD) → (b : Ref sig .tc) → Buf (Elt F) ((c : Thread nD τ).loc b) :=
  fun c b => U c (Proc.devRef .tc b)

def U0 (c : Dev nD) : Valuation τ sig (Elt F) := fun b => m (c, b)
/-- After the first call. -/
def U1 (c : Dev nD) : Valuation τ sig (Elt F) := afterRegion (Region0.dat (refs (U0 m)) c) (U0 m c)
/-- The second. -/
def U2 (c : Dev nD) : Valuation τ sig (Elt F) := afterRegion (Region1.dat (refs (U1 m)) c) (U1 m c)
/-- The third. -/
def U3 (c : Dev nD) : Valuation τ sig (Elt F) := afterRegion (Region2.dat (refs (U2 m)) c) (U2 m c)
/-- And the host stretch. -/
def U4 (c : Dev nD) : Valuation τ sig (Elt F) := StableHlo.after hostOps3 (U3 m c)

/-- The table of selected positions the last call is entered with. -/
def adm3 : (pcfg3 (F := F)).Adm := ⟨fun k => U4 m 0 (Proc.devRef .tc (pre3.ref k)), trivial⟩

def U5 (c : Dev nD) : Valuation τ sig (Elt F) := afterRegion (Region3.dat (refs (U4 m)) (adm3 m) c) (U4 m c)

/-- The calls' tables: only the last has one. -/
def adm : (p : Fin 4) → (pcfgs (F := F) p).Adm
  | ⟨0, _⟩ => cfg0.toPCfg_adm
  | ⟨1, _⟩ => cfg1.toPCfg_adm
  | ⟨2, _⟩ => cfg2.toPCfg_adm
  | ⟨3, _⟩ => adm3 m

/-- The calls' proof data. -/
def pdats : (p : Fin 4) → (c : Dev nD) → Dat τ (Elt F) Unit ℕ (UR sig nD τ) ℕ (Pipeline.pin (pcfgs (F := F)) (adm m) p) c
  | ⟨0, _⟩ => fun c => Region0.dat (refs (U0 m)) c
  | ⟨1, _⟩ => fun c => Region1.dat (refs (U1 m)) c
  | ⟨2, _⟩ => fun c => Region2.dat (refs (U2 m)) c
  | ⟨3, _⟩ => fun c => Region3.dat (refs (U4 m)) (adm3 m) c

/-! ## The items as segments -/

/-- Nothing is owed by any core; the one level lies at the TensorCores' cells. -/
abbrev L : GSem nD τ sig → Finset Unit := fun g => if g.1.2 = .tc then {()} else ∅
/-- All levels are zero. -/
abbrev lv : GSem nD τ sig → Unit → ℕ := fun _ _ => 0

/-- What rides beside the buffers: the core owing nothing, and the generator register. -/
abbrev E (c : Dev nD) : sProp 𝕄 :=
  iprop((∃ W, owes (c : Thread nD τ) (0 : CellTallies nD τ sig Unit) W) ∗ (∃ r, prngReg c r) ∗ emp)

/-- No call waits on a level above its own. -/
theorem cut (p : Fin 4) : Pipeline.LevelCut (nD := nD) (pcfgs (F := F)) (adm m) () L lv p (fun _ => 0) (fun _ => 0) where
  hι c w s := by rw [L, if_pos rfl]; exact Finset.mem_singleton_self _
  hιb _ _ _ := le_refl _
  hD _ _ _ h := absurd h (lt_irrefl _)

set_option backward.isDefEq.respectTransparency.types false in
/-- The first call. -/
def R0 : RegionSeg (pcfgs (F := F)) (adm m) (pdats m) () defs₀ Variants.none L lv 0 :=
  RegionSeg.ofHeldIn (pcfgs (F := F)) (adm m) (pdats m) () defs₀ Variants.none L lv 0 (fun _ => 0) (Pipeline.ucRefs τ sig)
    (fun c => iprop(∃ r, prngReg c r)) (fun c => iprop(∃ r, prngReg c r)) launch0 rfl
    (fun c => (Region0.body_obligation (refs (U0 m)) c).loose) (fun _ _ => rfl) (fun _ => rfl)
    (fun c => (pdats m 0 c).share_full fun _ => rfl) (fun _ => .rfl) (fun _ => .rfl)
    (fun _ => 0) (cut m 0) (fun _ => iprop(emp)) (U0 m) (fun _ _ => rfl)

set_option backward.isDefEq.respectTransparency.types false in
/-- The second call. -/
def R1 : RegionSeg (pcfgs (F := F)) (adm m) (pdats m) () defs₀ Variants.none L lv 1 :=
  RegionSeg.ofHeldIn (pcfgs (F := F)) (adm m) (pdats m) () defs₀ Variants.none L lv 1 (fun _ => 0) (Pipeline.ucRefs τ sig)
    (fun c => iprop(∃ r, prngReg c r)) (fun c => iprop(∃ r, prngReg c r)) launch1 rfl
    (fun c => (Region1.body_obligation (refs (U1 m)) c).loose) (fun _ _ => rfl) (fun _ => rfl)
    (fun c => (pdats m 1 c).share_full fun _ => rfl) (fun _ => .rfl) (fun _ => .rfl)
    (fun _ => 0) (cut m 1) (fun _ => iprop(emp)) (U1 m) (fun _ _ => rfl)

set_option backward.isDefEq.respectTransparency.types false in
/-- The third call. -/
def R2 : RegionSeg (pcfgs (F := F)) (adm m) (pdats m) () defs₀ Variants.none L lv 2 :=
  RegionSeg.ofHeldIn (pcfgs (F := F)) (adm m) (pdats m) () defs₀ Variants.none L lv 2 (fun _ => 0) (Pipeline.ucRefs τ sig)
    (fun c => iprop(∃ r, prngReg c r)) (fun c => iprop(∃ r, prngReg c r)) launch2 rfl
    (fun c => (Region2.body_obligation (refs (U2 m)) c).loose) (fun _ _ => rfl) (fun _ => rfl)
    (fun c => (pdats m 2 c).share_full fun _ => rfl) (fun _ => .rfl) (fun _ => .rfl)
    (fun _ => 0) (cut m 2) (fun _ => iprop(emp)) (U2 m) (fun _ _ => rfl)

/-- The host's reshapes. -/
def H3 : HostSeg (Ix := Unit) (Name := ℕ) (U := UR sig nD τ) (Lvl := ℕ) (pcfgs (F := F)) defs₀ Variants.none L lv :=
  HostSeg.ofOps _ _ _ _ _ (Pipeline.ucRefs τ sig) hostOps3
    (fun op h => Pipeline.sub_ucRefs op ((List.forall_iff_forall_mem.mp hostOps3_sub) op h))
    (fun op h => (List.forall_iff_forall_mem.mp hostOps3_fresh) op h) (U3 m) E

set_option backward.isDefEq.respectTransparency.types false in
/-- The last call, of a table of positions in range. -/
def R3 (hT : ∀ y, k3_chk1 (Region3.tab (adm3 m) y)) : RegionSeg (pcfgs (F := F)) (adm m) (pdats m) () defs₀ Variants.none L lv 3 :=
  RegionSeg.ofHeldInT (pcfgs (F := F)) (adm m) (pdats m) () defs₀ Variants.none L lv 3 (fun _ => 0) (Pipeline.ucRefs τ sig)
    (fun c => iprop(∃ r, prngReg c r)) (fun c => iprop(∃ r, prngReg c r)) launch3
    (fun c => (Region3.body_obligation (refs (U4 m)) (adm3 m) hT c).loose) (fun _ _ => rfl) (fun _ => rfl)
    (fun c => (pdats m 3 c).share_full fun _ => rfl) (fun _ => .rfl) (fun _ => .rfl)
    (fun _ => 0) (cut m 3) (fun _ => iprop(emp)) (U4 m) (fun _ _ => rfl) (fun c k => by rw [Subsingleton.elim c 0]; rfl)

/-- The program's items. -/
abbrev items (hT : ∀ y, k3_chk1 (Region3.tab (adm3 m) y)) (_ : Dev nD) : List (Seg (pcfgs (F := F)) (adm m) (pdats m) () defs₀ Variants.none L lv) :=
  [.region (R0 m), .region (R1 m), .region (R2 m), .host (H3 m), .region (R3 m hT)]

/-- Each call's arrays are among the device's unscoped buffers. -/
theorem sub0 : Pipeline.arrRefs (τ := τ) (pcfgs (F := F) 0).spec ⊆ Pipeline.ucRefs τ sig :=
  Pipeline.arrRefs_sub_ucRefs _ fun w => by revert w; show ∀ w : Fin 9, (Pipeline.arrRef spec0 w).isScoped = false; decide
theorem sub1 : Pipeline.arrRefs (τ := τ) (pcfgs (F := F) 1).spec ⊆ Pipeline.ucRefs τ sig :=
  Pipeline.arrRefs_sub_ucRefs _ fun w => by revert w; show ∀ w : Fin 3, (Pipeline.arrRef spec1 w).isScoped = false; decide
theorem sub2 : Pipeline.arrRefs (τ := τ) (pcfgs (F := F) 2).spec ⊆ Pipeline.ucRefs τ sig :=
  Pipeline.arrRefs_sub_ucRefs _ fun w => by revert w; show ∀ w : Fin 2, (Pipeline.arrRef spec2 w).isScoped = false; decide
theorem sub3 : Pipeline.arrRefs (τ := τ) (pcfgs (F := F) 3).spec ⊆ Pipeline.ucRefs τ sig :=
  Pipeline.arrRefs_sub_ucRefs _ fun w => by revert w; show ∀ w : Fin 6, (Pipeline.arrRef spec3 w).isScoped = false; decide
/-- So is the table of positions. -/
theorem sub3' : Pipeline.tblRefs (τ := τ) (pcfgs (F := F) 3).pre ⊆ Pipeline.ucRefs τ sig :=
  Pipeline.tblRefs_sub_ucRefs _ fun k => by revert k; show ∀ k : Fin 1, (pre3.ref k).isScoped = false; decide

/-! Each call is entered from the buffers as the item before it left them, and leaves them at the next valuation. -/

set_option backward.isDefEq.respectTransparency.types false in
/-- Each call enters from the buffers as held. -/
theorem enter0 (c : Dev nD) : iprop(StableHlo.held (c : Thread nD τ) (Pipeline.ucRefs τ sig) (U0 m c) ∗ E c) ⊢ (R0 m).pre c := by
  unfold R0
  exact RegionSeg.ofHeldIn_pre (D := fun _ => 0) (X := fun c => iprop(∃ r, prngReg c r)) (R := fun _ => iprop(emp)) (W := U0 m) sub0 c
set_option backward.isDefEq.respectTransparency.types false in
/-- And leaves them as its outputs say. -/
theorem leave0 (c : Dev nD) : (R0 m).post c ⊢ iprop(StableHlo.held (c : Thread nD τ) (Pipeline.ucRefs τ sig) (U1 m c) ∗ E c) := by
  unfold R0
  rw [show U1 m c = afterRegion (pdats m 0 c) (U0 m c) from rfl]
  exact RegionSeg.ofHeldIn_post (D := fun _ => 0) (Y := fun c => iprop(∃ r, prngReg c r)) (R := fun _ => iprop(emp)) (W := U0 m) sub0 c
set_option backward.isDefEq.respectTransparency.types false in
theorem enter1 (c : Dev nD) : iprop(StableHlo.held (c : Thread nD τ) (Pipeline.ucRefs τ sig) (U1 m c) ∗ E c) ⊢ (R1 m).pre c := by
  unfold R1
  exact RegionSeg.ofHeldIn_pre (D := fun _ => 0) (X := fun c => iprop(∃ r, prngReg c r)) (R := fun _ => iprop(emp)) (W := U1 m) sub1 c
set_option backward.isDefEq.respectTransparency.types false in
theorem leave1 (c : Dev nD) : (R1 m).post c ⊢ iprop(StableHlo.held (c : Thread nD τ) (Pipeline.ucRefs τ sig) (U2 m c) ∗ E c) := by
  unfold R1
  rw [show U2 m c = afterRegion (pdats m 1 c) (U1 m c) from rfl]
  exact RegionSeg.ofHeldIn_post (D := fun _ => 0) (Y := fun c => iprop(∃ r, prngReg c r)) (R := fun _ => iprop(emp)) (W := U1 m) sub1 c
set_option backward.isDefEq.respectTransparency.types false in
theorem enter2 (c : Dev nD) : iprop(StableHlo.held (c : Thread nD τ) (Pipeline.ucRefs τ sig) (U2 m c) ∗ E c) ⊢ (R2 m).pre c := by
  unfold R2
  exact RegionSeg.ofHeldIn_pre (D := fun _ => 0) (X := fun c => iprop(∃ r, prngReg c r)) (R := fun _ => iprop(emp)) (W := U2 m) sub2 c
set_option backward.isDefEq.respectTransparency.types false in
theorem leave2 (c : Dev nD) : (R2 m).post c ⊢ iprop(StableHlo.held (c : Thread nD τ) (Pipeline.ucRefs τ sig) (U3 m c) ∗ E c) := by
  unfold R2
  rw [show U3 m c = afterRegion (pdats m 2 c) (U2 m c) from rfl]
  exact RegionSeg.ofHeldIn_post (D := fun _ => 0) (Y := fun c => iprop(∃ r, prngReg c r)) (R := fun _ => iprop(emp)) (W := U2 m) sub2 c
set_option backward.isDefEq.respectTransparency.types false in
theorem enter3 (hT : ∀ y, k3_chk1 (Region3.tab (adm3 m) y)) (c : Dev nD) :
    iprop(StableHlo.held (c : Thread nD τ) (Pipeline.ucRefs τ sig) (U4 m c) ∗ E c) ⊢ (R3 m hT).pre c := by
  unfold R3
  exact RegionSeg.ofHeldInT_pre (D := fun _ => 0) (X := fun c => iprop(∃ r, prngReg c r)) (R := fun _ => iprop(emp)) (W := U4 m) sub3 sub3' c
set_option backward.isDefEq.respectTransparency.types false in
theorem leave3 (hT : ∀ y, k3_chk1 (Region3.tab (adm3 m) y)) (c : Dev nD) :
    (R3 m hT).post c ⊢ iprop(StableHlo.held (c : Thread nD τ) (Pipeline.ucRefs τ sig) (U5 m c) ∗ E c) := by
  unfold R3
  rw [show U5 m c = afterRegion (pdats m 3 c) (U4 m c) from rfl]
  exact RegionSeg.ofHeldInT_post (D := fun _ => 0) (Y := fun c => iprop(∃ r, prngReg c r)) (R := fun _ => iprop(emp)) (W := U4 m) sub3 sub3' c

variable (ρ : Dev nD → PrngReg)

-- the kit's implicit arguments are found by unifying its conclusion with this one
set_option backward.isDefEq.respectTransparency.types false in
/-- The whole program, of a table of positions in range: every execution ends, with every unscoped buffer at `U5` and every
counter at zero. -/
theorem run (hT : ∀ y, k3_chk1 (Region3.tab (adm3 m) y)) :
    θ_run defs (onTc (τ := τ) (main (F := F))) ⟨m, fun _ => 0, ρ⟩ (fun r =>
      (∀ (c : Dev nD) (b : Ref sig .tc), b.isScoped = false → r.2.mem ((c.tc : Thread nD τ).loc b) = U5 m c (Proc.devRef .tc b))
      ∧ r.2.sem = fun _ => 0) := by
  refine Pipeline.θ_run_regions_kit_dev_sems (pcfgs (F := F)) (adm m) (pdats m) () (cellOf_inj (adm m)) emb₁ defs₀ Variants.none L lv m ρ main
    (items m hT)
    (fun c Q => by
      rewrite [main_chain c, Seg.run_eq_chain,
        show (items m hT c).map Seg.prog = [
          Prog.lift (.customCall (Pipeline.entry 0) ()),
          Prog.lift (.customCall (Pipeline.entry 1) ()),
          Prog.lift (.customCall (Pipeline.entry 2) ()),
          StableHlo.seq hostOps3,
          Prog.lift (.customCall (Pipeline.entry 3) ()) ] from rfl]
      dsimp (config := { failIfUnchanged := false }) only
      exact .rfl)
    (fun c => by simp only [items, Seg.pipes_host, Seg.pipes_region, Seg.pipes_nil]; decide) 0 (fun _ h => if_neg h) (fun _ => iprop(emp))
    (initOf (Pipeline.cells (Pipeline.pin (pcfgs (F := F)) (adm m)) (cellOf_inj (adm m))) (Pipeline.launchToks (Pipeline.pin (pcfgs (F := F)) (adm m)) (cellOf_inj (adm m))))
    ?_
    (T₀ := fun c => iprop(StableHlo.held (c : Thread nD τ) (Pipeline.ucRefs τ sig) (U0 m c) ∗ E c))
    (Tₙ := fun c => StableHlo.held (c : Thread nD τ) (Pipeline.ucRefs τ sig) (U5 m c))
    (hch := fun c => ⟨enter0 m c, (leave0 m c).trans (enter1 m c), (leave1 m c).trans (enter2 m c), leave2 m c,
      enter3 m hT c, (leave3 m hT c).trans (sep_mono .rfl ?_)⟩)
    (hinit := ?_) (QY := fun c s => ∀ b ∈ Pipeline.ucRefs τ sig, s.mem ((c.tc : Thread nD τ).1, b) = U5 m c b)
    (hfin := fun c s' => ?_)
    (hQ := fun _ h hz => ⟨fun c b hb => h c (Proc.devRef .tc b) (Pipeline.devRef_mem_ucRefs hb), funext fun g => hz g (.inr (regions_no_unscoped g.2))⟩)
  · iintro Hu; imodintro
    isplitl [Hu]
    · iapply (show (ownU _ : sProp 𝕄) ⊢ BI.own (emb₁ (initOf (Pipeline.cells (Pipeline.pin (pcfgs (F := F)) (adm m)) (cellOf_inj (adm m))) (Pipeline.launchToks (Pipeline.pin (pcfgs (F := F)) (adm m)) (cellOf_inj (adm m))))) from .rfl)
      iexact Hu
    iapply (show (BI.emp : sProp 𝕄) ⊢ bigSep Finset.univ (fun _ : Dev nD => (BI.emp : sProp 𝕄)) from by rw [BI.bigSep_emp_const])
    iempintro
  · iintro ⟨HO, -⟩; iexact HO
  · refine Pipeline.initEach L lv fun c => ?_
    rw [show unscopedBufs c (fun b => m ((c.tc : Thread nD τ).loc b)) = StableHlo.held (c.tc : Thread nD τ) (Pipeline.ucRefs τ sig) (U0 m c)
        from Pipeline.unscopedBufs_held (Ix := Unit) (Name := ℕ) (U := UR sig nD τ) (Lvl := ℕ) c (U0 m c)]
    iintro ⟨⟨Hh, -, HO, -, Hp, -⟩, -⟩
    imodintro
    isplitl [Hh]; · iexact Hh
    isplitl [HO]
    · iexists ∅; iexact HO
    isplitl [Hp]
    · iexists ρ c; iexact Hp
    iempintro
  · unfold StableHlo.held
    iintro ⟨Hh, HSI⟩
    ihave Hr := (pointsTo_read_all (Pipeline.ucRefs τ sig) (fun b => ((c.tc : Thread nD τ).1, b)) (U5 m c) s') $$ [Hh HSI]
    · isplitl [Hh] <;> iassumption
    imodintro; iexact Hr

end Cert.Proof.Whole

end
-- ==== Proof.Pick.lean ====
module

public import Idealize.ShloMosaic.Lib.Pointwise
public import Idealize.ShloMosaic.Lib.SortNet.Positions
public import Idealize.ShloMosaic.Lib.SortNet.Threshold
public import Idealize.ShloMosaic.Lib.SortFacts

@[expose] public section

noncomputable section

/-! # The 64 greatest of 4096 scores: by rounds, and by sorting

A round picks the first position whose score no other exceeds, and hides it by writing a very small number over it. For scores that
are not negative, the positions that 64 rounds pick are, in order, the first 64 that a stable descending sort lists. -/

namespace Cert.Proof.Pick

open Idealize.ShloMosaic Idealize.ShloMosaic.SortNet

/-- What is written over a picked score. -/
def low : EReal := Ideal.ofBits .f32 0xF149F2CA#32

/-- What is written over a picked score is negative. -/
theorem low_neg : low < 0 := by
  have e : low = ((-(13234890 * 2 ^ 76) : ℝ) : EReal) := by
    unfold low
    simp [Ideal.ofBits, Ideal.ieee, -EReal.coe_mul, -EReal.coe_neg]
  rw [e]
  exact EReal.coe_neg'.mpr (by norm_num)

/-- Some position attains the greatest score. -/
theorem exists_greatest (f : Fin 4096 → EReal) : ∃ n : ℕ, ∃ h : n < 4096, ∀ x, f x ≤ f ⟨n, h⟩ := by
  obtain ⟨x, -, hx⟩ := Finset.exists_max_image (Finset.univ : Finset (Fin 4096)) f ⟨0, Finset.mem_univ _⟩
  exact ⟨x.val, x.isLt, fun y => hx y (Finset.mem_univ y)⟩

open Classical in
/-- The first position whose score is greatest. -/
def pick (f : Fin 4096 → EReal) : Fin 4096 := ⟨Nat.find (exists_greatest f), (Nat.find_spec (exists_greatest f)).1⟩

/-- The picked score is the greatest. -/
theorem le_pick (f : Fin 4096 → EReal) (x : Fin 4096) : f x ≤ f (pick f) := (Nat.find_spec (exists_greatest f)).2 x

open Classical in
/-- Every earlier position has a smaller score. -/
theorem lt_of_before_pick (f : Fin 4096 → EReal) (x : Fin 4096) (h : x < pick f) : f x < f (pick f) := by
  refine lt_of_le_of_ne (le_pick f x) fun e => ?_
  exact Nat.find_min (exists_greatest f) (show x.val < _ from h) ⟨x.isLt, fun y => (le_pick f y).trans e.ge⟩

/-- The scores after a number of rounds. -/
def masked (f : Fin 4096 → EReal) : ℕ → Fin 4096 → EReal
  | 0 => f
  | i + 1 => fun l => if l = pick (masked f i) then low else masked f i l

/-- The position a round picks. -/
def sel (f : Fin 4096 → EReal) (i : ℕ) : Fin 4096 := pick (masked f i)

/-- After some rounds, the picked positions are masked and the others keep their scores. -/
theorem masked_eq (f : Fin 4096 → EReal) (i : ℕ) (l : Fin 4096) : masked f i l = if ∃ j < i, sel f j = l then low else f l := by
  induction i with
  | zero => simp [masked]
  | succ i ih =>
    show (if l = sel f i then low else masked f i l) = _
    by_cases h : l = sel f i
    · rw [if_pos h, if_pos ⟨i, Nat.lt_succ_self i, h.symm⟩]
    · rw [if_neg h, ih]
      refine if_congr ⟨fun ⟨j, hj, e⟩ => ⟨j, by omega, e⟩, fun ⟨j, hj, e⟩ => ⟨j, ?_, e⟩⟩ rfl rfl
      rcases Nat.lt_succ_iff_lt_or_eq.mp hj with hj | rfl
      · exact hj
      · exact absurd e.symm h

/-- Of two positions, the one with the greater score is the greater entry, and at equal scores the earlier one. -/
def entry (f : Fin 4096 → EReal) (l : Fin 4096) : EReal ×ₗ (Fin 4096)ᵒᵈ := toLex (f l, OrderDual.toDual l)

/-- Different positions have different entries. -/
theorem entry_injective (f : Fin 4096 → EReal) : Function.Injective (entry f) := fun a b h => by
  have := congrArg (fun e => OrderDual.ofDual (ofLex e).2) h
  exact this

/-- An entry is less when its score is, or when the scores are equal and its position is later. -/
theorem entry_lt (f : Fin 4096 → EReal) (a b : Fin 4096) : entry f a < entry f b ↔ f a < f b ∨ f a = f b ∧ b < a := by
  unfold entry
  rw [Prod.Lex.toLex_lt_toLex]
  rfl

/-- A position not yet picked, which exists while fewer than 4096 rounds have run. -/
theorem exists_fresh (f : Fin 4096 → EReal) (i : ℕ) (hi : i < 4096) : ∃ l, ¬∃ j < i, sel f j = l := by
  by_contra h
  push Not at h
  have : (Finset.univ : Finset (Fin 4096)) ⊆ (Finset.range i).image (sel f) := fun l _ => by
    obtain ⟨j, hj, e⟩ := h l
    exact Finset.mem_image.mpr ⟨j, Finset.mem_range.mpr hj, e⟩
  have hc := (Finset.card_le_card this).trans Finset.card_image_le
  rw [Finset.card_univ, Fintype.card_fin, Finset.card_range] at hc
  omega

variable {f : Fin 4096 → EReal} (hf : ∀ l, 0 ≤ f l)
include hf

/-- A round picks a fresh position. -/
theorem sel_fresh (i : ℕ) (hi : i < 4096) : ¬∃ j < i, sel f j = sel f i := by
  intro h
  obtain ⟨l, hl⟩ := exists_fresh f i hi
  have h1 := le_pick (masked f i) l
  rw [masked_eq, if_neg hl, masked_eq, if_pos (show ∃ j < i, sel f j = pick (masked f i) from h)] at h1
  exact absurd (low_neg.trans_le (hf l)) (not_lt.mpr h1)

/-- The picked position's entry is the greatest of the fresh ones. -/
theorem entry_le_sel (i : ℕ) (hi : i < 4096) (l : Fin 4096) (hl : ¬∃ j < i, sel f j = l) : entry f l ≤ entry f (sel f i) := by
  by_contra h
  rw [not_le, entry_lt] at h
  have hs := sel_fresh hf i hi
  have e1 : masked f i l = f l := by rw [masked_eq, if_neg hl]
  have e2 : masked f i (sel f i) = f (sel f i) := by rw [masked_eq, if_neg hs]
  rcases h with h | ⟨h, hlt⟩
  · have := le_pick (masked f i) l
    exact absurd (e1 ▸ e2 ▸ this) (not_le.mpr h)
  · have := lt_of_before_pick (masked f i) l hlt
    have : f l < f (sel f i) := e1 ▸ e2 ▸ this
    exact absurd h this.ne'

omit hf in
/-- Two orders that agree on whether a later position comes before an earlier one sort alike. -/
theorem insertBefore_congr {ι : Type} (B B' : ι → ι → Bool) (a : ι) (L : List ι) (h : ∀ b ∈ L, B b a = B' b a) :
    insertBefore B a L = insertBefore B' a L := by
  induction L with
  | nil => rfl
  | cons b L ih =>
    unfold insertBefore
    rw [h b List.mem_cons_self, ih fun c hc => h c (List.mem_cons_of_mem _ hc)]

omit hf in
/-- A stable sort depends on the comparison of an earlier with a later position only. -/
theorem stableSort_congr {n : ℕ} (B B' : Fin n → Fin n → Bool) (h : ∀ a b, a < b → B b a = B' b a) (L : List (Fin n)) (hL : L.Pairwise (· < ·)) :
    stableSort B L = stableSort B' L := by
  induction L with
  | nil => rfl
  | cons a L ih =>
    obtain ⟨h1, h2⟩ := List.pairwise_cons.mp hL
    unfold stableSort
    rw [ih h2]
    exact insertBefore_congr _ _ _ _ fun b hb => h a b (h1 b ((perm_stableSort B' L).mem_iff.mp hb))

omit hf in
/-- Two comparisons that sort alike put the same position at each place. -/
theorem sortedFrom_of {n : ℕ} {B B' : Fin n → Fin n → Bool} (e : sortPositions n B = sortPositions n B') (i : Fin n) :
    sortedFrom B i = sortedFrom B' i := by
  unfold sortedFrom
  rw [List.get_of_eq e]
  rfl

omit hf in
/-- The stable descending sort lists the positions by their entries. -/
theorem sortedFrom_eq (i : Fin 4096) :
    sortedFrom (fun k k' => FloatOps.cmpfTotal (F := Ideal) (φ := .f32) .gt (f k) (f k') == 1#1) i = sortedFrom (greaterFirst (entry f)) i := by
  have e : sortPositions 4096 (fun k k' => FloatOps.cmpfTotal (F := Ideal) (φ := .f32) .gt (f k) (f k') == 1#1) = sortPositions 4096 (greaterFirst (entry f)) := by
    refine stableSort_congr _ _ (fun a b hab => ?_) _ (List.pairwise_lt_finRange 4096)
    unfold greaterFirst
    have : (entry f a < entry f b) ↔ f a < f b := by
      rw [entry_lt]
      exact ⟨fun h => h.resolve_right fun h => absurd h.2 (not_lt.mpr hab.le), Or.inl⟩
    rw [decide_eq_decide.mpr this]
    rw [Ideal.cmpfTotal_def]
    by_cases h : f a < f b
    · rw [decide_eq_true h]
      simp [Ideal.cmp, CmpDirection.ordered, h]
    · rw [decide_eq_false h]
      simp [Ideal.cmp, CmpDirection.ordered, h]
  exact sortedFrom_of e i

/-- The rounds pick what the sort lists. -/
theorem sortedFrom_eq_sel (i : Fin 64) :
    sortedFrom (fun k k' => FloatOps.cmpfTotal (F := Ideal) (φ := .f32) .gt (f k) (f k') == 1#1) ⟨i.val, by omega⟩ = sel f i.val := by
  rw [sortedFrom_eq]
  have h := entry_sortedFrom_eq_topList (entry f) (entry_injective f) 64 ⟨i.val, by omega⟩ i.isLt
  have hr : (List.range 64).map (fun j => entry f (sel f j)) = topList 64 (List.ofFn (entry f)) := by
    rw [List.ofFn_eq_map]
    refine map_range_eq_topList ((List.nodup_finRange 4096).map (entry_injective f)) _ 64 fun j hj => ⟨?_, ?_, ?_⟩
    · exact List.mem_map.mpr ⟨_, List.mem_finRange _, rfl⟩
    · intro hm
      obtain ⟨k, hk, e⟩ := List.mem_map.mp hm
      exact sel_fresh hf j (by omega) ⟨k, List.mem_range.mp hk, entry_injective f e⟩
    · intro x hx hn
      obtain ⟨l, -, rfl⟩ := List.mem_map.mp hx
      refine entry_le_sel hf j (by omega) l fun ⟨k, hk, e⟩ => hn ?_
      exact List.mem_map.mpr ⟨k, List.mem_range.mpr hk, congrArg (entry f) e⟩
  rw [← hr, List.getElem?_map, List.getElem?_range i.isLt] at h
  exact entry_injective f (Option.some.inj h)

end Cert.Proof.Pick
end
-- ==== Proof.Spec.lean ====
module

public import Idealize.ShloMosaic.Lib.Pointwise

@[expose] public section

noncomputable section

/-! # What the kernel and the reference compute, position by position

A COLUMN is one position of one batch element: its 1024 channels. Everything up to the normalised queries, keys and values is a
function of the column alone; these definitions name it, over the extended reals. -/

namespace Cert.Proof.Spec

open Idealize.ShloMosaic

/-- The number of channels, and the small constant added to a root, as the programs spell them. -/
def chans : EReal := Ideal.ofBits .f32 0x44800000#32
/-- The constant added to a root before dividing. -/
def eps : EReal := Ideal.ofBits .f32 0x358637BD#32

/-- The mean of a column. -/
def mean (x : Fin 1024 → EReal) : EReal := Ideal.div (∑ c, x c) chans

/-- The variance of a column. -/
def var (x : Fin 1024 → EReal) : EReal := Ideal.div (∑ c, (x c - mean x) * (x c - mean x)) chans

/-- The normalised column. -/
def xn (x g b : Fin 1024 → EReal) (c : Fin 1024) : EReal :=
  g c * ((x c - mean x) * Ideal.div 1 (Ideal.sqrt (var x) + eps)) + b c

/-- The column's queries, keys and values, one after another. -/
def proj (x g b : Fin 1024 → EReal) (W : Fin 3072 → Fin 1024 → EReal) (o : Fin 3072) : EReal := ∑ c, xn x g b c * W o c

/-- Lane `d` of group `j`: groups 0–15 are the heads' queries, 16–31 their keys, 32–47 their values. -/
def lane (p : Fin 3072 → EReal) (j : Fin 48) (d : Fin 64) : EReal := p ⟨64 * j.val + d.val, by omega⟩

/-- One over a group's length (and the small constant). -/
def inv (p : Fin 3072 → EReal) (j : Fin 48) : EReal := Ideal.div 1 (Ideal.sqrt (∑ d, lane p j d * lane p j d) + eps)

/-- The group at unit length. -/
def unit (p : Fin 3072 → EReal) (j : Fin 48) (d : Fin 64) : EReal := lane p j d * inv p j

/-- The groups of a head. -/
abbrev gq (h : Fin 16) : Fin 48 := ⟨h.val, by omega⟩
/-- The groups of the keys. -/
abbrev gk (h : Fin 16) : Fin 48 := ⟨16 + h.val, by omega⟩
/-- And of the values. -/
abbrev gv (h : Fin 16) : Fin 48 := ⟨32 + h.val, by omega⟩

/-- The heads, all of one batch element after another: a head's queries, keys and values at a position, from the projections `p` of
every position. -/
def hq (p : Fin 4 → Fin 4096 → Fin 3072 → EReal) (n : Fin 64) (l : Fin 4096) (d : Fin 64) : EReal :=
  unit (p ⟨n.val / 16, by omega⟩ l) (gq ⟨n.val % 16, by omega⟩) d
/-- A head's scaled keys. -/
def hk (p : Fin 4 → Fin 4096 → Fin 3072 → EReal) (n : Fin 64) (l : Fin 4096) (d : Fin 64) : EReal :=
  unit (p ⟨n.val / 16, by omega⟩ l) (gk ⟨n.val % 16, by omega⟩) d
/-- And its values. -/
def hv (p : Fin 4 → Fin 4096 → Fin 3072 → EReal) (n : Fin 64) (l : Fin 4096) (d : Fin 64) : EReal :=
  lane (p ⟨n.val / 16, by omega⟩ l) (gv ⟨n.val % 16, by omega⟩) d

/-- A magnitude. -/
abbrev mag (x : EReal) : EReal := FloatOps.absf (F := Ideal) (φ := .f32) x

/-- What a head asks for: its queries' magnitudes, summed over the positions. -/
def probe (p : Fin 4 → Fin 4096 → Fin 3072 → EReal) (n : Fin 64) (d : Fin 64) : EReal := ∑ l, mag (hq p n l d)

/-- How well a position answers it. -/
def score (p : Fin 4 → Fin 4096 → Fin 3072 → EReal) (n : Fin 64) (l : Fin 4096) : EReal := ∑ d, probe p n d * mag (hk p n l d)

/-- A sum over 3072 lanes, by groups. -/
theorem sum_groups (f : Fin 3072 → EReal) : ∑ x, f x = ∑ j : Fin 48, ∑ d : Fin 64, f ⟨64 * j.val + d.val, by omega⟩ := by
  rw [← Fintype.sum_prod_type', ← Equiv.sum_comp (finProdFinEquiv (m := 48) (n := 64))]
  refine Finset.sum_congr rfl fun p _ => congrArg f (Fin.ext ?_)
  show p.2.val + 64 * p.1.val = 64 * p.1.val + p.2.val
  omega

/-- A sum against the indicator of one group is the sum over the group. -/
theorem sum_mask (f : Fin 3072 → EReal) (j : Fin 48) :
    ∑ x : Fin 3072, f x * (if x.val / 64 = j.val then (1 : EReal) else 0) = ∑ d : Fin 64, f ⟨64 * j.val + d.val, by omega⟩ := by
  rw [sum_groups, Finset.sum_eq_single j]
  · refine Finset.sum_congr rfl fun d _ => ?_
    rw [if_pos (by show (64 * j.val + d.val) / 64 = _; omega), mul_one]
  · intro k _ hk
    refine Finset.sum_eq_zero fun d _ => ?_
    rw [if_neg (by show ¬(64 * k.val + d.val) / 64 = _; intro h; exact hk (Fin.ext (by omega))), mul_zero]
  · intro h; exact absurd (Finset.mem_univ j) h

/-- A sum against the indicator of one lane is that lane. -/
theorem sum_eye (f : Fin 64 → EReal) (d : Fin 64) : ∑ x : Fin 64, (if x.val = d.val then (1 : EReal) else 0) * f x = f d := by
  rw [Finset.sum_eq_single d]
  · rw [if_pos rfl, one_mul]
  · intro k _ hk; rw [if_neg fun h => hk (Fin.ext h), zero_mul]
  · intro h; exact absurd (Finset.mem_univ d) h

/-- Whether two words are equal, as a number. -/
theorem sitofp_eq (a b : BitVec 32) :
    FloatOps.sitofp (F := Ideal) .f32 (BitVec.setWidth 32 (IntOp.cmpi CmpIPredicate.eq a b)) = if a = b then (1 : EReal) else 0 := by
  show (((BitVec.setWidth 32 (IntOp.cmpi CmpIPredicate.eq a b)).toInt : ℝ) : EReal) = _
  by_cases h : a = b
  · subst h
    rw [if_pos rfl, show BitVec.setWidth 32 (IntOp.cmpi CmpIPredicate.eq a a) = 1#32 from by simp [IntOp.cmpi]]
    simp
  · have hb : (a == b) = false := by simpa using h
    rw [if_neg h, show BitVec.setWidth 32 (IntOp.cmpi CmpIPredicate.eq a b) = 0#32 from by simp [IntOp.cmpi, hb]]
    simp

/-- A query's similarity to each of the selected keys. -/
def sim (q : Fin 64 → EReal) (ks : Fin 64 → Fin 64 → EReal) (k : Fin 64) : EReal := ∑ d, q d * ks k d

/-- The greatest of 64. -/
def top (s : Fin 64 → EReal) : EReal := Finset.fold max ⊥ s Finset.univ

/-- Softmax attention of one query over the selected keys and values. -/
def attend (q : Fin 64 → EReal) (ks vs : Fin 64 → Fin 64 → EReal) (d : Fin 64) : EReal :=
  ∑ k, Ideal.div (Ideal.exp (sim q ks k - top (sim q ks))) (∑ k', Ideal.exp (sim q ks k' - top (sim q ks))) * vs k d

end Cert.Proof.Spec
end
-- ==== Proof.Final.lean ====
module

public import proofs.«01_k».proof.Proof.Pick
public import proofs.«01_k».proof.Proof.Spec

@[expose] public section
noncomputable section

/-! # The result described: heads, and their projection -/

namespace Cert.Proof.Spec

open Idealize.ShloMosaic Cert.Proof.Pick

/-- A head's attention over the positions its scores select, at a position and a lane. -/
def head (p : Fin 4 → Fin 4096 → Fin 3072 → EReal) (n : Fin 64) (l : Fin 4096) (d : Fin 64) : EReal :=
  attend (fun d => hq p n l d) (fun k d => hk p n (sel (score p n) k.val) d) (fun k d => hv p n (sel (score p n) k.val) d) d

/-- The output: the heads' attention, projected, and the bias. -/
def out (p : Fin 4 → Fin 4096 → Fin 3072 → EReal) (w : Fin 64 → Fin 1024 → EReal) (b : Fin 64 → EReal) (i : Fin 4) (o : Fin 64) (l : Fin 4096) : EReal :=
  (∑ h : Fin 16, ∑ d : Fin 64, w o ⟨64 * h.val + d.val, by omega⟩ * head p ⟨16 * i.val + h.val, by omega⟩ l d) + b o

end Cert.Proof.Spec
end
-- ==== Proof.Region0.Payloads.lean ====
module

public import proofs.«01_k».proof.Proof.Gen.KernelIdeal.Skeleton
public import proofs.«01_k».proof.Proof.Spec

@[expose] public section
set_option maxRecDepth 16384
noncomputable section

/-! # The first call's block: what its payloads hold at an index -/

namespace Cert.Proof.Region0

open Cert.KernelIdeal Cert.KernelIdeal.Gen Idealize.ShloMosaic
open Cert.Proof.Spec (proj inv unit lane gq gk gv)

/-- The word the mask compares with: the number of the lane's group. -/
theorem group_word : ∀ x : Fin 3072, Scalar.select (IntOp.andi (IntOp.cmpi CmpIPredicate.ne
      (IntOp.subi (BitVec.setWidth 32 (IntOp.cmpi CmpIPredicate.sgt (BitVec.ofNat 32 x.val) 0#32))
        (BitVec.setWidth 32 (IntOp.cmpi CmpIPredicate.slt (BitVec.ofNat 32 x.val) 0#32)))
      (Scalar.subi (Scalar.extui (Scalar.cmpi CmpIPredicate.sgt 64#32 0#32)) (Scalar.extui (Scalar.cmpi CmpIPredicate.slt 64#32 0#32))))
      (IntOp.cmpi CmpIPredicate.ne (IntOp.remsi ArithUnit.vector (BitVec.ofNat 32 x.val) 64#32) 0#32))
    (IntOp.subi (IntOp.divsi ArithUnit.vector (BitVec.ofNat 32 x.val) 64#32) 1#32)
    (IntOp.divsi ArithUnit.vector (BitVec.ofNat 32 x.val) 64#32) = BitVec.ofNat 32 (x.val / 64) := by decide +kernel

variable (x0 : Vec Ideal S1x1024x512 .f32) (x1 x2 : Vec Ideal S1x1024x1 .f32) (x3 : Vec Ideal S3072x1024 .f32)

/-- The block's column at position `l`, projected. -/
def col (l : Fin 512) : Fin 3072 → EReal :=
  proj (fun c => x0 (Idealize.ShloMosaic.ix3 0 c l)) (fun c => x1 (Idealize.ShloMosaic.ix3 0 c 0)) (fun c => x2 (Idealize.ShloMosaic.ix3 0 c 0)) (fun o c => x3 (ix2 o c))

/-- The heads' unit queries over the block, their unit keys, their values; the keys' magnitudes, lanes before positions; and the
queries' magnitudes summed over the block's positions. -/
def qblk : Vec Ideal S16x512x64 .f32 := fun y => unit (col x0 x1 x2 x3 (y 1)) (gq (y 0)) (y 2)
def kblk : Vec Ideal S16x512x64 .f32 := fun y => unit (col x0 x1 x2 x3 (y 1)) (gk (y 0)) (y 2)
def vblk : Vec Ideal S16x512x64 .f32 := fun y => lane (col x0 x1 x2 x3 (y 1)) (gv (y 0)) (y 2)
def ablk : Vec Ideal S1x1024x512 .f32 := fun y =>
  FloatOps.absf (F := Ideal) (φ := .f32) (unit (col x0 x1 x2 x3 (y 2)) ⟨16 + (y 1).val / 64, by have : (y 1).val < 1024 := (y 1).isLt; omega⟩ ⟨(y 1).val % 64, by omega⟩)
def pblk : Vec Ideal S1x1x16x64 .f32 := fun y => ∑ l : Fin 512, FloatOps.absf (F := Ideal) (φ := .f32) (unit (col x0 x1 x2 x3 l) (gq (y 2)) (y 3))

/-- The block's projections. -/
theorem pay7_apply (l : Fin 512) (o : Fin 3072) : k0_pay7 (F := Ideal) x0 x1 x2 x3 (ix2 l o) = col x0 x1 x2 x3 l o := by
  pointwise [k0_pay7]
  rfl

/-- The reciprocal lengths, of any projections. -/
theorem pay11_apply (v : FVec Ideal S512x3072 .f32) (l : Fin 512) (j : Fin 32) :
    k0_pay11 (F := Ideal) v (iota .tc S3072x32 32 [0] iota_S3072x32_d0_w32) 64#32 k0_pay8 k0_pay9 k0_pay10 (ix2 l j)
      = inv (fun o => v (ix2 l o)) ⟨j.val, by omega⟩ := by
  pointwise [k0_pay11, k0_pay8, k0_pay9, k0_pay10]
  simp only [group_word, Spec.sitofp_eq]
  unfold Spec.inv
  refine congrArg (fun s => Ideal.div 1 (Ideal.sqrt s + Spec.eps)) ?_
  refine Eq.trans (Finset.sum_congr rfl fun x _ => ?_) (Spec.sum_mask (fun x => v (ix2 l x) * v (ix2 l x)) ⟨j.val, by omega⟩)
  refine congrArg (_ * ·) (if_congr ⟨fun h => ?_, fun h => by rw [h]⟩ rfl rfl)
  have := congrArg BitVec.toNat h
  simp only [BitVec.toNat_ofNat] at this
  show x.val / 64 = j.val
  omega

/-- The 64-by-64 identity. -/
theorem pay12_apply (a b : Fin 64) : k0_pay12 (F := Ideal) (ix2 a b) = if a.val = b.val then (1 : EReal) else 0 := by
  pointwise [k0_pay12]
  rw [Spec.sitofp_eq]
  refine if_congr ⟨fun h => ?_, fun h => by rw [h]; simp [IntOp.addi]⟩ rfl rfl
  have := congrArg BitVec.toNat h
  simp [IntOp.addi] at this
  omega

end Cert.Proof.Region0
end
-- ==== Proof.Region0.Blocks.lean ====
module

public import proofs.«01_k».proof.Proof.Region0.Payloads
public import proofs.«01_k».proof.Proof.Region0.Body
public import Idealize.ShloMosaic.Lib.Pipeline.ValueKit

@[expose] public section
set_option maxRecDepth 16384
noncomputable section

/-! # The first call's stored blocks, each a part of one description -/

namespace Cert.Proof.Region0

open Cert.KernelIdeal Cert.KernelIdeal.Gen
open Idealize.ShloMosaic Idealize.ShloMosaic.TcCoe Idealize.SL.Sem
open Idealize.ShloMosaic.Pipeline (Dat)
open Cert.Proof.Spec (proj inv unit lane gq gk gv)

variable (V : (c : Dev nD) → (b : Ref sig .tc) → Buf (Elt Ideal) ((c : Thread nD τ).loc b))

/-- Where a head's piece of a block of 16 heads lies. -/
theorem emb_head {h : ℕ} (hh : h < 16) {inb} (x : S1x512x64.Idx) :
    (Rect.unit (s := S16x512x64) ![h, 0, 0] ![1, 512, 64] inb).emb x = Idealize.ShloMosaic.ix3 ⟨h, hh⟩ (x 1) (x 2) := by
  funext a; refine Fin.ext ?_
  fin_cases a
  · show h + 1 * (x 0).val = h; have : (x 0).val < 1 := (x 0).isLt; omega
  · show 0 + 1 * (x 1).val = (x 1).val; omega
  · show 0 + 1 * (x 2).val = (x 2).val; omega

/-- An index of a block of one head begins with zero. -/
theorem one_first (x : S1x512x64.Idx) : x = Idealize.ShloMosaic.ix3 0 (x 1) (x 2) := by
  obtain ⟨z, l, d, rfl⟩ : ∃ (z : Fin 1) (l : Fin 512) (d : Fin 64), x = Idealize.ShloMosaic.ix3 z l d := ⟨x 0, x 1, x 2, eq_ix3 x⟩
  rw [Subsingleton.elim z 0]; rfl

/-- A head's piece of the queries' block. -/
theorem q_piece {x0 : Vec Ideal S1x1024x512 .f32} {x1 x2 : Vec Ideal S1x1024x1 .f32} {x3 : Vec Ideal S3072x1024 .f32}
    {h : ℕ} (hh : h < 16) {inb} (pay : Vec Ideal S1x512x64 .f32)
    (hp : ∀ (l : Fin 512) (d : Fin 64), pay (Idealize.ShloMosaic.ix3 0 l d) = unit (col x0 x1 x2 x3 l) (gq ⟨h, hh⟩) d) (x : S1x512x64.Idx) :
    pay x = qblk x0 x1 x2 x3 ((Rect.unit (s := S16x512x64) ![h, 0, 0] ![1, 512, 64] inb).emb x) := by
  rw [emb_head hh, one_first x]
  exact hp _ _

/-- The next two, of the keys and of the values. -/
theorem k_piece {x0 : Vec Ideal S1x1024x512 .f32} {x1 x2 : Vec Ideal S1x1024x1 .f32} {x3 : Vec Ideal S3072x1024 .f32}
    {h : ℕ} (hh : h < 16) {inb} (pay : Vec Ideal S1x512x64 .f32)
    (hp : ∀ (l : Fin 512) (d : Fin 64), pay (Idealize.ShloMosaic.ix3 0 l d) = unit (col x0 x1 x2 x3 l) (gk ⟨h, hh⟩) d) (x : S1x512x64.Idx) :
    pay x = kblk x0 x1 x2 x3 ((Rect.unit (s := S16x512x64) ![h, 0, 0] ![1, 512, 64] inb).emb x) := by
  rw [emb_head hh, one_first x]
  exact hp _ _

/-- A stored block of values is the values' block at its head. -/
theorem v_piece {x0 : Vec Ideal S1x1024x512 .f32} {x1 x2 : Vec Ideal S1x1024x1 .f32} {x3 : Vec Ideal S3072x1024 .f32}
    {h : ℕ} (hh : h < 16) {inb} (pay : Vec Ideal S1x512x64 .f32)
    (hp : ∀ (l : Fin 512) (d : Fin 64), pay (Idealize.ShloMosaic.ix3 0 l d) = lane (col x0 x1 x2 x3 l) (gv ⟨h, hh⟩) d) (x : S1x512x64.Idx) :
    pay x = vblk x0 x1 x2 x3 ((Rect.unit (s := S16x512x64) ![h, 0, 0] ![1, 512, 64] inb).emb x) := by
  rw [emb_head hh, one_first x]
  exact hp _ _

/-- A head's piece of the keys' magnitudes, whose rows are the head's lanes. -/
theorem a_piece {x0 : Vec Ideal S1x1024x512 .f32} {x1 x2 : Vec Ideal S1x1024x1 .f32} {x3 : Vec Ideal S3072x1024 .f32}
    {o : ℕ} (ho : o < 1024 ∧ o % 64 = 0) {inb} (pay : Vec Ideal S1x64x512 .f32)
    (hp : ∀ (d : Fin 64) (l : Fin 512), pay (Idealize.ShloMosaic.ix3 0 d l)
      = FloatOps.absf (F := Ideal) (φ := .f32) (unit (col x0 x1 x2 x3 l) (gk ⟨o / 64, by omega⟩) d)) (x : S1x64x512.Idx) :
    pay x = ablk x0 x1 x2 x3 ((Rect.unit (s := S1x1024x512) ![0, o, 0] ![1, 64, 512] inb).emb x) := by
  obtain ⟨z, d, l, rfl⟩ : ∃ (z : Fin 1) (d : Fin 64) (l : Fin 512), x = Idealize.ShloMosaic.ix3 z d l := ⟨x 0, x 1, x 2, eq_ix3 x⟩
  rw [Subsingleton.elim z 0]
  have e : (Rect.unit (s := S1x1024x512) ![0, o, 0] ![1, 64, 512] inb).emb (Idealize.ShloMosaic.ix3 0 d l : S1x64x512.Idx)
      = Idealize.ShloMosaic.ix3 (0 : Fin 1) (⟨o + d.val, by omega⟩ : Fin 1024) l := by
    funext a; refine Fin.ext ?_
    fin_cases a
    · rfl
    · show o + 1 * d.val = o + d.val; omega
    · show 0 + 1 * l.val = l.val; omega
  rw [e]
  refine (hp _ _).trans ?_
  unfold ablk
  refine congrArg (FloatOps.absf (F := Ideal) (φ := .f32)) ?_
  show unit (col x0 x1 x2 x3 l) ⟨16 + o / 64, _⟩ d = unit (col x0 x1 x2 x3 l) ⟨16 + (o + d.val) / 64, _⟩ ⟨(o + d.val) % 64, _⟩
  congr 1
  · refine Fin.ext ?_
    show 16 + o / 64 = 16 + (o + d.val) / 64; omega
  · refine Fin.ext ?_
    show d.val = (o + d.val) % 64; omega

/-- A lane times its group's reciprocal length. -/
theorem unit_of (p : Fin 3072 → EReal) (j : Fin 48) (d : Fin 64) (o : Fin 3072) (j' : Fin 48) (ho : o.val = 64 * j.val + d.val) (hj : j'.val = j.val) :
    p o * Spec.inv p j' = unit p j d := by
  rw [show j' = j from Fin.ext hj, show o = ⟨64 * j.val + d.val, by omega⟩ from Fin.ext ho]; rfl
/-- A lane of the projections is its group's lane. -/
theorem lane_of (p : Fin 3072 → EReal) (j : Fin 48) (d : Fin 64) (o : Fin 3072) (ho : o.val = 64 * j.val + d.val) : p o = lane p j d := by
  rw [show o = ⟨64 * j.val + d.val, by omega⟩ from Fin.ext ho]; rfl

/-- The projections, the reciprocal lengths and the identity, named, with what each holds. -/
theorem named (x0 : Vec Ideal S1x1024x512 .f32) (x1 x2 : Vec Ideal S1x1024x1 .f32) (x3 : Vec Ideal S3072x1024 .f32) :
    ∃ (v : FVec Ideal S512x3072 .f32) (r : FVec Ideal S512x32 .f32) (e : FVec Ideal S64x64 .f32), k0_pay7 (F := Ideal) x0 x1 x2 x3 = v
      ∧ k0_pay11 (F := Ideal) v (iota .tc S3072x32 32 [0] iota_S3072x32_d0_w32) 64#32 k0_pay8 k0_pay9 k0_pay10 = r ∧ k0_pay12 (F := Ideal) = e
      ∧ (∀ l o, v (ix2 l o) = col x0 x1 x2 x3 l o) ∧ (∀ (l : Fin 512) (j : Fin 32), r (ix2 l j) = Spec.inv (col x0 x1 x2 x3 l) ⟨j.val, by omega⟩)
      ∧ ∀ a b, e (ix2 a b) = if a.val = b.val then (1 : EReal) else 0 :=
  ⟨_, _, _, rfl, rfl, rfl, pay7_apply x0 x1 x2 x3, fun l j => by
    refine (pay11_apply _ l j).trans ?_
    exact congrArg (fun p => Spec.inv p _) (funext fun o => pay7_apply x0 x1 x2 x3 l o), pay12_apply⟩

/-- The queries a point leaves (first of a run). -/
theorem out4_A (c : Dev nD) (t : Fin cfg0.N) (h0 : t.val % 8 = 0) (h1 : ¬1 ≤ t.val % 8) :
    (outsAt0 V c t.val t.isLt).1 = qblk (iblk V c 0 t) (iblk V c 1 t) (iblk V c 2 t) (iblk V c 3 t) := by
  rw [outsAt0_A V c t h0 h1]
  funext y
  dsimp only
  unfold out0_A_4
  refine View.read_writes_apply_of_pieces _ _ (qblk (iblk V c 0 t) (iblk V c 1 t) (iblk V c 2 t) (iblk V c 3 t)) _ ?_ y (cover0_A_4 ..)
  unfold kernelRun0_A
  dsimp only
  sl_unfold_words
  simp (disch := decide) only [View.readAt_eq_ld, Memref.IsWhole.read_unread, View.ld_unit_lit']
  generalize iblk V c 0 t = x0, iblk V c 1 t = x1, iblk V c 2 t = x2, iblk V c 3 t = x3
  obtain ⟨v, r, e, hv, hr, he', h7, h11, he⟩ := named x0 x1 x2 x3
  simp only [k0_pay15, k0_pay13, k0_pay14, k0_pay16]
  rw [hv, hr]
  simp only [List.forall_mem_cons]
  and_intros
  all_goals first | exact fun x hx => absurd hx List.not_mem_nil | refine q_piece (by decide) _ fun l d => ?_
  all_goals unfold_payloads
  all_goals pointwise
  all_goals rw [h7, h11]
  all_goals exact unit_of _ _ _ _ _ (by simp) (by simp)

/-- The queries a point leaves (later in a run). -/
theorem out4_B (c : Dev nD) (t : Fin cfg0.N) (h0 : ¬t.val % 8 = 0) (h1 : 1 ≤ t.val % 8) :
    (outsAt0 V c t.val t.isLt).1 = qblk (iblk V c 0 t) (iblk V c 1 t) (iblk V c 2 t) (iblk V c 3 t) := by
  rw [outsAt0_B V c t h0 h1]
  funext y
  dsimp only
  unfold out0_B_4
  refine View.read_writes_apply_of_pieces _ _ (qblk (iblk V c 0 t) (iblk V c 1 t) (iblk V c 2 t) (iblk V c 3 t)) _ ?_ y (cover0_B_4 ..)
  unfold kernelRun0_B
  dsimp only
  sl_unfold_words
  simp (disch := decide) only [View.readAt_eq_ld, Memref.IsWhole.read_unread, View.ld_unit_lit']
  generalize iblk V c 0 t = x0, iblk V c 1 t = x1, iblk V c 2 t = x2, iblk V c 3 t = x3
  obtain ⟨v, r, e, hv, hr, he', h7, h11, he⟩ := named x0 x1 x2 x3
  simp only [k0_pay15, k0_pay13, k0_pay14, k0_pay16]
  rw [hv, hr]
  simp only [List.forall_mem_cons]
  and_intros
  all_goals first | exact fun x hx => absurd hx List.not_mem_nil | refine q_piece (by decide) _ fun l d => ?_
  all_goals unfold_payloads
  all_goals pointwise
  all_goals rw [h7, h11]
  all_goals exact unit_of _ _ _ _ _ (by simp) (by simp)

/-- The keys a point leaves (first of a run). -/
theorem out5_A (c : Dev nD) (t : Fin cfg0.N) (h0 : t.val % 8 = 0) (h1 : ¬1 ≤ t.val % 8) :
    (outsAt0 V c t.val t.isLt).2.1 = kblk (iblk V c 0 t) (iblk V c 1 t) (iblk V c 2 t) (iblk V c 3 t) := by
  rw [outsAt0_A V c t h0 h1]
  funext y
  dsimp only
  unfold out0_A_5
  refine View.read_writes_apply_of_pieces _ _ (kblk (iblk V c 0 t) (iblk V c 1 t) (iblk V c 2 t) (iblk V c 3 t)) _ ?_ y (cover0_A_5 ..)
  unfold kernelRun0_A
  dsimp only
  sl_unfold_words
  simp (disch := decide) only [View.readAt_eq_ld, Memref.IsWhole.read_unread, View.ld_unit_lit']
  generalize iblk V c 0 t = x0, iblk V c 1 t = x1, iblk V c 2 t = x2, iblk V c 3 t = x3
  obtain ⟨v, r, e, hv, hr, he', h7, h11, he⟩ := named x0 x1 x2 x3
  simp only [k0_pay15, k0_pay13, k0_pay14, k0_pay16]
  rw [hv, hr]
  simp only [List.forall_mem_cons]
  and_intros
  all_goals first | exact fun x hx => absurd hx List.not_mem_nil | refine k_piece (by decide) _ fun l d => ?_
  all_goals unfold_payloads
  all_goals pointwise
  all_goals rw [h7, h11]
  all_goals exact unit_of _ _ _ _ _ (by simp) (by simp)

/-- The keys a point leaves (later in a run). -/
theorem out5_B (c : Dev nD) (t : Fin cfg0.N) (h0 : ¬t.val % 8 = 0) (h1 : 1 ≤ t.val % 8) :
    (outsAt0 V c t.val t.isLt).2.1 = kblk (iblk V c 0 t) (iblk V c 1 t) (iblk V c 2 t) (iblk V c 3 t) := by
  rw [outsAt0_B V c t h0 h1]
  funext y
  dsimp only
  unfold out0_B_5
  refine View.read_writes_apply_of_pieces _ _ (kblk (iblk V c 0 t) (iblk V c 1 t) (iblk V c 2 t) (iblk V c 3 t)) _ ?_ y (cover0_B_5 ..)
  unfold kernelRun0_B
  dsimp only
  sl_unfold_words
  simp (disch := decide) only [View.readAt_eq_ld, Memref.IsWhole.read_unread, View.ld_unit_lit']
  generalize iblk V c 0 t = x0, iblk V c 1 t = x1, iblk V c 2 t = x2, iblk V c 3 t = x3
  obtain ⟨v, r, e, hv, hr, he', h7, h11, he⟩ := named x0 x1 x2 x3
  simp only [k0_pay15, k0_pay13, k0_pay14, k0_pay16]
  rw [hv, hr]
  simp only [List.forall_mem_cons]
  and_intros
  all_goals first | exact fun x hx => absurd hx List.not_mem_nil | refine k_piece (by decide) _ fun l d => ?_
  all_goals unfold_payloads
  all_goals pointwise
  all_goals rw [h7, h11]
  all_goals exact unit_of _ _ _ _ _ (by simp) (by simp)

/-- The values a point leaves (first of a run). -/
theorem out6_A (c : Dev nD) (t : Fin cfg0.N) (h0 : t.val % 8 = 0) (h1 : ¬1 ≤ t.val % 8) :
    (outsAt0 V c t.val t.isLt).2.2.1 = vblk (iblk V c 0 t) (iblk V c 1 t) (iblk V c 2 t) (iblk V c 3 t) := by
  rw [outsAt0_A V c t h0 h1]
  funext y
  dsimp only
  unfold out0_A_6
  refine View.read_writes_apply_of_pieces _ _ (vblk (iblk V c 0 t) (iblk V c 1 t) (iblk V c 2 t) (iblk V c 3 t)) _ ?_ y (cover0_A_6 ..)
  unfold kernelRun0_A
  dsimp only
  sl_unfold_words
  simp (disch := decide) only [View.readAt_eq_ld, Memref.IsWhole.read_unread, View.ld_unit_lit']
  generalize iblk V c 0 t = x0, iblk V c 1 t = x1, iblk V c 2 t = x2, iblk V c 3 t = x3
  obtain ⟨v, r, e, hv, hr, he', h7, h11, he⟩ := named x0 x1 x2 x3
  rw [hv]
  simp only [List.forall_mem_cons]
  and_intros
  all_goals first | exact fun x hx => absurd hx List.not_mem_nil | refine v_piece (by decide) _ fun l d => ?_
  all_goals unfold_payloads
  all_goals pointwise
  all_goals rw [h7]
  all_goals exact lane_of _ _ _ _ (by simp)

/-- The values a point leaves (later in a run). -/
theorem out6_B (c : Dev nD) (t : Fin cfg0.N) (h0 : ¬t.val % 8 = 0) (h1 : 1 ≤ t.val % 8) :
    (outsAt0 V c t.val t.isLt).2.2.1 = vblk (iblk V c 0 t) (iblk V c 1 t) (iblk V c 2 t) (iblk V c 3 t) := by
  rw [outsAt0_B V c t h0 h1]
  funext y
  dsimp only
  unfold out0_B_6
  refine View.read_writes_apply_of_pieces _ _ (vblk (iblk V c 0 t) (iblk V c 1 t) (iblk V c 2 t) (iblk V c 3 t)) _ ?_ y (cover0_B_6 ..)
  unfold kernelRun0_B
  dsimp only
  sl_unfold_words
  simp (disch := decide) only [View.readAt_eq_ld, Memref.IsWhole.read_unread, View.ld_unit_lit']
  generalize iblk V c 0 t = x0, iblk V c 1 t = x1, iblk V c 2 t = x2, iblk V c 3 t = x3
  obtain ⟨v, r, e, hv, hr, he', h7, h11, he⟩ := named x0 x1 x2 x3
  rw [hv]
  simp only [List.forall_mem_cons]
  and_intros
  all_goals first | exact fun x hx => absurd hx List.not_mem_nil | refine v_piece (by decide) _ fun l d => ?_
  all_goals unfold_payloads
  all_goals pointwise
  all_goals rw [h7]
  all_goals exact lane_of _ _ _ _ (by simp)

/-- The keys' magnitudes a point leaves (first of a run). -/
theorem out7_A (c : Dev nD) (t : Fin cfg0.N) (h0 : t.val % 8 = 0) (h1 : ¬1 ≤ t.val % 8) :
    (outsAt0 V c t.val t.isLt).2.2.2.1 = ablk (iblk V c 0 t) (iblk V c 1 t) (iblk V c 2 t) (iblk V c 3 t) := by
  rw [outsAt0_A V c t h0 h1]
  funext y
  dsimp only
  unfold out0_A_7
  refine View.read_writes_apply_of_pieces _ _ (ablk (iblk V c 0 t) (iblk V c 1 t) (iblk V c 2 t) (iblk V c 3 t)) _ ?_ y (cover0_A_7 ..)
  unfold kernelRun0_A
  dsimp only
  sl_unfold_words
  simp (disch := decide) only [View.readAt_eq_ld, Memref.IsWhole.read_unread, View.ld_unit_lit']
  generalize iblk V c 0 t = x0, iblk V c 1 t = x1, iblk V c 2 t = x2, iblk V c 3 t = x3
  obtain ⟨v, r, e, hv, hr, he', h7, h11, he⟩ := named x0 x1 x2 x3
  simp only [k0_pay15, k0_pay13, k0_pay14, k0_pay16]
  rw [hv, hr, he']
  simp only [List.forall_mem_cons]
  and_intros
  all_goals first
    | exact fun x hx => absurd hx List.not_mem_nil
    | refine a_piece (by decide) _ fun d l => ?_
  all_goals unfold_payloads
  all_goals pointwise
  all_goals simp only [he, h7, h11]
  all_goals refine (Spec.sum_eye (fun x => FloatOps.absf (F := Ideal) (φ := .f32) _) d).trans ?_
  all_goals exact congrArg (FloatOps.absf (F := Ideal) (φ := .f32)) (unit_of _ _ _ _ _ (by simp) (by simp))

/-- The keys' magnitudes a point leaves (later in a run). -/
theorem out7_B (c : Dev nD) (t : Fin cfg0.N) (h0 : ¬t.val % 8 = 0) (h1 : 1 ≤ t.val % 8) :
    (outsAt0 V c t.val t.isLt).2.2.2.1 = ablk (iblk V c 0 t) (iblk V c 1 t) (iblk V c 2 t) (iblk V c 3 t) := by
  rw [outsAt0_B V c t h0 h1]
  funext y
  dsimp only
  unfold out0_B_7
  refine View.read_writes_apply_of_pieces _ _ (ablk (iblk V c 0 t) (iblk V c 1 t) (iblk V c 2 t) (iblk V c 3 t)) _ ?_ y (cover0_B_7 ..)
  unfold kernelRun0_B
  dsimp only
  sl_unfold_words
  simp (disch := decide) only [View.readAt_eq_ld, Memref.IsWhole.read_unread, View.ld_unit_lit']
  generalize iblk V c 0 t = x0, iblk V c 1 t = x1, iblk V c 2 t = x2, iblk V c 3 t = x3
  obtain ⟨v, r, e, hv, hr, he', h7, h11, he⟩ := named x0 x1 x2 x3
  simp only [k0_pay15, k0_pay13, k0_pay14, k0_pay16]
  rw [hv, hr, he']
  simp only [List.forall_mem_cons]
  and_intros
  all_goals first
    | exact fun x hx => absurd hx List.not_mem_nil
    | refine a_piece (by decide) _ fun d l => ?_
  all_goals unfold_payloads
  all_goals pointwise
  all_goals simp only [he, h7, h11]
  all_goals refine (Spec.sum_eye (fun x => FloatOps.absf (F := Ideal) (φ := .f32) _) d).trans ?_
  all_goals exact congrArg (FloatOps.absf (F := Ideal) (φ := .f32)) (unit_of _ _ _ _ _ (by simp) (by simp))

end Cert.Proof.Region0
end
-- ==== Proof.Region0.Sums.lean ====
module

public import proofs.«01_k».proof.Proof.Region0.Blocks

@[expose] public section
set_option maxRecDepth 16384
noncomputable section

/-! # The first call's summed magnitudes, accumulated over a row's tiles -/

namespace Cert.Proof.Region0

open Cert.KernelIdeal Cert.KernelIdeal.Gen
open Idealize.ShloMosaic Idealize.ShloMosaic.TcCoe Idealize.SL.Sem
open Idealize.ShloMosaic.Pipeline (Dat)
open Cert.Proof.Spec (proj inv unit lane gq gk gv)

variable (V : (c : Dev nD) → (b : Ref sig .tc) → Buf (Elt Ideal) ((c : Thread nD τ).loc b))

/-- The first point's payload, later ones' payload, at an index, of any 16-by-64 array. -/
theorem pay5_apply (p : FVec Ideal S16x64 .f32) (h : Fin 16) (d : Fin 64) :
    k0_pay5 (F := Ideal) p (Idealize.ShloMosaic.ix4 (0 : Fin 1) (0 : Fin 1) h d) = p (ix2 h d) := by
  pointwise [k0_pay5]
/-- Later points' payload adds to what the block held. -/
theorem pay6_apply (p : FVec Ideal S16x64 .f32) (a : Vec Ideal S1x1x16x64 .f32) (h : Fin 16) (d : Fin 64) :
    k0_pay6 (F := Ideal) p a (Idealize.ShloMosaic.ix4 (0 : Fin 1) (0 : Fin 1) h d)
      = (a (Idealize.ShloMosaic.ix4 0 0 h d) : EReal) + p (ix2 h d) := by
  pointwise [k0_pay6]

/-- A store of the whole block is at its own index. -/
theorem emb_all {inb} (h : Fin 16) (d : Fin 64) :
    (Rect.unit (s := S1x1x16x64) ![0, 0, 0, 0] ![1, 1, 16, 64] inb).emb (Idealize.ShloMosaic.ix4 (0 : Fin 1) (0 : Fin 1) h d : S1x1x16x64.Idx)
      = Idealize.ShloMosaic.ix4 (0 : Fin 1) (0 : Fin 1) h d := by
  funext a; refine Fin.ext ?_
  fin_cases a
  · rfl
  · rfl
  · show 0 + 1 * h.val = h.val; omega
  · show 0 + 1 * d.val = d.val; omega

/-- An index of the summed magnitudes is a head and a lane. -/
theorem head_first (x : S1x1x16x64.Idx) : ∃ (h : Fin 16) (d : Fin 64), x = Idealize.ShloMosaic.ix4 (0 : Fin 1) (0 : Fin 1) h d := by
  obtain ⟨z, z', l, d, rfl⟩ : ∃ (z z' : Fin 1) (l : Fin 16) (d : Fin 64), x = Idealize.ShloMosaic.ix4 z z' l d := ⟨x 0, x 1, x 2, x 3, eq_ix4 x⟩
  refine ⟨l, d, ?_⟩
  rw [Subsingleton.elim z 0, Subsingleton.elim z' 0]

/-- Two of these added. -/
def pplus (a b : Vec Ideal S1x1x16x64 .f32) : Vec Ideal S1x1x16x64 .f32 := fun y => (a y : EReal) + b y

/-- The queries' magnitudes summed, the first of a run. -/
theorem out8_A (c : Dev nD) (t : Fin cfg0.N) (h0 : t.val % 8 = 0) (h1 : ¬1 ≤ t.val % 8) :
    (outsAt0 V c t.val t.isLt).2.2.2.2 = pblk (iblk V c 0 t) (iblk V c 1 t) (iblk V c 2 t) (iblk V c 3 t) := by
  rw [outsAt0_A V c t h0 h1]
  funext y
  dsimp only
  unfold out0_A_8
  refine View.read_writes_apply_of_pieces _ _ (pblk (iblk V c 0 t) (iblk V c 1 t) (iblk V c 2 t) (iblk V c 3 t)) _ ?_ y (cover0_A_8 ..)
  unfold kernelRun0_A
  dsimp only
  sl_unfold_words
  simp (disch := decide) only [View.readAt_eq_ld, Memref.IsWhole.read_unread, View.ld_unit_lit']
  generalize iblk V c 0 t = x0, iblk V c 1 t = x1, iblk V c 2 t = x2, iblk V c 3 t = x3
  obtain ⟨v, r, e, hv, hr, he', h7, h11, he⟩ := named x0 x1 x2 x3
  simp only [k0_pay15, k0_pay13, k0_pay14, k0_pay16]
  rw [hv, hr]
  simp only [List.forall_mem_cons]
  refine ⟨fun x => ?_, fun x hx => absurd hx List.not_mem_nil⟩
  obtain ⟨h, d, rfl⟩ := head_first x
  erw [emb_all h d]
  refine (pay5_apply ..).trans ?_
  unfold pblk
  unfold_payloads
  obtain ⟨h, hh⟩ := h
  interval_cases h
  all_goals pointwise
  all_goals simp only [h7, h11]
  all_goals refine Finset.sum_congr rfl fun l _ => congrArg (FloatOps.absf (F := Ideal) (φ := .f32)) ?_
  all_goals exact unit_of _ _ _ _ _ (by simp) (by simp)

/-- The queries' magnitudes summed, later in a run: added to what the point before left. -/
theorem out8_B (c : Dev nD) (t : Fin cfg0.N) (h0 : ¬t.val % 8 = 0) (h1 : 1 ≤ t.val % 8) :
    (outsAt0 V c t.val t.isLt).2.2.2.2 = pplus (outsAt0 V c (t.val - 1) (Nat.lt_of_le_of_lt (Nat.sub_le _ _) t.isLt)).2.2.2.2 (pblk (iblk V c 0 t) (iblk V c 1 t) (iblk V c 2 t) (iblk V c 3 t)) := by
  rw [outsAt0_B V c t h0 h1]
  funext y
  dsimp only
  unfold out0_B_8
  refine View.read_writes_apply_of_pieces _ _ (pplus (outsAt0 V c (t.val - 1) (Nat.lt_of_le_of_lt (Nat.sub_le _ _) t.isLt)).2.2.2.2 (pblk (iblk V c 0 t) (iblk V c 1 t) (iblk V c 2 t) (iblk V c 3 t))) _ ?_ y (cover0_B_8 ..)
  unfold kernelRun0_B
  dsimp only
  sl_unfold_words
  simp (disch := decide) only [View.readAt_eq_ld, Memref.IsWhole.read_unread, View.ld_unit_lit']
  generalize iblk V c 0 t = x0, iblk V c 1 t = x1, iblk V c 2 t = x2, iblk V c 3 t = x3
  generalize (outsAt0 V c (t.val - 1) _).2.2.2.2 = prev
  obtain ⟨v, r, e, hv, hr, he', h7, h11, he⟩ := named x0 x1 x2 x3
  simp only [k0_pay15, k0_pay13, k0_pay14, k0_pay16]
  rw [hv, hr]
  simp only [List.forall_mem_cons]
  refine ⟨fun x => ?_, fun x hx => absurd hx List.not_mem_nil⟩
  obtain ⟨h, d, rfl⟩ := head_first x
  erw [emb_all h d]
  refine (pay6_apply ..).trans ?_
  refine congrArg (fun s : EReal => (prev (Idealize.ShloMosaic.ix4 0 0 h d) : EReal) + s) ?_
  unfold pblk
  unfold_payloads
  obtain ⟨h, hh⟩ := h
  interval_cases h
  all_goals pointwise
  all_goals simp only [h7, h11]
  all_goals refine Finset.sum_congr rfl fun l _ => congrArg (FloatOps.absf (F := Ideal) (φ := .f32)) ?_
  all_goals exact unit_of _ _ _ _ _ (by simp) (by simp)

end Cert.Proof.Region0
end
-- ==== Proof.Region0.Value.lean ====
module

public import proofs.«01_k».proof.Proof.Region0.Sums

@[expose] public section
set_option maxRecDepth 16384
noncomputable section

/-! # What the first call leaves in its output arrays -/

namespace Cert.Proof.Region0

open Cert.KernelIdeal Cert.KernelIdeal.Gen
open Idealize.ShloMosaic Idealize.ShloMosaic.TcCoe Idealize.SL.Sem
open Idealize.ShloMosaic.Pipeline (Dat)
open Cert.Proof.Spec (proj inv unit lane gq gk gv hq hk hv mag probe)

variable (V : (c : Dev nD) → (b : Ref sig .tc) → Buf (Elt Ideal) ((c : Thread nD τ).loc b))

/-- The projections of every position, from the arrays. -/
def cols (X : FVec Ideal S4x1024x4096 .f32) (G B : FVec Ideal S1x1024x1 .f32) (W : FVec Ideal S3072x1024 .f32) (b : Fin 4) (l : Fin 4096) :
    Fin 3072 → EReal :=
  proj (fun c => X (Idealize.ShloMosaic.ix3 b c l)) (fun c => G (Idealize.ShloMosaic.ix3 0 c 0)) (fun c => B (Idealize.ShloMosaic.ix3 0 c 0)) (fun o c => W (ix2 o c))

/-- The same, of the arrays the region finds. -/
def P (c : Dev nD) : Fin 4 → Fin 4096 → Fin 3072 → EReal := cols (V c main_arg0) (V c main_arg1) (V c main_arg2) (V c main_arg3)

/-- The windows' blocks, in closed form. -/
theorem idx : ∀ t : Fin cfg0.N, win0_0.index t = ![t.val / 8, 0, t.val % 8] ∧ win0_1.index t = ![0, 0, 0] ∧ win0_2.index t = ![0, 0, 0]
    ∧ win0_3.index t = ![0, 0] ∧ win0_4.index t = ![t.val / 8, t.val % 8, 0] ∧ win0_5.index t = ![t.val / 8, t.val % 8, 0]
    ∧ win0_6.index t = ![t.val / 8, t.val % 8, 0] ∧ win0_7.index t = ![t.val / 8, 0, t.val % 8] ∧ win0_8.index t = ![t.val / 8, 0, 0, 0] :=
  (by decide +kernel : ∀ t : Fin grid0.N, _)

/-- A block's column is the array's. -/
theorem col_eq (c : Dev nD) (t : Fin cfg0.N) (l : Fin 512) :
    col (iblk V c 0 t) (iblk V c 1 t) (iblk V c 2 t) (iblk V c 3 t) l
      = P V c ⟨t.val / 8, by have : t.val < 32 := t.isLt; omega⟩ ⟨t.val % 8 * 512 + l.val, by omega⟩ := by
  unfold col P cols
  have e0 : (fun c' : Fin 1024 => (iblk V c 0 t (Idealize.ShloMosaic.ix3 0 c' l) : EReal))
      = fun c' => V c main_arg0 (Idealize.ShloMosaic.ix3 (⟨t.val / 8, by have : t.val < 32 := t.isLt; omega⟩ : Fin 4) c' (⟨t.val % 8 * 512 + l.val, by omega⟩ : Fin 4096)) := by
    funext c'; blk_ext [iblk, idx t]
  have e1 : (fun c' : Fin 1024 => (iblk V c 1 t (Idealize.ShloMosaic.ix3 0 c' 0) : EReal)) = fun c' => V c main_arg1 (Idealize.ShloMosaic.ix3 0 c' 0) := by
    funext c'; blk_ext [iblk, idx t]
  have e2 : (fun c' : Fin 1024 => (iblk V c 2 t (Idealize.ShloMosaic.ix3 0 c' 0) : EReal)) = fun c' => V c main_arg2 (Idealize.ShloMosaic.ix3 0 c' 0) := by
    funext c'; blk_ext [iblk, idx t]
  have e3 : (fun (o : Fin 3072) (c' : Fin 1024) => (iblk V c 3 t (ix2 o c') : EReal)) = fun o c' => V c main_arg3 (ix2 o c') := by
    funext o c'; blk_ext [iblk, idx t]
  exact congr (congr (congr (congrArg proj e0) e1) e2) e3

/-- A column, at the array position `b`, `k` that its block position is at. -/
theorem col_at (c : Dev nD) (t : Fin cfg0.N) (l : Fin 512) (b : Fin 4) (k : Fin 4096) (hb : b.val = t.val / 8) (hk : k.val = t.val % 8 * 512 + l.val) :
    col (iblk V c 0 t) (iblk V c 1 t) (iblk V c 2 t) (iblk V c 3 t) l = P V c b k := by
  rw [col_eq]
  exact congr (congrArg (P V c) (Fin.ext hb.symm)) (Fin.ext hk.symm)

/-- A point's block of queries is the array's part at its row and tile. -/
theorem q_at (c : Dev nD) (t : Fin cfg0.N) (y : S16x512x64.Idx) (j : S64x4096x64.Idx) (h0 : (j 0).val = t.val / 8 * 16 + (y 0).val)
    (h1 : (j 1).val = t.val % 8 * 512 + (y 1).val) (h2 : (j 2).val = (y 2).val) :
    qblk (iblk V c 0 t) (iblk V c 1 t) (iblk V c 2 t) (iblk V c 3 t) y = hq (P V c) (j 0) (j 1) (j 2) := by
  have hy : (y 0).val < 16 := (y 0).isLt
  unfold qblk hq
  exact congr (congr (congrArg unit (col_at V c t (y 1) _ _ (by dsimp only; omega) h1)) (Fin.ext (by dsimp only; omega))) (Fin.ext h2.symm)

/-- The same of the keys. -/
theorem k_at (c : Dev nD) (t : Fin cfg0.N) (y : S16x512x64.Idx) (j : S64x4096x64.Idx) (h0 : (j 0).val = t.val / 8 * 16 + (y 0).val)
    (h1 : (j 1).val = t.val % 8 * 512 + (y 1).val) (h2 : (j 2).val = (y 2).val) :
    kblk (iblk V c 0 t) (iblk V c 1 t) (iblk V c 2 t) (iblk V c 3 t) y = hk (P V c) (j 0) (j 1) (j 2) := by
  have hy : (y 0).val < 16 := (y 0).isLt
  unfold kblk hk
  exact congr (congr (congrArg unit (col_at V c t (y 1) _ _ (by dsimp only; omega) h1)) (Fin.ext (by dsimp only; omega))) (Fin.ext h2.symm)

/-- Of the values. -/
theorem v_at (c : Dev nD) (t : Fin cfg0.N) (y : S16x512x64.Idx) (j : S64x4096x64.Idx) (h0 : (j 0).val = t.val / 8 * 16 + (y 0).val)
    (h1 : (j 1).val = t.val % 8 * 512 + (y 1).val) (h2 : (j 2).val = (y 2).val) :
    vblk (iblk V c 0 t) (iblk V c 1 t) (iblk V c 2 t) (iblk V c 3 t) y = hv (P V c) (j 0) (j 1) (j 2) := by
  have hy : (y 0).val < 16 := (y 0).isLt
  unfold vblk hv
  exact congr (congr (congrArg lane (col_at V c t (y 1) _ _ (by dsimp only; omega) h1)) (Fin.ext (by dsimp only; omega))) (Fin.ext h2.symm)

/-- And of the keys' magnitudes. -/
theorem a_at (c : Dev nD) (t : Fin cfg0.N) (y : S1x1024x512.Idx) (n : Fin 64) (l : Fin 4096) (d : Fin 64)
    (h0 : n.val = 16 * (t.val / 8) + (y 1).val / 64) (h1 : l.val = t.val % 8 * 512 + (y 2).val) (h2 : d.val = (y 1).val % 64) :
    ablk (iblk V c 0 t) (iblk V c 1 t) (iblk V c 2 t) (iblk V c 3 t) y = mag (hk (P V c) n l d) := by
  have hy : (y 1).val < 1024 := (y 1).isLt
  unfold ablk hk
  exact congrArg mag (congr (congr (congrArg unit (col_at V c t (y 2) _ _ (by dsimp only; omega) h1)) (Fin.ext (by dsimp only; omega))) (Fin.ext h2.symm))

/-- The heads' queries, position by position. -/
theorem final4 (c : Dev nD) : (dat V c).arrAt 4 cfg0.N
    = (fun y => hq (P V c) (y 0) (y 1) (y 2) : FVec Ideal S64x4096x64 .f32) := by
  refine (dat V c).arrAt_eq_of_covers 4 _ (by decide +kernel) fun t hf y => ?_
  have hi := (idx t).2.2.2.2.1
  blk_simp
  rw [after0_4]
  have e : (outsAt0 V c t.val t.isLt).1 = qblk (iblk V c 0 t) (iblk V c 1 t) (iblk V c 2 t) (iblk V c 3 t) := by
    by_cases h : t.val % 8 = 0
    · exact out4_A V c t h (by omega)
    · exact out4_B V c t h (by omega)
  rw [e]
  refine q_at V c t y (((cfg0.win 4).blk t).view.emb y) ?_ ?_ ?_
  all_goals blk_simp [hi]

/-- The heads' keys, position by position. -/
theorem final5 (c : Dev nD) : (dat V c).arrAt 5 cfg0.N
    = (fun y => hk (P V c) (y 0) (y 1) (y 2) : FVec Ideal S64x4096x64 .f32) := by
  refine (dat V c).arrAt_eq_of_covers 5 _ (by decide +kernel) fun t hf y => ?_
  have hi := (idx t).2.2.2.2.2.1
  blk_simp
  rw [after0_5]
  have e : (outsAt0 V c t.val t.isLt).2.1 = kblk (iblk V c 0 t) (iblk V c 1 t) (iblk V c 2 t) (iblk V c 3 t) := by
    by_cases h : t.val % 8 = 0
    · exact out5_A V c t h (by omega)
    · exact out5_B V c t h (by omega)
  rw [e]
  refine k_at V c t y (((cfg0.win 5).blk t).view.emb y) ?_ ?_ ?_
  all_goals blk_simp [hi]

/-- The heads' values, position by position. -/
theorem final6 (c : Dev nD) : (dat V c).arrAt 6 cfg0.N
    = (fun y => hv (P V c) (y 0) (y 1) (y 2) : FVec Ideal S64x4096x64 .f32) := by
  refine (dat V c).arrAt_eq_of_covers 6 _ (by decide +kernel) fun t hf y => ?_
  have hi := (idx t).2.2.2.2.2.2.1
  blk_simp
  rw [after0_6]
  have e : (outsAt0 V c t.val t.isLt).2.2.1 = vblk (iblk V c 0 t) (iblk V c 1 t) (iblk V c 2 t) (iblk V c 3 t) := by
    by_cases h : t.val % 8 = 0
    · exact out6_A V c t h (by omega)
    · exact out6_B V c t h (by omega)
  rw [e]
  refine v_at V c t y (((cfg0.win 6).blk t).view.emb y) ?_ ?_ ?_
  all_goals blk_simp [hi]

/-- The keys' magnitudes. -/
theorem final7 (c : Dev nD) : (dat V c).arrAt 7 cfg0.N
    = (fun y => mag (hk (P V c) ⟨16 * (y 0).val + (y 1).val / 64, by have : (y 0).val < 4 := (y 0).isLt; have : (y 1).val < 1024 := (y 1).isLt; omega⟩ (y 2)
        ⟨(y 1).val % 64, by omega⟩) : FVec Ideal S4x1024x4096 .f32) := by
  refine (dat V c).arrAt_eq_of_covers 7 _ (by decide +kernel) fun t hf y => ?_
  blk_simp
  rw [after0_7]
  have e : (outsAt0 V c t.val t.isLt).2.2.2.1 = ablk (iblk V c 0 t) (iblk V c 1 t) (iblk V c 2 t) (iblk V c 3 t) := by
    by_cases h : t.val % 8 = 0
    · exact out7_A V c t h (by omega)
    · exact out7_B V c t h (by omega)
  rw [e]
  have ht : t.val < 32 := t.isLt
  have hy : (y 0).val < 1 := (y 0).isLt
  have hy1 : (y 1).val < 1024 := (y 1).isLt
  have hi := (idx t).2.2.2.2.2.2.2.1
  refine a_at V c t y _ _ _ ?_ ?_ ?_
  all_goals blk_simp [hi]
  all_goals try omega

/-- What the heads ask for. -/
theorem final8 (c : Dev nD) : (dat V c).arrAt 8 cfg0.N
    = (fun y => probe (P V c) ⟨16 * (y 0).val + (y 2).val, by have : (y 0).val < 4 := (y 0).isLt; have : (y 2).val < 16 := (y 2).isLt; omega⟩ (y 3)
      : FVec Ideal S4x1x16x64 .f32) := by
  refine (dat V c).arrAt_eq_of_covers 8 _ (by decide +kernel) fun t hf y => ?_
  have hf' : t.val % 8 = 8 - 1 := by
    have : ∀ t : Fin cfg0.N, (cfg0.win 8).flush t = true → t.val % 8 = 8 - 1 := (by decide +kernel : ∀ t : Fin grid0.N, _)
    exact this t hf
  blk_simp
  rw [after0_8, Pipeline.eq_sum_fin_of_reset_step_apply_of_flush (fun n h => (outsAt0 V c n h).2.2.2.2) 8 (fun _ => (0 : EReal))
    (fun t j => (pblk (iblk V c 0 t) (iblk V c 1 t) (iblk V c 2 t) (iblk V c 3 t) j : EReal))
    (fun t h j => by rw [out8_A V c t h (by omega)]; exact (zero_add _).symm)
    (fun t h j => by rw [out8_B V c t h (by omega)]; rfl)
    t hf' _, zero_add]
  have ht : t.val < 32 := t.isLt
  have hy : (y 0).val < 1 := (y 0).isLt
  have hy2 : (y 2).val < 16 := (y 2).isLt
  have hi := (idx t).2.2.2.2.2.2.2.2
  unfold pblk probe hq
  refine Fin.sum_mul_add_congr fun s k hl => ?_
  refine congrArg mag (congr (congr (congrArg unit (col_at V c _ k _ _ ?_ ?_)) (Fin.ext ?_)) (Fin.ext ?_))
  all_goals try blk_simp [hi]
  all_goals try dsimp only [gq]
  all_goals omega

end Cert.Proof.Region0
end
-- ==== Proof.Region1.Value.lean ====
module

public import proofs.«01_k».proof.Proof.Spec
public import proofs.«01_k».proof.Proof.Region1.Body
public import Idealize.ShloMosaic.Lib.Pipeline.ValueKit
public import Idealize.ShloMosaic.Lib.Pointwise

@[expose] public section
set_option maxRecDepth 16384
noncomputable section

/-! # What the second call leaves: the scores -/

namespace Cert.Proof.Region1

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- A head's scores, eight rows of 512, from its row of the probes and its keys' magnitudes. -/
theorem pay1_apply (a : Vec Ideal S1x1x1x64 .f32) (k : Vec Ideal S1x64x4096 .f32) (r : Fin 8) (s : Fin 512) :
    k1_pay1 (F := Ideal) a k (Idealize.ShloMosaic.ix3 (0 : Fin 1) r s)
      = ∑ d : Fin 64, (a (Idealize.ShloMosaic.ix4 0 0 0 d) : EReal) * k (Idealize.ShloMosaic.ix3 0 d ⟨512 * r.val + s.val, by omega⟩) := by
  obtain ⟨r, hr⟩ := r
  interval_cases r
  all_goals pointwise [k1_pay1]

/-- Which blocks a point reads and writes. -/
theorem idx : ∀ t : Fin cfg1.N, win1_0.index t = ![t.val / 16, 0, 0, 0] ∧ win1_1.index t = ![t.val / 16, t.val % 16, 0] ∧ win1_2.index t = ![t.val, 0, 0]
    ∧ k1_off1 (grid1.coords t) = ![0, 0, t.val % 16, 0] :=
  (by decide +kernel : ∀ t : Fin grid1.N, _)

/-- The scores, from probes and keys' magnitudes. -/
def scores (p : FVec Ideal S4x1x16x64 .f32) (k : FVec Ideal S4x1024x4096 .f32) : FVec Ideal S64x8x512 .f32 := fun y =>
  ∑ d : Fin 64, (p (Idealize.ShloMosaic.ix4 (⟨(y 0).val / 16, by have : (y 0).val < 64 := (y 0).isLt; omega⟩ : Fin 4) 0 (⟨(y 0).val % 16, by omega⟩ : Fin 16) d) : EReal)
    * k (Idealize.ShloMosaic.ix3 (⟨(y 0).val / 16, by have : (y 0).val < 64 := (y 0).isLt; omega⟩ : Fin 4)
      (⟨64 * ((y 0).val % 16) + d.val, by omega⟩ : Fin 1024)
      (⟨512 * (y 1).val + (y 2).val, by have : (y 1).val < 8 := (y 1).isLt; have : (y 2).val < 512 := (y 2).isLt; omega⟩ : Fin 4096))

/-- The same at coordinates of a point's block. -/
theorem scores_at (p : FVec Ideal S4x1x16x64 .f32) (k : FVec Ideal S4x1024x4096 .f32) (j : S64x8x512.Idx) (n : Fin 64) (r : Fin 8) (s : Fin 512)
    (h0 : (j 0).val = n.val) (h1 : (j 1).val = r.val) (h2 : (j 2).val = s.val) :
    scores p k j = scores p k (Idealize.ShloMosaic.ix3 n r s) := by
  rw [eq_ix3 j]
  exact congrArg (scores p k) (by rw [show j 0 = n from Fin.ext h0, show j 1 = r from Fin.ext h1, show j 2 = s from Fin.ext h2])

/-- One row of the probes' block. -/
theorem row_ld (w : Vec Ideal S1x1x16x64 .f32) (off : Fin 4 → ℕ) (inb) (h : Fin 16) (d : Fin 64) (ho : off = ![0, 0, h.val, 0]) :
    View.ld w (Rect.unit (s := S1x1x16x64) off ![1, 1, 1, 64] inb) (Idealize.ShloMosaic.ix4 0 0 0 d : S1x1x1x64.Idx)
      = w (Idealize.ShloMosaic.ix4 (0 : Fin 1) (0 : Fin 1) h d) := by
  subst ho
  refine congrArg w (funext fun a => Fin.ext ?_)
  fin_cases a
  · rfl
  · rfl
  · show h.val + 1 * 0 = h.val; omega
  · show 0 + 1 * d.val = d.val; omega

/-- What the second call leaves: the scores of what it finds. -/
theorem final2 (c : Dev nD) : (dat V c).arrAt 2 cfg1.N = scores (V c main_v0_4) (V c main_v0_3) := by
  refine (dat V c).arrAt_eq_of_covers 2 _ (by decide +kernel) fun t hf y => ?_
  blk_simp
  rw [after0_2]
  unfold outsAt0
  frame_out
  obtain ⟨z, r, s, rfl⟩ : ∃ (z : Fin 1) (r : Fin 8) (s : Fin 512), y = Idealize.ShloMosaic.ix3 z r s := ⟨y 0, y 1, y 2, eq_ix3 y⟩
  obtain rfl := Subsingleton.elim z 0
  have ht : t.val < 64 := t.isLt
  have hi := idx t
  refine (pay1_apply _ _ r s).trans ?_
  rw [scores_at _ _ _ ⟨t.val, ht⟩ r s (by blk_simp [hi]; rfl) (by blk_simp [hi]) (by blk_simp [hi])]
  unfold scores
  refine Finset.sum_congr rfl fun d _ => ?_
  refine congr (congrArg (fun a b : EReal => a * b) ?_) ?_
  · refine (row_ld _ _ _ ⟨t.val % 16, by omega⟩ d hi.2.2.2).trans ?_
    blk_ext [iblk, hi]
  · blk_ext [iblk, hi]

end Cert.Proof.Region1
end
-- ==== Proof.Region2.Rounds.lean ====
module

public import proofs.«01_k».proof.Proof.Pick
public import Idealize.ShloMosaic.Lib.WordArith
public import proofs.«01_k».proof.Proof.Region2.Body
public import Idealize.ShloMosaic.Lib.Pipeline.ValueKit
public import Idealize.ShloMosaic.Lib.Pointwise

@[expose] public section
set_option maxRecDepth 16384
noncomputable section

/-! # What the third call leaves: the positions picked in 64 rounds -/

namespace Cert.Proof.Region2

open Cert.KernelIdeal Cert.KernelIdeal.Gen
open Idealize.ShloMosaic Idealize.ShloMosaic.TcCoe Idealize.SL.Sem
open Idealize.ShloMosaic.Pipeline (Dat)
open Cert.Proof.Pick

/-- A head's scores in a row, from eight rows of 512. -/
def flat (f : FVec Ideal S64x8x512 .f32) (n : Fin 64) (l : Fin 4096) : EReal :=
  f (Idealize.ShloMosaic.ix3 n (⟨l.val / 512, by omega⟩ : Fin 8) (⟨l.val % 512, by omega⟩ : Fin 512))

/-- A score at row `r`, column `s` is the head's score at position 512 r + s. -/
theorem at_eq_flat (f : FVec Ideal S64x8x512 .f32) (n : Fin 64) (r : Fin 8) (s : Fin 512) :
    f (Idealize.ShloMosaic.ix3 n r s) = flat f n ⟨512 * r.val + s.val, by omega⟩ := by
  unfold flat
  refine congrArg f ?_
  rw [show (⟨(512 * r.val + s.val) / 512, by omega⟩ : Fin 8) = r from Fin.ext (by dsimp only; omega),
    show (⟨(512 * r.val + s.val) % 512, by omega⟩ : Fin 512) = s from Fin.ext (by dsimp only; omega)]

/-- The positions' numbers. -/
theorem pay2_apply (n : Fin 64) (r : Fin 8) (s : Fin 512) : k2_pay2 (Idealize.ShloMosaic.ix3 n r s) = BitVec.ofNat 32 (512 * r.val + s.val) := by
  pointwise [k2_pay2]
  refine BitVec.eq_of_toNat_eq ?_
  simp [IntOp.addi, IntOp.muli]
  omega

/-- The least of words below 2^31, as a number. -/
theorem fold_minsi {ι : Type} [DecidableEq ι] (g : ι → BitVec 32) (a : BitVec 32) (hg : ∀ x, (g x).toNat < 2 ^ 31) (ha : a.toNat < 2 ^ 31) (S : Finset ι) :
    (S.fold IntOp.minsi a g).toNat = S.fold min a.toNat (fun x => (g x).toNat) ∧ (S.fold IntOp.minsi a g).toNat < 2 ^ 31 := by
  induction S using Finset.induction with
  | empty => exact ⟨rfl, ha⟩
  | insert x S hx ih =>
    rw [Finset.fold_insert hx, Finset.fold_insert hx, WordArith.toNat_minsi_of_lt _ _ (hg x) ih.2, ih.1]
    exact ⟨rfl, lt_of_le_of_lt (min_le_left _ _) (hg x)⟩

/-- The word for minus infinity is the least extended real. -/
theorem ofBits_neg_inf : Ideal.ofBits .f32 0xFF800000#32 = ⊥ := by
  simp [Ideal.ofBits, Ideal.ieee]

/-- A round's position: the first greatest of a head's scores. -/
theorem pay4_apply (f : FVec Ideal S64x8x512 .f32) (n : Fin 64) :
    k2_pay4 (F := Ideal) f (Idealize.ShloMosaic.ix3 n (0 : Fin 1) (0 : Fin 1)) = BitVec.ofNat 32 (pick (flat f n)).val := by
  pointwise [k2_pay4]
  rw [show Ideal.ofBits FTy.f32 4286578688#32 = ⊥ from ofBits_neg_inf]
  have hM : ∀ v : EReal, Finset.fold max (⊥ : EReal) (fun x : Fin 8 × Fin 512 => f (Idealize.ShloMosaic.ix3 n x.1 x.2)) Finset.univ ≤ v
      ↔ ∀ l, flat f n l ≤ v := by
    intro v
    rw [Finset.fold_max_le]
    constructor
    · rintro ⟨-, h⟩ l
      exact h (⟨l.val / 512, by omega⟩, ⟨l.val % 512, by omega⟩) (Finset.mem_univ _)
    · intro h
      refine ⟨bot_le, fun x _ => ?_⟩
      rw [at_eq_flat f]
      exact h _
  refine BitVec.eq_of_toNat_eq ?_
  have hp : (pick (flat f n)).val < 4096 := (pick (flat f n)).isLt
  refine (fold_minsi _ _ (fun x => ?_) (by decide) _).1.trans ?_
  · split
    · rw [pay2_apply, BitVec.toNat_ofNat]; omega
    · decide
  rw [show (BitVec.ofNat 32 (pick (flat f n)).val).toNat = (pick (flat f n)).val by rw [BitVec.toNat_ofNat]; omega]
  refine le_antisymm ?_ ?_
  · rw [Finset.fold_min_le]
    refine Or.inr ⟨(⟨(pick (flat f n)).val / 512, by omega⟩, ⟨(pick (flat f n)).val % 512, by omega⟩), Finset.mem_univ _, ?_⟩
    refine le_of_eq ((congrArg BitVec.toNat (if_pos ((hM _).mpr fun l => le_pick (flat f n) l))).trans ?_)
    rw [pay2_apply, BitVec.toNat_ofNat]
    dsimp only
    omega
  · rw [Finset.le_fold_min]
    refine ⟨?_, fun x _ => ?_⟩
    · rw [BitVec.toNat_ofNat]; omega
    split
    · rename_i h
      rw [hM, at_eq_flat f] at h
      rw [pay2_apply, BitVec.toNat_ofNat, Nat.mod_eq_of_lt (by omega)]
      by_contra hlt
      exact absurd (h (pick (flat f n))) (not_le.mpr (lt_of_before_pick (flat f n) _ (Fin.lt_def.mpr (lt_of_not_ge hlt))))
    · rw [BitVec.toNat_ofNat]; omega

/-- The scores after a round. -/
theorem pay5_apply (f : FVec Ideal S64x8x512 .f32) (n : Fin 64) (l : Fin 4096) :
    flat (k2_pay5 (F := Ideal) f) n l = if l = pick (flat f n) then low else flat f n l := by
  have hp : (pick (flat f n)).val < 4096 := (pick (flat f n)).isLt
  refine (?_ : k2_pay5 (F := Ideal) f (Idealize.ShloMosaic.ix3 n (⟨l.val / 512, by omega⟩ : Fin 8) (⟨l.val % 512, by omega⟩ : Fin 512)) = _)
  pointwise [k2_pay5]
  rw [pay4_apply, pay2_apply]
  show Scalar.select (IntOp.cmpi CmpIPredicate.eq _ _) low _ = _
  have e : 512 * (l.val / 512) + l.val % 512 = l.val := by omega
  dsimp only
  rw [e]
  by_cases h : l = pick (flat f n)
  · rw [if_pos h, h]
    simp [Scalar.select, IntOp.cmpi]
  · have hne : (BitVec.ofNat 32 l.val == BitVec.ofNat 32 (pick (flat f n)).val) = false := by
      rw [beq_eq_false_iff_ne]
      intro hb
      have := congrArg BitVec.toNat hb
      simp only [BitVec.toNat_ofNat] at this
      exact h (Fin.ext (by omega))
    rw [if_neg h]
    simp [Scalar.select, IntOp.cmpi, hne]
    rfl

/-- The positions after a round. -/
theorem pay6_apply (t : Fin k2_t1_loop.trips) (f : FVec Ideal S64x8x512 .f32) (a : IVec S64x1x64 32) (n : Fin 64) (s : Fin 64) :
    k2_pay6 (F := Ideal) t f a (Idealize.ShloMosaic.ix3 n (0 : Fin 1) s)
      = if s.val = t.val then BitVec.ofNat 32 (pick (flat f n)).val else a (Idealize.ShloMosaic.ix3 n (0 : Fin 1) s) := by
  have ht : t.val < 64 := t.isLt
  pointwise [k2_pay6]
  rw [pay4_apply]
  have e : Scf.iv 0#32 1#32 t.val = BitVec.ofNat 32 t.val := by
    simp [Scf.iv]
  rw [e]
  by_cases h : s.val = t.val
  · rw [if_pos h, h]
    simp [Scalar.select, IntOp.cmpi]
  · have hne : (BitVec.ofNat 32 s.val == BitVec.ofNat 32 t.val) = false := by
      rw [beq_eq_false_iff_ne]
      intro hb
      have := congrArg BitVec.toNat hb
      simp only [BitVec.toNat_ofNat] at this
      exact h (by omega)
    rw [if_neg h]
    simp [Scalar.select, IntOp.cmpi, hne]

/-- A counted loop without effect keeps what its trips keep. -/
theorem fold_inv {σ : Type} {n : ℕ} (g : Fin n → σ → σ) (init : σ) (I : ℕ → σ → Prop) (h0 : I 0 init)
    (hs : ∀ (k : Fin n) s, I k.val s → I (k.val + 1) (g k s)) : I n (Scf.fold g init) := by
  rw [Scf.fold_eq]
  induction n with
  | zero => simpa using h0
  | succ n ih =>
    rw [List.finRange_succ_last, List.foldl_append, List.foldl_map]
    exact hs (Fin.last n) _ (ih (fun k => g k.castSucc) fun k s h => hs k.castSucc s h)

/-- What the first `i` rounds leave: the scores with the picked ones masked, and the positions picked. -/
def Inv (f : FVec Ideal S64x8x512 .f32) (i : ℕ) (s : FVec Ideal S64x8x512 .f32 × IVec S64x1x64 32) : Prop :=
  (∀ n, flat s.1 n = masked (flat f n) i)
  ∧ ∀ (n j : Fin 64), j.val < i → s.2 (Idealize.ShloMosaic.ix3 n (0 : Fin 1) j) = BitVec.ofNat 32 (sel (flat f n) j.val).val

/-- The 64 rounds leave, at place `j`, the position picked `j`-th. -/
theorem rounds (f : FVec Ideal S64x8x512 .f32) (n j : Fin 64) :
    (Scf.fold (fun (k : Fin k2_t1_loop.trips) s => (k2_pay5 (F := Ideal) s.1, k2_pay6 (F := Ideal) k s.1 s.2))
      ((k2_pay1 (F := Ideal) f, k2_pay3) : FVec Ideal S64x8x512 .f32 × IVec S64x1x64 32)).2 (Idealize.ShloMosaic.ix3 n (0 : Fin 1) j)
      = BitVec.ofNat 32 (sel (flat f n) j.val).val := by
  have h := fold_inv (fun (k : Fin k2_t1_loop.trips) s => (k2_pay5 (F := Ideal) s.1, k2_pay6 (F := Ideal) k s.1 s.2))
      ((k2_pay1 (F := Ideal) f, k2_pay3) : FVec Ideal S64x8x512 .f32 × IVec S64x1x64 32) (Inv f) ?_ ?_
  · exact h.2 n j j.isLt
  · refine ⟨fun n => ?_, fun n j h => absurd h (Nat.not_lt_zero _)⟩
    funext l
    refine (?_ : k2_pay1 (F := Ideal) f (Idealize.ShloMosaic.ix3 n (⟨l.val / 512, by omega⟩ : Fin 8) (⟨l.val % 512, by omega⟩ : Fin 512)) = _)
    pointwise [k2_pay1]
    rfl
  · rintro k s ⟨h1, h2⟩
    refine ⟨fun n => ?_, fun n j hj => ?_⟩
    · funext l
      rw [pay5_apply, h1]
      rfl
    · refine (pay6_apply k s.1 s.2 n j).trans ?_
      rw [h1]
      split
      · rename_i e
        rw [e]
        rfl
      · exact h2 n j (by omega)

/-- The positions picked for each head. -/
def picks (f : FVec Ideal S64x8x512 .f32) : IVec S64x1x64 32 := fun y => BitVec.ofNat 32 (sel (flat f (y 0)) (y 2).val).val

/-- The same of the block that the call reads. -/
theorem picks_at (V : (c : Dev nD) → (b : Ref sig .tc) → Buf (Elt Ideal) ((c : Thread nD τ).loc b)) (c : Dev nD) (t : Fin cfg2.grid.N)
    (y j : S64x1x64.Idx) (hb : iblk V c 0 t = V c main_v1) (h0 : (j 0).val = (y 0).val) (h2 : (j 2).val = (y 2).val) :
    (Scf.fold (fun (k : Fin k2_t1_loop.trips) s => (k2_pay5 (F := Ideal) s.1, k2_pay6 (F := Ideal) k s.1 s.2))
      ((k2_pay1 (F := Ideal) (iblk V c 0 t), k2_pay3) : FVec Ideal S64x8x512 .f32 × IVec S64x1x64 32)).2 y = picks (V c main_v1) j := by
  rw [hb, eq_ix3 y, show y 1 = (0 : Fin 1) from Fin.ext (Nat.lt_one_iff.mp (y 1).isLt)]
  refine (rounds (V c main_v1) (y 0) (y 2)).trans ?_
  unfold picks
  rw [show j 0 = y 0 from Fin.ext h0, h2]

/-- The one point reads and writes whole arrays. -/
theorem idx : ∀ t : Fin cfg2.grid.N, (win2_0.index t = fun _ => 0) ∧ (win2_1.index t = fun _ => 0) := by decide +kernel

/-- Its input block is the array of scores. -/
theorem blk_in (V : (c : Dev nD) → (b : Ref sig .tc) → Buf (Elt Ideal) ((c : Thread nD τ).loc b)) (c : Dev nD) (t : Fin cfg2.grid.N) :
    iblk V c 0 t = V c main_v1 := by
  funext y
  have hi := (idx t).1
  blk_ext [iblk, hi]

/-- Region 2 ends with the positions picked from the scores. -/
theorem final1 (V : (c : Dev nD) → (b : Ref sig .tc) → Buf (Elt Ideal) ((c : Thread nD τ).loc b)) (c : Dev nD) : (dat V c).arrAt 1 cfg2.N
    = picks (V c main_v1) := by
  refine (dat V c).arrAt_eq_of_covers 1 _ (by decide +kernel) fun t hf y => ?_
  blk_simp
  rw [after0_1]
  unfold outsAt0
  frame_out
  refine picks_at V c t y (((cfg2.win 1).blk t).view.emb y) (blk_in V c t) ?_ ?_
  all_goals blk_simp [(idx t).2]

end Cert.Proof.Region2
end
-- ==== Proof.Region3.Value.lean ====
module

public import proofs.«01_k».proof.Proof.Spec
public import Idealize.ShloMosaic.Lib.Pipeline.Covers
public import proofs.«01_k».proof.Proof.Region3.Body
public import Idealize.ShloMosaic.Lib.Pipeline.ValueKit
public import Idealize.ShloMosaic.Lib.Pointwise

@[expose] public section
set_option maxRecDepth 16384
noncomputable section

namespace Cert.Proof.Region3

open Cert.KernelIdeal Cert.KernelIdeal.Gen
open Idealize.ShloMosaic Idealize.ShloMosaic.TcCoe Idealize.SL.Sem
open Idealize.ShloMosaic.Pipeline (Dat)

open Cert.Proof.Spec (attend sim top)

/-- The word for minus infinity is the least extended real. -/
theorem ofBits_neg_inf : Ideal.ofBits .f32 0xFF800000#32 = ⊥ := by
  simp [Ideal.ofBits, Ideal.ieee]

/-- A head's contribution to an output element. -/
theorem pay4_apply (q : FVec Ideal S1x4096x64 .f32) (gk gv : FVec Ideal S64x64 .f32) (w : FVec Ideal S1x64x64 .f32) (o : Fin 64) (l : Fin 4096) :
    k3_pay4 (F := Ideal) q gk gv w (ix2 o l)
      = ∑ d : Fin 64, (w (Idealize.ShloMosaic.ix3 (0 : Fin 1) o d) : EReal)
          * attend (fun d => q (Idealize.ShloMosaic.ix3 (0 : Fin 1) l d)) (fun k d => gk (ix2 k d)) (fun k d => gv (ix2 k d)) d := by
  have hs : ∀ k : Fin 64, (∑ x : Fin 64, (gk (ix2 k x) : EReal) * q (Idealize.ShloMosaic.ix3 (0 : Fin 1) l x))
      = sim (fun d => q (Idealize.ShloMosaic.ix3 (0 : Fin 1) l d)) (fun k d => gk (ix2 k d)) k :=
    fun k => Finset.sum_congr rfl fun x _ => mul_comm _ _
  pointwise [k3_pay4]
  simp only [hs]
  rw [show Ideal.ofBits FTy.f32 4286578688#32 = ⊥ from ofBits_neg_inf]
  refine Finset.sum_congr rfl fun d _ => congrArg _ (Finset.sum_congr rfl fun k _ => mul_comm _ _)

/-- The first head's store, at an index. -/
theorem pay5_apply (q : FVec Ideal S1x4096x64 .f32) (gk gv : FVec Ideal S64x64 .f32) (w : FVec Ideal S1x64x64 .f32) (o : Fin 64) (l : Fin 4096) :
    k3_pay5 (F := Ideal) q gk gv w (Idealize.ShloMosaic.ix3 (0 : Fin 1) o l) = k3_pay4 (F := Ideal) q gk gv w (ix2 o l) := by
  pointwise [k3_pay5]

/-- A later head's store adds to what the block held. -/
theorem pay6_apply (q : FVec Ideal S1x4096x64 .f32) (gk gv : FVec Ideal S64x64 .f32) (w : FVec Ideal S1x64x64 .f32) (p : FVec Ideal S1x64x4096 .f32) (o : Fin 64) (l : Fin 4096) :
    k3_pay6 (F := Ideal) q gk gv w p (Idealize.ShloMosaic.ix3 (0 : Fin 1) o l)
      = (p (Idealize.ShloMosaic.ix3 (0 : Fin 1) o l) : EReal) + k3_pay4 (F := Ideal) q gk gv w (ix2 o l) := by
  pointwise [k3_pay6]

/-- The last head's second store adds the bias. -/
theorem pay1_apply (w : FVec Ideal S1x64x4096 .f32) (b : FVec Ideal S1x64x1 .f32) (o : Fin 64) (l : Fin 4096) :
    k3_pay1 (F := Ideal) w b (Idealize.ShloMosaic.ix3 (0 : Fin 1) o l)
      = (w (Idealize.ShloMosaic.ix3 (0 : Fin 1) o l) : EReal) + b (Idealize.ShloMosaic.ix3 (0 : Fin 1) o (0 : Fin 1)) := by
  pointwise [k3_pay1]

variable (V : (c : Dev nD) → (b : Ref sig .tc) → Buf (Elt Ideal) ((c : Thread nD τ).loc b)) (a : (pcfg3 (F := Ideal)).Adm) (c : Dev nD)

/-! ## The windows' indices -/

/-- Which blocks a point reads and writes. -/
theorem idx : ∀ t : Fin grid3.N, cc3_transform_0 (grid3.coords t) = ![t.val, 0, 0] ∧ cc3_transform_1 (grid3.coords t) = ![t.val, 0, 0]
    ∧ cc3_transform_2 (grid3.coords t) = ![t.val, 0, 0] ∧ cc3_transform_3 (grid3.coords t) = ![t.val % 16, 0, 0]
    ∧ cc3_transform_4 (grid3.coords t) = ![0, 0, 0] ∧ cc3_transform_5 (grid3.coords t) = ![t.val / 16, 0, 0]
    ∧ 16 * (grid3.coords t 0).val + (grid3.coords t 1).val = t.val := by decide +kernel

/-- The written blocks cover the output. -/
theorem covers5 : ((cfg3 a).win 5).Covers := by
  refine Pipeline.Window.covers_of_index_surj _ rfl (by decide +kernel : ∀ a, 0 < S1x64x4096.size a) fun β => ?_
  have h0 : (β (0 : Fin 3)).val < 4 := lt_of_lt_of_eq (β (0 : Fin 3)).isLt
    (by decide +kernel : (S4x64x4096.size 0 + S1x64x4096.size 0 - 1) / S1x64x4096.size 0 = 4)
  have h1 : (β (1 : Fin 3)).val < 1 := lt_of_lt_of_eq (β (1 : Fin 3)).isLt
    (by decide +kernel : (S4x64x4096.size 1 + S1x64x4096.size 1 - 1) / S1x64x4096.size 1 = 1)
  have h2 : (β (2 : Fin 3)).val < 1 := lt_of_lt_of_eq (β (2 : Fin 3)).isLt
    (by decide +kernel : (S4x64x4096.size 2 + S1x64x4096.size 2 - 1) / S1x64x4096.size 2 = 1)
  refine ⟨(⟨16 * (β (0 : Fin 3)).val, by show _ < 64; omega⟩ : Fin grid3.N), fun x => ?_⟩
  refine (congrFun (idx ⟨16 * (β (0 : Fin 3)).val, by show _ < 64; omega⟩).2.2.2.2.2.1 x).trans ?_
  match x with
  | ⟨0, _⟩ => show 16 * (β (0 : Fin 3)).val / 16 = (β (0 : Fin 3)).val; omega
  | ⟨1, _⟩ => show 0 = (β (1 : Fin 3)).val; omega
  | ⟨2, _⟩ => show 0 = (β (2 : Fin 3)).val; omega

/-- A block is written back after a row's last head only. -/
theorem flush5 (t : Fin (cfg3 a).N) (h : ((cfg3 a).win 5).flush t = true) : t.val % 16 = 15 := by
  by_contra hn
  rw [noflush5 a t hn] at h
  exact absurd h (by decide)

/-! ## The output -/

/-- What head `h` of batch-and-head `n` adds to an output element. -/
def part (Q K W : FVec Ideal S64x4096x64 .f32) (U : FVec Ideal S16x64x64 .f32) (T : IVec S4096 32) (n : Fin 64) (h : Fin 16) (o : Fin 64) (l : Fin 4096) : EReal :=
  ∑ d : Fin 64, (U (Idealize.ShloMosaic.ix3 h o d) : EReal)
    * attend (fun d => Q (Idealize.ShloMosaic.ix3 n l d))
        (fun k d => K (Idealize.ShloMosaic.ix3 n (rowOf (T (ix1 (⟨64 * n.val + k.val, by omega⟩ : Fin 4096)))) d))
        (fun k d => W (Idealize.ShloMosaic.ix3 n (rowOf (T (ix1 (⟨64 * n.val + k.val, by omega⟩ : Fin 4096)))) d)) d

/-- The output of region 3. -/
def outs (Q K W : FVec Ideal S64x4096x64 .f32) (U : FVec Ideal S16x64x64 .f32) (B : FVec Ideal S1x64x1 .f32) (T : IVec S4096 32) : FVec Ideal S4x64x4096 .f32 := fun y =>
  (∑ h : Fin 16, part Q K W U T ⟨16 * (y 0).val + h.val, by have : (y 0).val < 4 := (y 0).isLt; omega⟩ h (y 1) (y 2))
    + (B (Idealize.ShloMosaic.ix3 (0 : Fin 1) (y 1) (0 : Fin 1)) : EReal)

/-- A trip's word of the table, for head `n` and place `k`. -/
theorem word_eq (T : IVec S4096 32) (t : Fin grid3.N) (n k : Fin 64) (h : n.val = t.val) :
    word (F := Ideal) T (grid3.coords t) k = T (ix1 (⟨64 * n.val + k.val, by omega⟩ : Fin 4096)) := by
  unfold word
  refine congrArg T (congrArg ix1 (Fin.ext ?_))
  have := (idx t).2.2.2.2.2.2
  dsimp only
  omega

/-- A block of window 0, 1 or 2 is a batch-and-head's rows; of window 3 a head's weights; of window 4 the bias. -/
theorem blk0 (t : Fin grid3.N) (n : Fin 64) (h : n.val = t.val) (l : Fin 4096) (d : Fin 64) :
    iblk V a c 0 t (Idealize.ShloMosaic.ix3 (0 : Fin 1) l d) = V c main_v0_0 (Idealize.ShloMosaic.ix3 n l d) := by
  have hi : ((cfg3 a).win 0).index t = ![t.val, 0, 0] := (idx t).1
  blk_ext [iblk, hi]
/-- A point's keys are its head's rows of the array. -/
theorem blk1 (t : Fin grid3.N) (n : Fin 64) (h : n.val = t.val) (l : Fin 4096) (d : Fin 64) :
    iblk V a c 1 t (Idealize.ShloMosaic.ix3 (0 : Fin 1) l d) = V c main_v0_1 (Idealize.ShloMosaic.ix3 n l d) := by
  have hi : ((cfg3 a).win 1).index t = ![t.val, 0, 0] := (idx t).2.1
  blk_ext [iblk, hi]
/-- The same of the values. -/
theorem blk2 (t : Fin grid3.N) (n : Fin 64) (h : n.val = t.val) (l : Fin 4096) (d : Fin 64) :
    iblk V a c 2 t (Idealize.ShloMosaic.ix3 (0 : Fin 1) l d) = V c main_v0_2 (Idealize.ShloMosaic.ix3 n l d) := by
  have hi : ((cfg3 a).win 2).index t = ![t.val, 0, 0] := (idx t).2.2.1
  blk_ext [iblk, hi]
/-- Of the head's output weights. -/
theorem blk3 (t : Fin grid3.N) (g : Fin 16) (h : g.val = t.val % 16) (o d : Fin 64) :
    iblk V a c 3 t (Idealize.ShloMosaic.ix3 (0 : Fin 1) o d) = V c main_v4 (Idealize.ShloMosaic.ix3 g o d) := by
  have hi : ((cfg3 a).win 3).index t = ![t.val % 16, 0, 0] := (idx t).2.2.2.1
  blk_ext [iblk, hi]
/-- And of the bias. -/
theorem blk4 (t : Fin grid3.N) (o : Fin 64) :
    iblk V a c 4 t (Idealize.ShloMosaic.ix3 (0 : Fin 1) o (0 : Fin 1)) = V c main_v5 (Idealize.ShloMosaic.ix3 (0 : Fin 1) o (0 : Fin 1)) := by
  have hi : ((cfg3 a).win 4).index t = ![0, 0, 0] := (idx t).2.2.2.2.1
  blk_ext [iblk, hi]

/-- A point's contribution. -/
theorem part_at (t : Fin grid3.N) (n : Fin 64) (g : Fin 16) (o : Fin 64) (l : Fin 4096) (hn : n.val = t.val) (hg : g.val = t.val % 16) :
    k3_pay4 (F := Ideal) (iblk V a c 0 t) (gath (tab a) (grid3.coords t) (iblk V a c 1 t)) (gath (tab a) (grid3.coords t) (iblk V a c 2 t)) (iblk V a c 3 t) (ix2 o l)
      = part (V c main_v0_0) (V c main_v0_1) (V c main_v0_2) (V c main_v4) (tab a) n g o l := by
  refine (pay4_apply _ _ _ _ o l).trans ?_
  unfold part
  refine Finset.sum_congr rfl fun d _ => ?_
  refine congr (congrArg (fun x y : EReal => x * y) (blk3 V a c t g hg o d)) ?_
  refine congrFun (congr (congr (congrArg attend (funext fun d => blk0 V a c t n hn l d)) (funext fun k => funext fun d => ?_)) (funext fun k => funext fun d => ?_)) d
  · unfold gath
    rw [← word_eq (tab a) t n k hn]
    exact blk1 V a c t n hn _ d
  · unfold gath
    rw [← word_eq (tab a) t n k hn]
    exact blk2 V a c t n hn _ d

/-- The sum of the contributions so far, the bias left out. -/
def sofar (n : ℕ) (h : n < (cfg3 a).N) : FVec Ideal S1x64x4096 .f32 :=
  if n % 16 = 15 then next V a c ⟨n, h⟩ (outAt V a c (n - 1) (Nat.lt_of_le_of_lt (Nat.sub_le _ _) h)) else outAt V a c n h

/-- A point's contribution, as a block. -/
def term (t : Fin (cfg3 a).N) : FVec Ideal S1x64x4096 .f32 := fun y =>
  k3_pay4 (F := Ideal) (iblk V a c 0 t) (gath (tab a) (grid3.coords t) (iblk V a c 1 t)) (gath (tab a) (grid3.coords t) (iblk V a c 2 t)) (iblk V a c 3 t) (ix2 (y 1) (y 2))

/-- An index of the output block begins with zero. -/
theorem eq_first (y : S1x64x4096.Idx) : y = Idealize.ShloMosaic.ix3 (0 : Fin 1) (y 1) (y 2) := by
  refine (eq_ix3 y).trans ?_
  rw [show y 0 = (0 : Fin 1) from Fin.ext (Nat.lt_one_iff.mp (y 0).isLt)]
  rfl

/-- The running sum starts with the first head's contribution. -/
theorem sofar_first (t : Fin (cfg3 a).N) (h : t.val % 16 = 0) (y : S1x64x4096.Idx) : sofar V a c t.val t.isLt y = (0 : EReal) + term V a c t y := by
  unfold sofar
  rw [if_neg (by omega), outAt_first V a c t h, zero_add, eq_first y]
  exact pay5_apply _ _ _ _ _ _

/-- A later store adds its contribution. -/
theorem next_apply (t : Fin (cfg3 a).N) (p : FVec Ideal S1x64x4096 .f32) (y : S1x64x4096.Idx) : next V a c t p y = (p y : EReal) + term V a c t y := by
  rw [eq_first y]
  exact pay6_apply _ _ _ _ _ _ _

/-- And adds the next one at every later head. -/
theorem sofar_next (t : Fin (cfg3 a).N) (h : ¬ t.val % 16 = 0) (y : S1x64x4096.Idx) :
    sofar V a c t.val t.isLt y = (sofar V a c (t.val - 1) (Nat.lt_of_le_of_lt (Nat.sub_le _ _) t.isLt) y : EReal) + term V a c t y := by
  rw [← next_apply V a c t]
  unfold sofar
  rw [if_neg (show ¬ (t.val - 1) % 16 = 15 by omega)]
  by_cases h' : t.val % 16 = 15
  · rw [if_pos h']
  · rw [if_neg h', outAt_mid V a c t h h']

/-- The output at an index whose coordinates are given. -/
theorem outs_at (Q K W : FVec Ideal S64x4096x64 .f32) (U : FVec Ideal S16x64x64 .f32) (B : FVec Ideal S1x64x1 .f32) (T : IVec S4096 32)
    (b : Fin 4) (y : S1x64x4096.Idx) (j : S4x64x4096.Idx) (h0 : (j 0).val = b.val) (h1 : (j 1).val = (y 1).val) (h2 : (j 2).val = (y 2).val) :
    outs Q K W U B T j = (∑ h : Fin 16, part Q K W U T ⟨16 * b.val + h.val, by omega⟩ h (y 1) (y 2))
      + (B (Idealize.ShloMosaic.ix3 (0 : Fin 1) (y 1) (0 : Fin 1)) : EReal) := by
  unfold outs
  rw [show j 1 = y 1 from Fin.ext h1, show j 2 = y 2 from Fin.ext h2]
  simp only [h0]

/-- The block after a row's last head is the output's part. -/
theorem out_at (t : Fin (cfg3 a).N) (y : S1x64x4096.Idx) (j : S4x64x4096.Idx) (hf : t.val % 16 = 15)
    (h0 : (j 0).val = t.val / 16) (h1 : (j 1).val = (y 1).val) (h2 : (j 2).val = (y 2).val) :
    outAt V a c t.val t.isLt y = outs (V c main_v0_0) (V c main_v0_1) (V c main_v0_2) (V c main_v4) (V c main_v5) (tab a) j := by
  have ht : t.val < 64 := t.isLt
  rw [outs_at _ _ _ _ _ _ (⟨t.val / 16, by omega⟩ : Fin 4) y j h0 h1 h2, outAt_last V a c t hf]
  have hs : sofar V a c t.val t.isLt = next V a c t (outAt V a c (t.val - 1) (Nat.lt_of_le_of_lt (Nat.sub_le _ _) t.isLt)) := by
    unfold sofar; rw [if_pos hf]
  rw [← hs]
  refine (congrArg _ (eq_first y)).trans ((pay1_apply (sofar V a c t.val t.isLt) (iblk V a c 4 t) (y 1) (y 2)).trans ?_)
  refine congr (congrArg (fun x y : EReal => x + y) ?_) (blk4 V a c t (y 1))
  rw [Pipeline.eq_sum_fin_of_reset_step_apply_of_flush (fun n h => sofar V a c n h) 16 (fun _ => (0 : EReal))
    (fun t j => (term V a c t j : EReal)) (fun t h j => sofar_first V a c t h j) (fun t h j => sofar_next V a c t h j) t hf _, zero_add]
  refine Finset.sum_congr rfl fun s _ => ?_
  exact part_at V a c ⟨16 * (t.val / 16) + s.val, by show _ < 64; omega⟩ _ _ _ _ rfl (by dsimp only; omega)

/-- Region 3 ends with the heads' contributions summed and the bias added. -/
theorem final5 : (dat V a c).arrAt 5 (cfg3 a).N
    = outs (V c main_v0_0) (V c main_v0_1) (V c main_v0_2) (V c main_v4) (V c main_v5) (tab a) := by
  refine (dat V a c).arrAt_eq_of_covers 5 _ (covers5 a) fun t hf y => ?_
  have hi : ((cfg3 a).win 5).index t = ![t.val / 16, 0, 0] := (idx t).2.2.2.2.2.1
  have hy : (y (0 : Fin 3)).val < 1 := (y (0 : Fin 3)).isLt
  blk_simp
  rw [after_5]
  refine out_at V a c t y ((((cfg3 a).win 5).blk t).view.emb y) (flush5 a t hf) ?_ ?_ ?_
  all_goals blk_simp [hi]
  all_goals omega

end Cert.Proof.Region3
end
-- ==== Proof.Kernel.lean ====
module

public import proofs.«01_k».proof.Proof.Whole
public import proofs.«01_k».proof.Proof.Final
public import proofs.«01_k».proof.Proof.Region0.Value
public import proofs.«01_k».proof.Proof.Region1.Value
public import proofs.«01_k».proof.Proof.Region2.Rounds
public import proofs.«01_k».proof.Proof.Region3.Value

@[expose] public section
set_option maxRecDepth 16384
noncomputable section

/-! # The kernel's result, from the calls' values -/

namespace Cert.Proof.Whole

open Cert.KernelIdeal Cert.KernelIdeal.Gen
open Idealize.ShloMosaic Idealize.ShloMosaic.TcCoe Idealize.SL.Sem
open Idealize.ShloMosaic.Pipeline (Dat afterRegion afterRegion_arr afterRegion_keeps afterRegion_of_not_arr)
open Cert.Proof.Spec Cert.Proof.Pick

variable (m : (ℓ : Loc nD τ sig) → Buf (Elt Ideal) ℓ) (c : Dev nD)

/-! ## What each call leaves unchanged -/

/-- The first call leaves every buffer that is none of its outputs. -/
theorem keep0 (r : Ref sig .tc) (h : ∀ w : Fin 9, Pipeline.arrRef spec0 w = r → (spec0 w).isOut = false) : U1 m c (Proc.devRef .tc r) = U0 m c (Proc.devRef .tc r) :=
  afterRegion_keeps (Region0.dat (refs (U0 m)) c) (U0 m c) (launch0 (F := Ideal)).win.arr_inj (fun _ => rfl) r h
/-- The second call leaves every buffer that is none of its outputs. -/
theorem keep1 (r : Ref sig .tc) (h : ∀ w : Fin 3, Pipeline.arrRef spec1 w = r → (spec1 w).isOut = false) : U2 m c (Proc.devRef .tc r) = U1 m c (Proc.devRef .tc r) :=
  afterRegion_keeps (Region1.dat (refs (U1 m)) c) (U1 m c) (launch1 (F := Ideal)).win.arr_inj (fun _ => rfl) r h
/-- The third call leaves every buffer that is none of its outputs. -/
theorem keep2 (r : Ref sig .tc) (h : ∀ w : Fin 2, Pipeline.arrRef spec2 w = r → (spec2 w).isOut = false) : U3 m c (Proc.devRef .tc r) = U2 m c (Proc.devRef .tc r) :=
  afterRegion_keeps (Region2.dat (refs (U2 m)) c) (U2 m c) (launch2 (F := Ideal)).win.arr_inj (fun _ => rfl) r h
/-- The host stretch leaves every buffer that it does not write. -/
theorem keep3 (r : Ref sig .tc) (h : r ∉ hostOps3_W) : U4 m c (Proc.devRef .tc r) = U3 m c (Proc.devRef .tc r) :=
  StableHlo.after_of_writes_sub hostOps3 _ hostOps3_writes h
/-- The last call leaves every buffer that is none of its outputs. -/
theorem keep4 (r : Ref sig .tc) (h : ∀ w : Fin 6, Pipeline.arrRef spec3 w = r → (spec3 w).isOut = false) : U5 m c (Proc.devRef .tc r) = U4 m c (Proc.devRef .tc r) :=
  afterRegion_keeps (Region3.dat (refs (U4 m)) (adm3 m) c) (U4 m c) (launch3 (F := Ideal)).win.arr_inj (fun _ => rfl) r h

/-- The arguments are unchanged. -/
theorem args (r : Ref sig .tc) (h : r ∈ ([main_arg0, main_arg1, main_arg2, main_arg3, main_arg4, main_arg5] : List (Ref sig .tc))) :
    U5 m c (Proc.devRef .tc r) = m ((c.tc : Thread nD τ).loc r) := by
  simp only [List.mem_cons, List.not_mem_nil, or_false] at h
  rcases h with rfl | rfl | rfl | rfl | rfl | rfl
  all_goals rw [keep4 m c _ (by decide), keep3 m c _ (by decide), keep2 m c _ (by decide), keep1 m c _ (by decide), keep0 m c _ (by decide)]; rfl

/-! ## What each call computes -/

/-- The projections of the arguments. -/
abbrev pr : Fin 4 → Fin 4096 → Fin 3072 → EReal := Region0.P (refs (U0 m)) c

/-- After the first call: the scaled queries. -/
theorem q_eq (n : Fin 64) (l : Fin 4096) (d : Fin 64) : U1 m c (Proc.devRef .tc main_v0_0) (Idealize.ShloMosaic.ix3 n l d) = hq (pr m c) n l d :=
  congrFun ((afterRegion_arr (Region0.dat (refs (U0 m)) c) (U0 m c) (launch0 (F := Ideal)).win.arr_inj 4).trans (Region0.final4 _ c)) (Idealize.ShloMosaic.ix3 n l d)
/-- After the first call: the scaled keys. -/
theorem k_eq (n : Fin 64) (l : Fin 4096) (d : Fin 64) : U1 m c (Proc.devRef .tc main_v0_1) (Idealize.ShloMosaic.ix3 n l d) = hk (pr m c) n l d :=
  congrFun ((afterRegion_arr (Region0.dat (refs (U0 m)) c) (U0 m c) (launch0 (F := Ideal)).win.arr_inj 5).trans (Region0.final5 _ c)) (Idealize.ShloMosaic.ix3 n l d)
/-- After the first call: the values. -/
theorem v_eq (n : Fin 64) (l : Fin 4096) (d : Fin 64) : U1 m c (Proc.devRef .tc main_v0_2) (Idealize.ShloMosaic.ix3 n l d) = hv (pr m c) n l d :=
  congrFun ((afterRegion_arr (Region0.dat (refs (U0 m)) c) (U0 m c) (launch0 (F := Ideal)).win.arr_inj 6).trans (Region0.final6 _ c)) (Idealize.ShloMosaic.ix3 n l d)
/-- After the first call: the keys' magnitudes, lanes before positions. -/
theorem a_eq : U1 m c (Proc.devRef .tc main_v0_3)
    = (fun y => mag (hk (pr m c) ⟨16 * (y 0).val + (y 1).val / 64, by have : (y 0).val < 4 := (y 0).isLt; have : (y 1).val < 1024 := (y 1).isLt; omega⟩ (y 2) ⟨(y 1).val % 64, by omega⟩) : FVec Ideal S4x1024x4096 .f32) :=
  (afterRegion_arr (Region0.dat (refs (U0 m)) c) (U0 m c) (launch0 (F := Ideal)).win.arr_inj 7).trans (Region0.final7 _ c)
/-- After the first call: the queries' magnitudes summed over a row's positions. -/
theorem p_eq : U1 m c (Proc.devRef .tc main_v0_4)
    = (fun y => probe (pr m c) ⟨16 * (y 0).val + (y 2).val, by have : (y 0).val < 4 := (y 0).isLt; have : (y 2).val < 16 := (y 2).isLt; omega⟩ (y 3) : FVec Ideal S4x1x16x64 .f32) :=
  (afterRegion_arr (Region0.dat (refs (U0 m)) c) (U0 m c) (launch0 (F := Ideal)).win.arr_inj 8).trans (Region0.final8 _ c)

/-- A head's scores. -/
theorem score_eq (n : Fin 64) : Region2.flat (U2 m c (Proc.devRef .tc main_v1)) n = score (pr m c) n := by
  have h : U2 m c (Proc.devRef .tc main_v1) = Region1.scores (U1 m c (Proc.devRef .tc main_v0_4)) (U1 m c (Proc.devRef .tc main_v0_3)) :=
    (afterRegion_arr (Region1.dat (refs (U1 m)) c) (U1 m c) (launch1 (F := Ideal)).win.arr_inj 2).trans (Region1.final2 _ c)
  rw [h, p_eq, a_eq]
  funext l
  unfold Region2.flat Region1.scores score
  refine Finset.sum_congr rfl fun d _ => ?_
  refine congr (congrArg (fun a b : EReal => a * b) ?_) ?_
  · refine congrArg (fun x => probe (pr m c) x d) (Fin.ext ?_)
    show 16 * (n.val / 16) + n.val % 16 = n.val
    omega
  · refine congrArg mag (congr (congr (congrArg (hk (pr m c)) (Fin.ext ?_)) (Fin.ext ?_)) (Fin.ext ?_))
    · show 16 * (n.val / 16) + (64 * (n.val % 16) + d.val) / 64 = n.val
      omega
    · show 512 * (l.val / 512) + l.val % 512 = l.val
      omega
    · show (64 * (n.val % 16) + d.val) % 64 = d.val
      omega

/-- The positions picked. -/
theorem pick_eq : U3 m c (Proc.devRef .tc main_v2) = Region2.picks (U2 m c (Proc.devRef .tc main_v1)) :=
  (afterRegion_arr (Region2.dat (refs (U2 m)) c) (U2 m c) (launch2 (F := Ideal)).win.arr_inj 1).trans (Region2.final1 _ c)

/-! ## The host's lines before the last call -/

/-- The output weights, cut into heads, hold the argument at lane 64 h + d. -/
theorem w_eq (h : Fin 16) (o d : Fin 64) : U4 m c (Proc.devRef .tc main_v4) (Idealize.ShloMosaic.ix3 h o d)
    = U3 m c (Proc.devRef .tc main_arg4) (ix2 o (⟨64 * h.val + d.val, by omega⟩ : Fin 1024)) := by
  unfold U4 hostOps3
  after_results
  pointwise
  simp only [Nat.mul_comm]
/-- The bias as a column holds the argument. -/
theorem b_eq (o : Fin 64) : U4 m c (Proc.devRef .tc main_v5) (Idealize.ShloMosaic.ix3 (0 : Fin 1) o (0 : Fin 1))
    = U3 m c (Proc.devRef .tc main_arg5) (ix1 o) := by
  unfold U4 hostOps3
  after_results
  pointwise
/-- The flat table of positions holds the picked positions, head by head. -/
theorem t_eq (n k : Fin 64) : U4 m c (Proc.devRef .tc main_v6) (ix1 (⟨64 * n.val + k.val, by omega⟩ : Fin 4096))
    = U3 m c (Proc.devRef .tc main_v2) (Idealize.ShloMosaic.ix3 n (0 : Fin 1) k) := by
  unfold U4 hostOps3
  after_results
  pointwise

/-- The table's words are the picked positions. -/
theorem tab_eq (n k : Fin 64) : Region3.tab (adm3 m) (ix1 (⟨64 * n.val + k.val, by omega⟩ : Fin 4096)) = BitVec.ofNat 32 (sel (score (pr m 0) n) k.val).val := by
  refine (t_eq m 0 n k).trans ?_
  rw [pick_eq, ← score_eq]
  rfl

/-- Every word of the table is a position inside a row, so the last call loads inside its arrays. -/
theorem tab_chk (y : S4096.Idx) : k3_chk1 (Region3.tab (adm3 m) y) := by
  have hy : (y 0).val < 4096 := (y 0).isLt
  have e : y = ix1 (⟨64 * (⟨(y 0).val / 64, by omega⟩ : Fin 64).val + (⟨(y 0).val % 64, by omega⟩ : Fin 64).val, by dsimp only; omega⟩ : Fin 4096) := by
    refine (eq_ix1 y).trans (congrArg ix1 (Fin.ext ?_))
    dsimp only
    omega
  rw [e]
  refine Region3.chk_of_lt ?_
  rw [tab_eq, BitVec.toNat_ofNat]
  exact lt_of_le_of_lt (Nat.mod_le _ _) (Fin.isLt _)

/-- The output, of the arguments. -/
def result : FVec Ideal S4x64x4096 .f32 := fun y =>
  out (pr m c) (fun o j => m ((c.tc : Thread nD τ).loc main_arg4) (ix2 o j)) (fun o => m ((c.tc : Thread nD τ).loc main_arg5) (ix1 o)) (y 0) (y 1) (y 2)

/-- The row a trip of the last call reads is the position picked. -/
theorem row_eq (n k : Fin 64) : Region3.rowOf (Region3.tab (adm3 m) (ix1 (⟨64 * n.val + k.val, by omega⟩ : Fin 4096))) = sel (score (pr m 0) n) k.val := by
  rw [tab_eq]
  refine Fin.ext ?_
  have := (sel (score (pr m 0) n) k.val).isLt
  show min (BitVec.ofNat 32 _).toNat 4095 = _
  rw [BitVec.toNat_ofNat]
  omega

/-- The kernel ends with the described result. -/
theorem out_eq : U5 m 0 (Proc.devRef .tc main_v7) = result m 0 := by
  refine ((afterRegion_arr (Region3.dat (refs (U4 m)) (adm3 m) 0) (U4 m 0) (launch3 (F := Ideal)).win.arr_inj 5).trans (Region3.final5 _ _ 0)).trans ?_
  funext y
  unfold Region3.outs result out
  refine congr (congrArg (fun a b : EReal => a + b) (Finset.sum_congr rfl fun h _ => ?_)) ?_
  · unfold Region3.part
    refine Finset.sum_congr rfl fun d _ => ?_
    refine congr (congrArg (fun a b : EReal => a * b) ?_) ?_
    · refine (w_eq m 0 h (y 1) d).trans ?_
      rw [keep2 m 0 _ (by decide), keep1 m 0 _ (by decide), keep0 m 0 _ (by decide)]; rfl
    · refine congrFun (congr (congr (congrArg attend (funext fun d => ?_)) (funext fun k => funext fun d => ?_)) (funext fun k => funext fun d => ?_)) d
      · refine (congrFun (keep3 m 0 main_v0_0 (by decide)) _).trans ?_
        rw [keep2 m 0 _ (by decide), keep1 m 0 _ (by decide)]
        exact q_eq m 0 _ _ _
      · refine (congrFun (keep3 m 0 main_v0_1 (by decide)) _).trans ?_
        rw [keep2 m 0 _ (by decide), keep1 m 0 _ (by decide), row_eq m]
        exact k_eq m 0 _ _ _
      · refine (congrFun (keep3 m 0 main_v0_2 (by decide)) _).trans ?_
        rw [keep2 m 0 _ (by decide), keep1 m 0 _ (by decide), row_eq m]
        exact v_eq m 0 _ _ _
  · refine (b_eq m 0 (y 1)).trans ?_
    rw [keep2 m 0 _ (by decide), keep1 m 0 _ (by decide), keep0 m 0 _ (by decide)]; rfl

end Cert.Proof.Whole
end
-- ==== Proof.Positive.lean ====
module

public import proofs.«01_k».proof.Proof.Final
public import Idealize.ShloMosaic.Lib.IdealHost

@[expose] public section
noncomputable section

/-! # No denominator is zero, and no score is negative -/

namespace Cert.Proof.Spec

open Idealize.ShloMosaic

/-- The number of channels is 1024. -/
theorem chans_eq : chans = ((1024 : ℝ) : EReal) := by
  unfold chans
  simp [Ideal.ofBits, Ideal.ieee, -EReal.coe_mul, -EReal.coe_neg]
  norm_num

/-- It is positive. -/
theorem chans_pos : 0 < chans := by
  rw [chans_eq]
  exact EReal.coe_pos.mpr (by norm_num)

/-- The constant added to every root is positive. -/
theorem eps_pos : 0 < eps := by
  have h : eps = ((8796093 * (2 : ℝ) ^ (-43 : ℤ) : ℝ) : EReal) := by
    unfold eps
    simp [Ideal.ofBits, Ideal.ieee, -EReal.coe_mul, -EReal.coe_neg]
  rw [h]
  exact EReal.coe_pos.mpr (by positivity)

/-- A square is not negative, at the infinities too. -/
theorem square_nonneg (a : EReal) : 0 ≤ a * a := by
  rcases le_total 0 a with h | h
  · exact mul_nonneg h h
  · rw [← neg_mul_neg]
    exact mul_nonneg (EReal.neg_nonneg.mpr h) (EReal.neg_nonneg.mpr h)

/-- Nor is a quotient of something not negative by something positive. -/
theorem div_nonneg {a b : EReal} (ha : 0 ≤ a) (hb : 0 < b) : 0 ≤ Ideal.div a b := by
  unfold Ideal.div
  rw [if_neg hb.ne']
  exact mul_nonneg ha (EReal.inv_nonneg_of_nonneg hb.le)

/-- Nor a root. -/
theorem sqrt_nonneg {a : EReal} (ha : 0 ≤ a) : 0 ≤ Ideal.sqrt a := by
  induction a with
  | bot => exact absurd ha (by simp)
  | top => exact le_top
  | coe r =>
    have hr : 0 ≤ r := EReal.coe_nonneg.mp ha
    show 0 ≤ (if r < 0 then ⊥ else ((Real.sqrt r : ℝ) : EReal))
    rw [if_neg (not_lt.mpr hr)]
    exact EReal.coe_nonneg.mpr (Real.sqrt_nonneg r)

/-- A root plus the constant is not zero: no divisor of either program is. -/
theorem den_ne {a : EReal} (ha : 0 ≤ a) : Ideal.sqrt a + eps ≠ 0 :=
  (lt_of_lt_of_le eps_pos (le_add_of_nonneg_left (sqrt_nonneg ha))).ne'

/-- A variance is not negative. -/
theorem var_nonneg (x : Fin 1024 → EReal) : 0 ≤ var x :=
  div_nonneg (Finset.sum_nonneg fun _ _ => square_nonneg _) chans_pos

/-- A sum of squares is not negative. -/
theorem squares_nonneg (f : Fin 64 → EReal) : 0 ≤ ∑ d, f d * f d := Finset.sum_nonneg fun _ _ => square_nonneg _

/-- A magnitude is not negative. -/
theorem mag_nonneg (x : EReal) : 0 ≤ mag x := by
  rw [show mag x = max x (-x) from rfl]
  rcases le_total 0 x with h | h
  · exact le_max_of_le_left h
  · exact le_max_of_le_right (EReal.neg_nonneg.mpr h)

/-- A score, a sum of products of magnitudes, is not negative. -/
theorem score_nonneg (p : Fin 4 → Fin 4096 → Fin 3072 → EReal) (n : Fin 64) (l : Fin 4096) : 0 ≤ score p n l :=
  Finset.sum_nonneg fun _ _ => mul_nonneg (Finset.sum_nonneg fun _ _ => mag_nonneg _) (mag_nonneg _)

end Cert.Proof.Spec
end
-- ==== Proof.Reference.Front.lean ====
module

public import proofs.«01_k».proof.Proof.Gen.ReferenceIdeal.Run
public import proofs.«01_k».proof.Proof.Positive
public import Idealize.ShloMosaic.Lib.Pointwise

@[expose] public section
set_option maxRecDepth 16384
noncomputable section

/-! # The reference's normalised queries and keys, its values and its scores -/

namespace Cert.Proof.Reference

open Cert.ReferenceIdeal Cert.ReferenceIdeal.Gen Cert.ReferenceIdeal.Value
open Idealize.ShloMosaic Idealize.ShloMosaic.TcCoe Idealize.SL.Sem
open Cert.Proof.Spec

variable (V0 : Valuation τ sig (Elt Ideal))

/-- The projections of every position, from the arrays. -/
def cols (X : FVec Ideal S4x1024x4096 .f32) (G B : FVec Ideal S1x1024x1 .f32) (W : FVec Ideal S3072x1024 .f32) (b : Fin 4) (l : Fin 4096) :
    Fin 3072 → EReal :=
  proj (fun c => X (Idealize.ShloMosaic.ix3 b c l)) (fun c => G (Idealize.ShloMosaic.ix3 0 c 0)) (fun c => B (Idealize.ShloMosaic.ix3 0 c 0)) (fun o c => W (ix2 o c))

/-- The same, of the arguments. -/
def P : Fin 4 → Fin 4096 → Fin 3072 → EReal :=
  cols (V0 (Proc.devRef .tc main_arg0)) (V0 (Proc.devRef .tc main_arg1)) (V0 (Proc.devRef .tc main_arg2)) (V0 (Proc.devRef .tc main_arg3))

/-- The integer zero, converted, is zero. -/
theorem sitofp_zero : FloatOps.sitofp (F := Ideal) .f32 0#32 = (0 : EReal) := by
  show (((0#32).toInt : ℝ) : EReal) = 0
  simp

/-- The variance is the mean square: what is taken off the count is nothing. -/
theorem var_eq (s e : EReal) : (if 0 < Ideal.ofBits FTy.f32 1149239296#32 - FloatOps.sitofp (F := Ideal) FTy.f32 0#32
      then Ideal.div s (Ideal.ofBits FTy.f32 1149239296#32 - FloatOps.sitofp (F := Ideal) FTy.f32 0#32) else e) = Ideal.div s chans := by
  rw [sitofp_zero, show Ideal.ofBits FTy.f32 1149239296#32 = chans from rfl, sub_zero, if_pos chans_pos]

/-- The reference's projections are the described ones. -/
theorem v17_apply (b : Fin 4) (o : Fin 3072) (l : Fin 4096) : res_main_v17 V0 (Idealize.ShloMosaic.ix3 b o l) = P V0 b l o := by
  show _ = (∑ c, xn (fun c => V0 (Proc.devRef .tc main_arg0) (Idealize.ShloMosaic.ix3 b c l)) (fun c => V0 (Proc.devRef .tc main_arg1) (Idealize.ShloMosaic.ix3 0 c 0))
    (fun c => V0 (Proc.devRef .tc main_arg2) (Idealize.ShloMosaic.ix3 0 c 0)) c * V0 (Proc.devRef .tc main_arg3) (ix2 o c) : EReal)
  pointwise [res_main_v17, res_main_call0_v5, res_main_call0_v8]
  simp only [var_eq]
  refine Finset.sum_congr rfl fun c _ => congrArg (fun x : EReal => x * V0 (Proc.devRef .tc main_arg3) (ix2 o c)) ?_
  unfold xn
  refine congrArg (fun x : EReal => x + V0 (Proc.devRef .tc main_arg2) (Idealize.ShloMosaic.ix3 0 c 0)) ?_
  rw [← mul_assoc]
  exact (Ideal.mul_one_div (den_ne (var_nonneg fun c => V0 (Proc.devRef .tc main_arg0) (Idealize.ShloMosaic.ix3 b c l)))).symm

/-- Groups of 64 lanes at an offset. -/
theorem v22_apply (n d : Fin 64) (l : Fin 4096) :
    res_main_v22 V0 (Idealize.ShloMosaic.ix3 n d l) = lane (P V0 ⟨n.val / 16, by omega⟩ l) (gq ⟨n.val % 16, by omega⟩) d := by
  pointwise [res_main_v22]
  rw [v17_apply]
  refine congrArg (P V0 _ l) (Fin.ext ?_)
  dsimp only
  omega
/-- The same of the keys. -/
theorem v24_apply (n d : Fin 64) (l : Fin 4096) :
    res_main_v24 V0 (Idealize.ShloMosaic.ix3 n d l) = lane (P V0 ⟨n.val / 16, by omega⟩ l) (gk ⟨n.val % 16, by omega⟩) d := by
  pointwise [res_main_v24]
  rw [v17_apply]
  refine congrArg (P V0 _ l) (Fin.ext ?_)
  dsimp only
  omega

/-- The values, as the reference cuts them out. -/
def vals : FVec Ideal S64x64x4096 .f32 :=
  shapeCast _ (shapeCast _ (extractStridedSlice S4x1024x4096 ![0, 2048, 0] (res_main_v17 V0) slices_S4x3072x4096_S4x1024x4096_0_2048_0) shapeCasts_S4x1024x4096_S4x16x64x4096) shapeCasts_S4x16x64x4096_S64x64x4096

/-- The values are the described ones. -/
theorem vals_apply (n d : Fin 64) (l : Fin 4096) : vals V0 (Idealize.ShloMosaic.ix3 n d l) = hv (P V0) n l d := by
  unfold hv
  pointwise [vals]
  rw [v17_apply]
  refine congrArg (P V0 _ l) (Fin.ext ?_)
  dsimp only
  omega

/-- The scaled queries are the described ones. -/
theorem v31_apply (n d : Fin 64) (l : Fin 4096) : res_main_v31 V0 (Idealize.ShloMosaic.ix3 n d l) = hq (P V0) n l d := by
  pointwise [res_main_v31]
  simp only [v22_apply]
  exact (Ideal.mul_one_div (den_ne (squares_nonneg _))).symm
/-- The scaled keys are the described ones. -/
theorem v36_apply (n d : Fin 64) (l : Fin 4096) : res_main_v36 V0 (Idealize.ShloMosaic.ix3 n d l) = hk (P V0) n l d := by
  pointwise [res_main_v36]
  simp only [v24_apply]
  exact (Ideal.mul_one_div (den_ne (squares_nonneg _))).symm

/-- The scores. -/
theorem v40_apply (n : Fin 64) (l : Fin 4096) : res_main_v40 V0 (ix2 n l) = score (P V0) n l := by
  pointwise [res_main_v40]
  simp only [v31_apply, v36_apply]
  rfl

end Cert.Proof.Reference
end
-- ==== Proof.Reference.Select.lean ====
module

public import proofs.«01_k».proof.Proof.Reference.Front
public import Idealize.ShloMosaic.Lib.ValueIdx

@[expose] public section
set_option maxRecDepth 16384
noncomputable section

/-! # The reference's selection: the positions of the 64 greatest scores, and what is gathered there -/

namespace Cert.Proof.Reference

open Cert.ReferenceIdeal Cert.ReferenceIdeal.Gen Cert.ReferenceIdeal.Value
open Idealize.ShloMosaic Idealize.ShloMosaic.TcCoe Idealize.SL.Sem
open Cert.Proof.Spec Cert.Proof.Pick

variable (V0 : Valuation τ sig (Elt Ideal))

/-- The position a stable sort of a row puts at `k`. -/
theorem topK_apply (x : FVec Ideal S64x4096 .f32) (n k : Fin 64) :
    (Host.topK S64x64 1 (FloatOps.cmpfTotal (F := Ideal) (φ := .f32) .gt) x sliceFits_S64x4096_S64x64).2 (ix2 n k)
      = BitVec.ofNat 32 (sortedFrom (fun l l' => FloatOps.cmpfTotal (F := Ideal) (φ := .f32) .gt (x (ix2 n l)) (x (ix2 n l')) == 1#1) (⟨k.val, by omega⟩ : Fin 4096)).val := by
  have hj : ∀ (j : S64x4096.Idx) (l : Fin 4096), j.along (1 : Fin 2) l = ix2 (j 0) l := by
    intro j l
    funext a
    match a with
    | ⟨0, _⟩ => rfl
    | ⟨1, _⟩ => rfl
  have he : ∀ j : S64x4096.Idx, j 0 = n → j 1 = (⟨k.val, by omega⟩ : Fin 4096) →
      (Host.sort2 S64x4096 1 (fun (l r : EReal × BitVec 32) => FloatOps.cmpfTotal (F := Ideal) (φ := .f32) .gt l.1 r.1) x (iotaInDim S64x4096 32 (1 : Fin 2))).2 j
        = BitVec.ofNat 32 (sortedFrom (fun l l' => FloatOps.cmpfTotal (F := Ideal) (φ := .f32) .gt (x (ix2 n l)) (x (ix2 n l')) == 1#1) (⟨k.val, by omega⟩ : Fin 4096)).val := by
    intro j h0 h1
    unfold Host.sort2
    rw [dif_pos (by decide)]
    have hb : (fun l l' : Fin 4096 => FloatOps.cmpfTotal (F := Ideal) (φ := .f32) .gt (x (j.along (1 : Fin 2) l)) (x (j.along (1 : Fin 2) l')) == 1#1)
        = fun l l' => FloatOps.cmpfTotal (F := Ideal) (φ := .f32) .gt (x (ix2 n l)) (x (ix2 n l')) == 1#1 := by
      funext l l'
      rw [hj, hj, h0]
      rfl
    have hw : ∀ p : Fin 4096, iotaInDim S64x4096 32 (1 : Fin 2) (j.along (1 : Fin 2) p) = BitVec.ofNat 32 p.val := by
      intro p
      rw [hj]
      rfl
    exact (hw _).trans (congrArg₂ (fun (B : Fin 4096 → Fin 4096 → Bool) (i : Fin 4096) => BitVec.ofNat 32 (sortedFrom B i).val) hb h1)
  unfold Host.topK
  refine he _ ?_ ?_
  · exact Fin.ext (Nat.zero_add _)
  · exact Fin.ext (Nat.zero_add _)

/-- The selected positions. -/
theorem v42_apply (n d k : Fin 64) : res_main_v42 V0 (Idealize.ShloMosaic.ix3 n d k) = BitVec.ofNat 32 (sel (score (P V0) n) k.val).val := by
  pointwise [res_main_v42]
  refine (topK_apply _ n k).trans ?_
  have h := sortedFrom_eq_sel (f := score (P V0) n) (score_nonneg (P V0) n) k
  rw [← h]
  simp only [v40_apply]

/-- A position's word, read signed, is the position. -/
theorem toInt_word (l : Fin 4096) : (BitVec.ofNat 32 l.val).toInt = l.val := by
  have h := l.isLt
  have e : (BitVec.ofNat 32 l.val).toNat = l.val := by
    rw [BitVec.toNat_ofNat]
    omega
  rw [BitVec.toInt_eq_toNat_of_lt (by rw [e]; omega), e]

/-- A position is not negative. -/
theorem slt_zero (l : Fin 4096) : IntOp.cmpi CmpIPredicate.slt (BitVec.ofNat 32 l.val) 0#32 = 0#1 := by
  have h : ¬ (BitVec.ofNat 32 l.val).toInt < (0#32).toInt := by
    rw [toInt_word]
    simp
  simp only [IntOp.cmpi, BitVec.slt, h, decide_false]
  rfl
/-- Is at least zero. -/
theorem sge_zero (l : Fin 4096) : IntOp.cmpi CmpIPredicate.sge (BitVec.ofNat 32 l.val) 0#32 = 1#1 := by
  have h : (0#32).toInt ≤ (BitVec.ofNat 32 l.val).toInt := by
    rw [toInt_word]
    simp
  simp only [IntOp.cmpi, BitVec.sle, h, decide_true]
  rfl
/-- And at most the last. -/
theorem sle_last (l : Fin 4096) : IntOp.cmpi CmpIPredicate.sle (BitVec.ofNat 32 l.val) 4095#32 = 1#1 := by
  have h : (BitVec.ofNat 32 l.val).toInt ≤ (4095#32).toInt := by
    rw [toInt_word]
    have := l.isLt
    have e : (4095#32).toInt = 4095 := by decide
    omega
  simp only [IntOp.cmpi, BitVec.sle, h, decide_true]
  rfl

/-- The positions the gathers read. -/
theorem at_apply (n d k : Fin 64) : res_main_call4_v5 V0 (Idealize.ShloMosaic.ix4 n d k 0) = BitVec.ofNat 32 (sel (score (P V0) n) k.val).val := by
  pointwise [res_main_call4_v5]
  rw [v42_apply, slt_zero]
  rfl

/-- A gather reads the named position of its own row. -/
theorem gather_apply (x : FVec Ideal S64x64x4096 .f32) (idx : IVec S64x64x64x1 32) (n d k : Fin 64) (p : Fin 4096)
    (h : idx (Idealize.ShloMosaic.ix4 n d k 0) = BitVec.ofNat 32 p.val) :
    Host.gather gather_S64x64x4096_S64x64x64x1_S64x64x64_n_2_01_01_2_3_111 x idx (Idealize.ShloMosaic.ix3 n d k) = x (Idealize.ShloMosaic.ix3 n d p) := by
  unfold Host.gather
  refine congrArg x ?_
  funext a
  refine Fin.ext ?_
  generalize hD : gather_S64x64x4096_S64x64x64x1_S64x64x64_n_2_01_01_2_3_111 = D
  show D.start (Idealize.ShloMosaic.ix3 n d k) idx a + D.batchCoord (Idealize.ShloMosaic.ix3 n d k) a + D.offCoord (Idealize.ShloMosaic.ix3 n d k) a = _
  subst hD
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · rw [GatherDims.start_batching _ _ _ _ (by decide), GatherDims.offCoord_eq_zero _ _ _ (by decide)]
    unfold GatherDims.batchCoord
    rw [dif_pos (by decide)]
    exact Nat.zero_add _
  · rw [GatherDims.start_batching _ _ _ _ (by decide), GatherDims.offCoord_eq_zero _ _ _ (by decide)]
    unfold GatherDims.batchCoord
    rw [dif_pos (by decide)]
    exact Nat.zero_add _
  · rw [GatherDims.batchCoord_eq_zero _ _ _ (by decide), GatherDims.offCoord_eq_zero _ _ _ (by decide)]
    unfold GatherDims.start
    rw [dif_pos (by decide)]
    refine Eq.trans (b := min (idx (Idealize.ShloMosaic.ix4 n d k 0)).toInt.toNat 4095) ?_ ?_
    · refine congrArg (fun i => min (idx i).toInt.toNat 4095) ?_
      funext b
      match b with
      | ⟨0, _⟩ => rfl
      | ⟨1, _⟩ => rfl
      | ⟨2, _⟩ => rfl
      | ⟨3, _⟩ => rfl
    · rw [h, toInt_word]
      have := p.isLt
      show min p.val 4095 = p.val
      omega

/-- Whether every position read lies inside the row. -/
theorem fold_true {ι : Type} (f : ι → BitVec 1) (h : ∀ i, f i = 1#1) (s : Finset ι) : Finset.fold IntOp.andi 1#1 f s = 1#1 := by
  induction s using Finset.cons_induction with
  | empty => rfl
  | cons a s ha ih =>
    rw [Finset.fold_cons, ih, h]
    rfl

/-- The columns of an array at the selected positions, as the reference takes them. -/
def picked (x : FVec Ideal S64x64x4096 .f32) : FVec Ideal S64x64x64 .f32 :=
  select (Host.reduce IntOp.andi (andi (cmpi .sge (res_main_call4_v5 V0) (broadcastInDim S64x64x64x1 ![] bcast_S_S64x64x64x1 (constantI S_ 32 0#32))) (cmpi .sle (res_main_call4_v5 V0) (broadcastInDim S64x64x64x1 ![0, 1, 2, 3] bcast_S1x1x1x1_S64x64x64x1_0_1_2_3 (broadcastInDim S1x1x1x1 ![3] bcast_S1_S1x1x1x1_3 (constantI S1 32 4095#32))))) (constantI S_ 1 1#1) reducesTo_S64x64x64x1_S64x64x64_d3 h_S_) (Host.gather gather_S64x64x4096_S64x64x64x1_S64x64x64_n_2_01_01_2_3_111 x (res_main_call4_v5 V0)) (broadcastInDim S64x64x64 ![] bcast_S_S64x64x64 (constant S_ .f32 0x7FC00000#32))

/-- What is taken at place `k` is the column at the position picked `k`-th; the range check always holds. -/
theorem picked_apply (x : FVec Ideal S64x64x4096 .f32) (n d k : Fin 64) :
    picked V0 x (Idealize.ShloMosaic.ix3 n d k) = x (Idealize.ShloMosaic.ix3 n d (sel (score (P V0) n) k.val)) := by
  have h : ∀ i : S64x64x64x1.Idx, IntOp.andi (IntOp.cmpi .sge (res_main_call4_v5 V0 i) 0#32) (IntOp.cmpi .sle (res_main_call4_v5 V0 i) 4095#32) = 1#1 := by
    intro i
    obtain ⟨a, b, c, rfl⟩ : ∃ a b c : Fin 64, i = Idealize.ShloMosaic.ix4 a b c 0 := by
      refine ⟨i 0, i 1, i 2, ?_⟩
      funext e
      match e with
      | ⟨0, _⟩ => rfl
      | ⟨1, _⟩ => rfl
      | ⟨2, _⟩ => rfl
      | ⟨3, _⟩ => exact Fin.ext (Nat.lt_one_iff.mp (i 3).isLt)
    rw [at_apply, sge_zero, sle_last]
    rfl
  rw [← gather_apply x (res_main_call4_v5 V0) n d k _ (at_apply V0 n d k)]
  pointwise [picked]
  exact (congrArg (fun b : BitVec 1 => Scalar.select b _ _) (fold_true _ h _)).trans rfl

end Cert.Proof.Reference
end
-- ==== Proof.Reference.Value.lean ====
module

public import proofs.«01_k».proof.Proof.Reference.Select

@[expose] public section
set_option maxRecDepth 16384
noncomputable section

/-! # The reference's value: attention over the gathered columns, and the last projection -/

namespace Cert.Proof.Reference

open Cert.ReferenceIdeal Cert.ReferenceIdeal.Gen Cert.ReferenceIdeal.Value
open Idealize.ShloMosaic Idealize.ShloMosaic.TcCoe Idealize.SL.Sem
open Cert.Proof.Spec Cert.Proof.Pick

variable (V0 : Valuation τ sig (Elt Ideal))

/-- A head's chosen columns of keys, and of values. -/
def keys (n : Fin 64) (k d : Fin 64) : EReal := hk (P V0) n (sel (score (P V0) n) k.val) d
/-- The chosen columns of values. -/
def values (n : Fin 64) (k d : Fin 64) : EReal := hv (P V0) n (sel (score (P V0) n) k.val) d

/-- The similarities are the product of the queries with the chosen keys. -/
theorem v48_eq : res_main_v48 V0 = Host.dotGeneral dot_S64x4096x64_S64x64x64_S64x4096x64_2_2_1_1_0_0 none (transpose S64x4096x64 [0, 2, 1] (res_main_v31 V0) transposes_S64x64x4096_S64x4096x64_0_2_1) (transpose S64x64x64 [0, 2, 1] (picked V0 (res_main_v36 V0)) transposes_S64x64x64_S64x64x64_0_2_1) := rfl

/-- The similarities. -/
theorem v48_apply (n : Fin 64) (l : Fin 4096) (k : Fin 64) :
    res_main_v48 V0 (Idealize.ShloMosaic.ix3 n l k) = (sim (hq (P V0) n l) (keys V0 n) k : EReal) := by
  unfold sim keys
  rw [v48_eq]
  pointwise []
  simp only [picked_apply, v31_apply, v36_apply]

/-- The word for minus infinity is the least extended real. -/
theorem bottom : Ideal.ofBits .f32 0xFF800000#32 = (⊥ : EReal) := by simp [Ideal.ofBits, Ideal.ieee]

/-- A row's greatest entry. -/
theorem greatest_apply (v : FVec Ideal S64x4096x64 .f32) (n : Fin 64) (l : Fin 4096) :
    Host.reduce (FloatOps.maximumf (F := Ideal) (φ := .f32)) v (constant S_ .f32 0xFF800000#32) reducesTo_S64x4096x64_S64x4096_d2 h_S_ (ix2 n l)
      = (top (fun k => v (Idealize.ShloMosaic.ix3 n l k)) : EReal) := by
  unfold top
  rw [Host.reduce_eq_fold]
  refine (Shape.ReducesTo.fold_fiber_r3_a2 reducesTo_S64x4096x64_S64x4096_d2 (ix2 n l) (max : EReal → EReal → EReal) _ v).trans ?_
  refine congrArg (fun b : EReal => Finset.fold max b (fun k => v (Idealize.ShloMosaic.ix3 n l k)) Finset.univ) ?_
  exact bottom

/-- The exponentials of entries less a bound of each row. -/
def exps (v : FVec Ideal S64x4096x64 .f32) (R : FVec Ideal S64x4096 .f32) : FVec Ideal S64x4096x64 .f32 :=
  Host.exp (subf v (broadcastInDim S64x4096x64 ![0, 1, 2] bcast_S64x4096x1_S64x4096x64_0_1_2 (broadcastInDim S64x4096x1 ![0, 1] bcast_S64x4096_S64x4096x1_0_1 (maximumf (broadcastInDim S64x4096 ![] bcast_S_S64x4096 (constant S_ .f32 0xFF800000#32)) R))))

/-- The exponentials at an index. -/
theorem exps_apply (v : FVec Ideal S64x4096x64 .f32) (R : FVec Ideal S64x4096 .f32) (n : Fin 64) (l : Fin 4096) (k : Fin 64) :
    exps v R (Idealize.ShloMosaic.ix3 n l k) = (Ideal.exp (v (Idealize.ShloMosaic.ix3 n l k) - R (ix2 n l)) : EReal) := by
  pointwise [exps]
  rw [show Ideal.ofBits FTy.f32 4286578688#32 = (⊥ : EReal) from bottom, max_eq_right bot_le]

/-- The reference's exponentials are these, each row's bound its greatest entry. -/
theorem v55_eq : res_main_v55 V0 = exps (res_main_v48 V0) (Host.reduce (FloatOps.maximumf (F := Ideal) (φ := .f32)) (res_main_v48 V0) (constant S_ .f32 0xFF800000#32) reducesTo_S64x4096x64_S64x4096_d2 h_S_) := rfl

/-- The exponentials, of the similarities less the greatest. -/
theorem v55_apply (n : Fin 64) (l : Fin 4096) (k : Fin 64) :
    res_main_v55 V0 (Idealize.ShloMosaic.ix3 n l k)
      = (Ideal.exp (sim (hq (P V0) n l) (keys V0 n) k - top (sim (hq (P V0) n l) (keys V0 n))) : EReal) := by
  rw [v55_eq]
  refine (exps_apply (res_main_v48 V0) _ n l k).trans ?_
  rw [greatest_apply (res_main_v48 V0) n l]
  have e : (fun k => res_main_v48 V0 (Idealize.ShloMosaic.ix3 n l k)) = sim (hq (P V0) n l) (keys V0 n) := funext fun k => v48_apply V0 n l k
  exact congrArg (fun f : Fin 64 → EReal => Ideal.exp (f k - top f)) e

/-- The attended values. -/
def attended : FVec Ideal S64x4096x64 .f32 :=
  Host.dotGeneral dot_S64x4096x64_S64x64x64_S64x4096x64_2_1_1_2_0_0 none (Host.divf (res_main_v55 V0) (broadcastInDim S64x4096x64 ![0, 1, 2] bcast_S64x4096x1_S64x4096x64_0_1_2 (broadcastInDim S64x4096x1 ![0, 1] bcast_S64x4096_S64x4096x1_0_1 (Host.reduceAdd (res_main_v55 V0) (constant S_ .f32 0x00000000#32) reducesTo_S64x4096x64_S64x4096_d2 h_S_)))) (transpose S64x64x64 [0, 2, 1] (picked V0 (vals V0)) transposes_S64x64x64_S64x64x64_0_2_1)

/-- The attended values are the described ones. -/
theorem attended_apply (n : Fin 64) (l : Fin 4096) (d : Fin 64) :
    attended V0 (Idealize.ShloMosaic.ix3 n l d) = (head (P V0) n l d : EReal) := by
  unfold head attend
  pointwise [attended]
  simp only [picked_apply, vals_apply, v55_apply]
  rfl

end Cert.Proof.Reference
end
-- ==== Proof.Reference.Result.lean ====
module

public import proofs.«01_k».proof.Proof.Reference.Value

@[expose] public section
set_option maxRecDepth 16384
noncomputable section

/-! # The reference's result: the last projection of the attended values -/

namespace Cert.Proof.Reference

open Cert.ReferenceIdeal Cert.ReferenceIdeal.Gen Cert.ReferenceIdeal.Value
open Idealize.ShloMosaic Idealize.ShloMosaic.TcCoe Idealize.SL.Sem
open Cert.Proof.Spec Cert.Proof.Pick

/-- The last projection, of the heads' values `A`, the weights and the bias. -/
def project (A : FVec Ideal S64x4096x64 .f32) (w : FVec Ideal S64x1024 .f32) (b : FVec Ideal S64 .f32) : FVec Ideal S4x64x4096 .f32 :=
  addf (transpose S4x64x4096 [0, 2, 1] (Host.dotGeneral (φ₂ := .f32) dot_S4x1024x4096_S64x1024_S4x4096x64_1_1_02_0_n_n none (shapeCast _ (transpose S4x16x64x4096 [0, 1, 3, 2] (shapeCast _ A shapeCasts_S64x4096x64_S4x16x4096x64) transposes_S4x16x4096x64_S4x16x64x4096_0_1_3_2) shapeCasts_S4x16x64x4096_S4x1024x4096) w) transposes_S4x4096x64_S4x64x4096_0_2_1) (broadcastInDim S4x64x4096 ![0, 1, 2] bcast_S1x64x1_S4x64x4096_0_1_2 (broadcastInDim S1x64x1 ![1] bcast_S64_S1x64x1_1 b))

/-- A sum over 1024 lanes, by heads. -/
theorem sum_heads (f : Fin 1024 → EReal) : ∑ x, f x = ∑ h : Fin 16, ∑ d : Fin 64, f ⟨64 * h.val + d.val, by omega⟩ := by
  rw [← Fintype.sum_prod_type', ← Equiv.sum_comp (finProdFinEquiv (m := 16) (n := 64))]
  refine Finset.sum_congr rfl fun p _ => congrArg f (Fin.ext ?_)
  show p.2.val + 64 * p.1.val = 64 * p.1.val + p.2.val
  omega

/-- The last projection at an index: over heads and lanes, the weight times the value, and the bias. -/
theorem project_apply (A : FVec Ideal S64x4096x64 .f32) (w : FVec Ideal S64x1024 .f32) (b : FVec Ideal S64 .f32) (i : Fin 4) (o : Fin 64) (l : Fin 4096) :
    project A w b (Idealize.ShloMosaic.ix3 i o l)
      = ((∑ h : Fin 16, ∑ d : Fin 64, w (ix2 o ⟨64 * h.val + d.val, by omega⟩) * A (Idealize.ShloMosaic.ix3 ⟨16 * i.val + h.val, by omega⟩ l d)) + b (ix1 o) : EReal) := by
  pointwise [project]
  rw [sum_heads]
  refine congrArg (fun x : EReal => x + b (ix1 o)) (Finset.sum_congr rfl fun h _ => Finset.sum_congr rfl fun d _ => ?_)
  rw [mul_comm]
  refine congrArg (fun x : EReal => w (ix2 o ⟨64 * h.val + d.val, by omega⟩) * x) (congrArg A ?_)
  refine congrArg₂ (fun (p : Fin 64) (q : Fin 64) => Idealize.ShloMosaic.ix3 p l q) (Fin.ext ?_) (Fin.ext ?_) <;> dsimp only <;> omega

variable (V0 : Valuation τ sig (Elt Ideal))

/-- The reference's result. -/
def result : FVec Ideal S4x64x4096 .f32 :=
  project (attended V0) (V0 (Proc.devRef .tc main_arg4)) (V0 (Proc.devRef .tc main_arg5))

/-- The reference's result is the output of the common description, element by element. -/
theorem result_eq : result V0 = fun y => (out (P V0) (fun o j => V0 (Proc.devRef .tc main_arg4) (ix2 o j)) (fun o => V0 (Proc.devRef .tc main_arg5) (ix1 o)) (y 0) (y 1) (y 2) : EReal) := by
  funext y
  obtain ⟨i, o, l, rfl⟩ : ∃ (i : Fin 4) (o : Fin 64) (l : Fin 4096), y = Idealize.ShloMosaic.ix3 i o l := by
    refine ⟨y 0, y 1, y 2, ?_⟩
    funext e
    match e with
    | ⟨0, _⟩ => rfl
    | ⟨1, _⟩ => rfl
    | ⟨2, _⟩ => rfl
  refine (project_apply _ _ _ i o l).trans ?_
  simp only [attended_apply]
  rfl

end Cert.Proof.Reference
end
-- ==== Proof.lean ====
module

public import proofs.«01_k».proof.Defs
public import proofs.«01_k».proof.Proof.Kernel
public import proofs.«01_k».proof.Proof.Reference.Result
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The result both programs compute, of the six arguments' contents. -/
def value (x0 : FVec Ideal Cert.ReferenceIdeal.S4x1024x4096 .f32) (x1 x2 : FVec Ideal Cert.ReferenceIdeal.S1x1024x1 .f32)
    (x3 : FVec Ideal Cert.ReferenceIdeal.S3072x1024 .f32) (x4 : FVec Ideal Cert.ReferenceIdeal.S64x1024 .f32) (x5 : FVec Ideal Cert.ReferenceIdeal.S64 .f32) :
    FVec Ideal Cert.ReferenceIdeal.S4x64x4096 .f32 := fun y =>
  Spec.out (Reference.cols x0 x1 x2 x3) (fun o j => x4 (ix2 o j)) (fun o => x5 (ix1 o)) (y 0) (y 1) (y 2)

/-- The kernel's result is that value of its arguments. -/
theorem kernel_value (m : (ℓ : Loc Cert.KernelIdeal.nD Cert.KernelIdeal.τ Cert.KernelIdeal.sig) → Buf (Elt Ideal) ℓ) (c : Dev Cert.KernelIdeal.nD) :
    Whole.U5 m c (Proc.devRef .tc Cert.KernelIdeal.main_v7)
      = value (m ((c.tc : Thread Cert.KernelIdeal.nD Cert.KernelIdeal.τ).loc Cert.KernelIdeal.main_arg0)) (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) (m ((c.tc : Thread Cert.KernelIdeal.nD Cert.KernelIdeal.τ).loc Cert.KernelIdeal.main_arg3))
          (m ((c.tc : Thread Cert.KernelIdeal.nD Cert.KernelIdeal.τ).loc Cert.KernelIdeal.main_arg4)) (m ((c.tc : Thread Cert.KernelIdeal.nD Cert.KernelIdeal.τ).loc Cert.KernelIdeal.main_arg5)) := by
  obtain rfl : c = 0 := Subsingleton.elim c 0
  exact Whole.out_eq m

/-- `Cert.quiescent_KernelIdeal` (Defs.lean). -/
theorem frame_kernel : Cert.quiescent_KernelIdeal (hKernelIdeal := Cert.KernelIdeal.Gen.facts) := by
  intro m g _
  exact (θ_run Cert.KernelIdeal.defs _ _).mono
    (fun r h => ⟨fun c => ⟨(h.1 c Cert.KernelIdeal.main_arg0 rfl).trans (Whole.args m c Cert.KernelIdeal.main_arg0 (by simp)),
      (h.1 c Cert.KernelIdeal.main_arg1 rfl).trans (Whole.args m c Cert.KernelIdeal.main_arg1 (by simp)),
      (h.1 c Cert.KernelIdeal.main_arg2 rfl).trans (Whole.args m c Cert.KernelIdeal.main_arg2 (by simp)),
      (h.1 c Cert.KernelIdeal.main_arg3 rfl).trans (Whole.args m c Cert.KernelIdeal.main_arg3 (by simp)),
      (h.1 c Cert.KernelIdeal.main_arg4 rfl).trans (Whole.args m c Cert.KernelIdeal.main_arg4 (by simp)),
      (h.1 c Cert.KernelIdeal.main_arg5 rfl).trans (Whole.args m c Cert.KernelIdeal.main_arg5 (by simp))⟩, h.2⟩)
    (Whole.run m g (Whole.tab_chk m))

/-- `Cert.quiescent_ReferenceIdeal` (Defs.lean); the reference declares no semaphore. -/
theorem frame_reference : Cert.quiescent_ReferenceIdeal (hReferenceIdeal := Cert.ReferenceIdeal.Gen.facts) := fun m g _ =>
  (θ_run Cert.ReferenceIdeal.defs _ _).mono (fun r h => ⟨fun c => (h c).2, Idealize.ShloMosaic.sem_eq_zero_of_no_sems (by decide) r.2⟩)
    (Cert.ReferenceIdeal.Value.run (F := Ideal) m g)

/-- `Cert.algebraic_KernelIdeal_ReferenceIdeal` (Defs.lean): the shared value is `value` of the kernel's arguments. -/
theorem algebraic : Cert.algebraic_KernelIdeal_ReferenceIdeal (hKernelIdeal := Cert.KernelIdeal.Gen.facts) (hReferenceIdeal := Cert.ReferenceIdeal.Gen.facts) := by
  intro m g m' g' _ hagree
  refine ⟨fun c => Whole.U5 m c (Proc.devRef .tc Cert.KernelIdeal.main_v7), ?_, ?_⟩
  · exact (θ_run Cert.KernelIdeal.defs _ _).mono
      (fun r h c => ⟨h.1 c Cert.KernelIdeal.main_v7 rfl, (h.1 c Cert.KernelIdeal.main_arg0 rfl).trans (Whole.args m c Cert.KernelIdeal.main_arg0 (by simp)),
        (h.1 c Cert.KernelIdeal.main_arg1 rfl).trans (Whole.args m c Cert.KernelIdeal.main_arg1 (by simp)),
        (h.1 c Cert.KernelIdeal.main_arg2 rfl).trans (Whole.args m c Cert.KernelIdeal.main_arg2 (by simp)),
        (h.1 c Cert.KernelIdeal.main_arg3 rfl).trans (Whole.args m c Cert.KernelIdeal.main_arg3 (by simp)),
        (h.1 c Cert.KernelIdeal.main_arg4 rfl).trans (Whole.args m c Cert.KernelIdeal.main_arg4 (by simp)),
        (h.1 c Cert.KernelIdeal.main_arg5 rfl).trans (Whole.args m c Cert.KernelIdeal.main_arg5 (by simp))⟩)
      (Whole.run m g (Whole.tab_chk m))
  · refine (θ_run Cert.ReferenceIdeal.defs _ _).mono (fun r h c => ⟨(h c).1.trans ?_, (h c).2⟩) (Cert.ReferenceIdeal.Value.run (F := Ideal) m' g')
    refine Eq.trans (?_ : _ = Reference.result (StableHlo.launchContents m' c)) ?_
    · rfl
    refine (Reference.result_eq _).trans (Eq.trans ?_ (kernel_value m c).symm)
    show value (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) = _
    rw [(hagree c).1, (hagree c).2.1, (hagree c).2.2.1, (hagree c).2.2.2.1, (hagree c).2.2.2.2.1, (hagree c).2.2.2.2.2]

theorem claim : Cert.Claim :=
  ⟨Cert.KernelIdeal.Gen.facts, Cert.ReferenceIdeal.Gen.facts, frame_kernel, frame_reference, algebraic⟩

end Cert.Proof

end
